-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectRefIdeal (m : (ℓ : Loc Cert.ProjectRefIdeal.nD Cert.ProjectRefIdeal.τ Cert.ProjectRefIdeal.sig) → Buf (Elt Ideal) ℓ) : Prop :=
  True

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsRefIdeal (m : (ℓ : Loc Cert.ExpertsRefIdeal.nD Cert.ExpertsRefIdeal.τ Cert.ExpertsRefIdeal.sig) → Buf (Elt Ideal) ℓ) : Prop :=
  True

def Pre_Mixed (m : (ℓ : Loc Cert.Mixed.nD Cert.Mixed.τ Cert.Mixed.sig) → Buf (Elt Bits) ℓ) : Prop :=
  True

def Pre_MixedIdeal (m : (ℓ : Loc Cert.MixedIdeal.nD Cert.MixedIdeal.τ Cert.MixedIdeal.sig) → Buf (Elt Ideal) ℓ) : Prop :=
  True

def Pre_MixedRefIdeal (m : (ℓ : Loc Cert.MixedRefIdeal.nD Cert.MixedRefIdeal.τ Cert.MixedRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4)
      ∧ r.2.mem ((c.tc : Thread Cert.Project.nD Cert.Project.τ).loc Cert.Project.main_arg5) = m ((c.tc : Thread Cert.Project.nD Cert.Project.τ).loc Cert.Project.main_arg5))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5))
      ∧ r.2.sem = fun _ => 0)

def quiescent_ProjectRefIdeal [hProjectRefIdeal : Cert.ProjectRefIdeal.Facts] : Prop :=
  ∀ (m : (ℓ : Loc Cert.ProjectRefIdeal.nD Cert.ProjectRefIdeal.τ Cert.ProjectRefIdeal.sig) → Buf (Elt Ideal) ℓ) (g : Dev Cert.ProjectRefIdeal.nD → PrngReg), Pre_ProjectRefIdeal m →
    θ_run (Cert.ProjectRefIdeal.defs (F := Ideal)) (onTc (τ := Cert.ProjectRefIdeal.τ) (Cert.ProjectRefIdeal.main (F := Ideal))) ⟨m, fun _ => 0, g⟩ (fun r => (∀ c : Dev Cert.ProjectRefIdeal.nD,
      r.2.mem ((c.tc : Thread Cert.ProjectRefIdeal.nD Cert.ProjectRefIdeal.τ).loc Cert.ProjectRefIdeal.main_arg0) = m ((c.tc : Thread Cert.ProjectRefIdeal.nD Cert.ProjectRefIdeal.τ).loc Cert.ProjectRefIdeal.main_arg0)
      ∧ r.2.mem ((c.tc : Thread Cert.ProjectRefIdeal.nD Cert.ProjectRefIdeal.τ).loc Cert.ProjectRefIdeal.main_arg1) = m ((c.tc : Thread Cert.ProjectRefIdeal.nD Cert.ProjectRefIdeal.τ).loc Cert.ProjectRefIdeal.main_arg1)
      ∧ r.2.mem ((c.tc : Thread Cert.ProjectRefIdeal.nD Cert.ProjectRefIdeal.τ).loc Cert.ProjectRefIdeal.main_arg2) = m ((c.tc : Thread Cert.ProjectRefIdeal.nD Cert.ProjectRefIdeal.τ).loc Cert.ProjectRefIdeal.main_arg2)
      ∧ r.2.mem ((c.tc : Thread Cert.ProjectRefIdeal.nD Cert.ProjectRefIdeal.τ).loc Cert.ProjectRefIdeal.main_arg3) = m ((c.tc : Thread Cert.ProjectRefIdeal.nD Cert.ProjectRefIdeal.τ).loc Cert.ProjectRefIdeal.main_arg3)
      ∧ r.2.mem ((c.tc : Thread Cert.ProjectRefIdeal.nD Cert.ProjectRefIdeal.τ).loc Cert.ProjectRefIdeal.main_arg4) = m ((c.tc : Thread Cert.ProjectRefIdeal.nD Cert.ProjectRefIdeal.τ).loc Cert.ProjectRefIdeal.main_arg4)
      ∧ r.2.mem ((c.tc : Thread Cert.ProjectRefIdeal.nD Cert.ProjectRefIdeal.τ).loc Cert.ProjectRefIdeal.main_arg5) = m ((c.tc : Thread Cert.ProjectRefIdeal.nD Cert.ProjectRefIdeal.τ).loc Cert.ProjectRefIdeal.main_arg5))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6))
      ∧ r.2.sem = fun _ => 0)

def quiescent_Mixed [hMixed : Cert.Mixed.Facts] : Prop :=
  ∀ (m : (ℓ : Loc Cert.Mixed.nD Cert.Mixed.τ Cert.Mixed.sig) → Buf (Elt Bits) ℓ) (g : Dev Cert.Mixed.nD → PrngReg), Pre_Mixed m →
    θ_run (Cert.Mixed.defs (F := Bits)) (onTc (τ := Cert.Mixed.τ) (Cert.Mixed.main (F := Bits))) ⟨m, fun _ => 0, g⟩ (fun r => (∀ c : Dev Cert.Mixed.nD,
      r.2.mem ((c.tc : Thread Cert.Mixed.nD Cert.Mixed.τ).loc Cert.Mixed.main_arg0) = m ((c.tc : Thread Cert.Mixed.nD Cert.Mixed.τ).loc Cert.Mixed.main_arg0)
      ∧ r.2.mem ((c.tc : Thread Cert.Mixed.nD Cert.Mixed.τ).loc Cert.Mixed.main_arg1) = m ((c.tc : Thread Cert.Mixed.nD Cert.Mixed.τ).loc Cert.Mixed.main_arg1)
      ∧ r.2.mem ((c.tc : Thread Cert.Mixed.nD Cert.Mixed.τ).loc Cert.Mixed.main_arg2) = m ((c.tc : Thread Cert.Mixed.nD Cert.Mixed.τ).loc Cert.Mixed.main_arg2)
      ∧ r.2.mem ((c.tc : Thread Cert.Mixed.nD Cert.Mixed.τ).loc Cert.Mixed.main_arg3) = m ((c.tc : Thread Cert.Mixed.nD Cert.Mixed.τ).loc Cert.Mixed.main_arg3)
      ∧ r.2.mem ((c.tc : Thread Cert.Mixed.nD Cert.Mixed.τ).loc Cert.Mixed.main_arg4) = m ((c.tc : Thread Cert.Mixed.nD Cert.Mixed.τ).loc Cert.Mixed.main_arg4)
      ∧ r.2.mem ((c.tc : Thread Cert.Mixed.nD Cert.Mixed.τ).loc Cert.Mixed.main_arg5) = m ((c.tc : Thread Cert.Mixed.nD Cert.Mixed.τ).loc Cert.Mixed.main_arg5)
      ∧ r.2.mem ((c.tc : Thread Cert.Mixed.nD Cert.Mixed.τ).loc Cert.Mixed.main_arg6) = m ((c.tc : Thread Cert.Mixed.nD Cert.Mixed.τ).loc Cert.Mixed.main_arg6)
      ∧ r.2.mem ((c.tc : Thread Cert.Mixed.nD Cert.Mixed.τ).loc Cert.Mixed.main_arg7) = m ((c.tc : Thread Cert.Mixed.nD Cert.Mixed.τ).loc Cert.Mixed.main_arg7)
      ∧ r.2.mem ((c.tc : Thread Cert.Mixed.nD Cert.Mixed.τ).loc Cert.Mixed.main_arg8) = m ((c.tc : Thread Cert.Mixed.nD Cert.Mixed.τ).loc Cert.Mixed.main_arg8)
      ∧ r.2.mem ((c.tc : Thread Cert.Mixed.nD Cert.Mixed.τ).loc Cert.Mixed.main_arg9) = m ((c.tc : Thread Cert.Mixed.nD Cert.Mixed.τ).loc Cert.Mixed.main_arg9)
      ∧ r.2.mem ((c.tc : Thread Cert.Mixed.nD Cert.Mixed.τ).loc Cert.Mixed.main_arg10) = m ((c.tc : Thread Cert.Mixed.nD Cert.Mixed.τ).loc Cert.Mixed.main_arg10)
      ∧ r.2.mem ((c.tc : Thread Cert.Mixed.nD Cert.Mixed.τ).loc Cert.Mixed.main_arg11) = m ((c.tc : Thread Cert.Mixed.nD Cert.Mixed.τ).loc Cert.Mixed.main_arg11))
      ∧ r.2.sem = fun _ => 0)

def quiescent_MixedIdeal [hMixedIdeal : Cert.MixedIdeal.Facts] : Prop :=
  ∀ (m : (ℓ : Loc Cert.MixedIdeal.nD Cert.MixedIdeal.τ Cert.MixedIdeal.sig) → Buf (Elt Ideal) ℓ) (g : Dev Cert.MixedIdeal.nD → PrngReg), Pre_MixedIdeal m →
    θ_run (Cert.MixedIdeal.defs (F := Ideal)) (onTc (τ := Cert.MixedIdeal.τ) (Cert.MixedIdeal.main (F := Ideal))) ⟨m, fun _ => 0, g⟩ (fun r => (∀ c : Dev Cert.MixedIdeal.nD,
      r.2.mem ((c.tc : Thread Cert.MixedIdeal.nD Cert.MixedIdeal.τ).loc Cert.MixedIdeal.main_arg0) = m ((c.tc : Thread Cert.MixedIdeal.nD Cert.MixedIdeal.τ).loc Cert.MixedIdeal.main_arg0)
      ∧ r.2.mem ((c.tc : Thread Cert.MixedIdeal.nD Cert.MixedIdeal.τ).loc Cert.MixedIdeal.main_arg1) = m ((c.tc : Thread Cert.MixedIdeal.nD Cert.MixedIdeal.τ).loc Cert.MixedIdeal.main_arg1)
      ∧ r.2.mem ((c.tc : Thread Cert.MixedIdeal.nD Cert.MixedIdeal.τ).loc Cert.MixedIdeal.main_arg2) = m ((c.tc : Thread Cert.MixedIdeal.nD Cert.MixedIdeal.τ).loc Cert.MixedIdeal.main_arg2)
      ∧ r.2.mem ((c.tc : Thread Cert.MixedIdeal.nD Cert.MixedIdeal.τ).loc Cert.MixedIdeal.main_arg3) = m ((c.tc : Thread Cert.MixedIdeal.nD Cert.MixedIdeal.τ).loc Cert.MixedIdeal.main_arg3)
      ∧ r.2.mem ((c.tc : Thread Cert.MixedIdeal.nD Cert.MixedIdeal.τ).loc Cert.MixedIdeal.main_arg4) = m ((c.tc : Thread Cert.MixedIdeal.nD Cert.MixedIdeal.τ).loc Cert.MixedIdeal.main_arg4)
      ∧ r.2.mem ((c.tc : Thread Cert.MixedIdeal.nD Cert.MixedIdeal.τ).loc Cert.MixedIdeal.main_arg5) = m ((c.tc : Thread Cert.MixedIdeal.nD Cert.MixedIdeal.τ).loc Cert.MixedIdeal.main_arg5)
      ∧ r.2.mem ((c.tc : Thread Cert.MixedIdeal.nD Cert.MixedIdeal.τ).loc Cert.MixedIdeal.main_arg6) = m ((c.tc : Thread Cert.MixedIdeal.nD Cert.MixedIdeal.τ).loc Cert.MixedIdeal.main_arg6)
      ∧ r.2.mem ((c.tc : Thread Cert.MixedIdeal.nD Cert.MixedIdeal.τ).loc Cert.MixedIdeal.main_arg7) = m ((c.tc : Thread Cert.MixedIdeal.nD Cert.MixedIdeal.τ).loc Cert.MixedIdeal.main_arg7)
      ∧ r.2.mem ((c.tc : Thread Cert.MixedIdeal.nD Cert.MixedIdeal.τ).loc Cert.MixedIdeal.main_arg8) = m ((c.tc : Thread Cert.MixedIdeal.nD Cert.MixedIdeal.τ).loc Cert.MixedIdeal.main_arg8)
      ∧ r.2.mem ((c.tc : Thread Cert.MixedIdeal.nD Cert.MixedIdeal.τ).loc Cert.MixedIdeal.main_arg9) = m ((c.tc : Thread Cert.MixedIdeal.nD Cert.MixedIdeal.τ).loc Cert.MixedIdeal.main_arg9)
      ∧ r.2.mem ((c.tc : Thread Cert.MixedIdeal.nD Cert.MixedIdeal.τ).loc Cert.MixedIdeal.main_arg10) = m ((c.tc : Thread Cert.MixedIdeal.nD Cert.MixedIdeal.τ).loc Cert.MixedIdeal.main_arg10)
      ∧ r.2.mem ((c.tc : Thread Cert.MixedIdeal.nD Cert.MixedIdeal.τ).loc Cert.MixedIdeal.main_arg11) = m ((c.tc : Thread Cert.MixedIdeal.nD Cert.MixedIdeal.τ).loc Cert.MixedIdeal.main_arg11))
      ∧ r.2.sem = fun _ => 0)

def quiescent_MixedRefIdeal [hMixedRefIdeal : Cert.MixedRefIdeal.Facts] : Prop :=
  ∀ (m : (ℓ : Loc Cert.MixedRefIdeal.nD Cert.MixedRefIdeal.τ Cert.MixedRefIdeal.sig) → Buf (Elt Ideal) ℓ) (g : Dev Cert.MixedRefIdeal.nD → PrngReg), Pre_MixedRefIdeal m →
    θ_run (Cert.MixedRefIdeal.defs (F := Ideal)) (onTc (τ := Cert.MixedRefIdeal.τ) (Cert.MixedRefIdeal.main (F := Ideal))) ⟨m, fun _ => 0, g⟩ (fun r => (∀ c : Dev Cert.MixedRefIdeal.nD,
      r.2.mem ((c.tc : Thread Cert.MixedRefIdeal.nD Cert.MixedRefIdeal.τ).loc Cert.MixedRefIdeal.main_arg0) = m ((c.tc : Thread Cert.MixedRefIdeal.nD Cert.MixedRefIdeal.τ).loc Cert.MixedRefIdeal.main_arg0)
      ∧ r.2.mem ((c.tc : Thread Cert.MixedRefIdeal.nD Cert.MixedRefIdeal.τ).loc Cert.MixedRefIdeal.main_arg1) = m ((c.tc : Thread Cert.MixedRefIdeal.nD Cert.MixedRefIdeal.τ).loc Cert.MixedRefIdeal.main_arg1)
      ∧ r.2.mem ((c.tc : Thread Cert.MixedRefIdeal.nD Cert.MixedRefIdeal.τ).loc Cert.MixedRefIdeal.main_arg2) = m ((c.tc : Thread Cert.MixedRefIdeal.nD Cert.MixedRefIdeal.τ).loc Cert.MixedRefIdeal.main_arg2)
      ∧ r.2.mem ((c.tc : Thread Cert.MixedRefIdeal.nD Cert.MixedRefIdeal.τ).loc Cert.MixedRefIdeal.main_arg3) = m ((c.tc : Thread Cert.MixedRefIdeal.nD Cert.MixedRefIdeal.τ).loc Cert.MixedRefIdeal.main_arg3)
      ∧ r.2.mem ((c.tc : Thread Cert.MixedRefIdeal.nD Cert.MixedRefIdeal.τ).loc Cert.MixedRefIdeal.main_arg4) = m ((c.tc : Thread Cert.MixedRefIdeal.nD Cert.MixedRefIdeal.τ).loc Cert.MixedRefIdeal.main_arg4)
      ∧ r.2.mem ((c.tc : Thread Cert.MixedRefIdeal.nD Cert.MixedRefIdeal.τ).loc Cert.MixedRefIdeal.main_arg5) = m ((c.tc : Thread Cert.MixedRefIdeal.nD Cert.MixedRefIdeal.τ).loc Cert.MixedRefIdeal.main_arg5)
      ∧ r.2.mem ((c.tc : Thread Cert.MixedRefIdeal.nD Cert.MixedRefIdeal.τ).loc Cert.MixedRefIdeal.main_arg6) = m ((c.tc : Thread Cert.MixedRefIdeal.nD Cert.MixedRefIdeal.τ).loc Cert.MixedRefIdeal.main_arg6)
      ∧ r.2.mem ((c.tc : Thread Cert.MixedRefIdeal.nD Cert.MixedRefIdeal.τ).loc Cert.MixedRefIdeal.main_arg7) = m ((c.tc : Thread Cert.MixedRefIdeal.nD Cert.MixedRefIdeal.τ).loc Cert.MixedRefIdeal.main_arg7)
      ∧ r.2.mem ((c.tc : Thread Cert.MixedRefIdeal.nD Cert.MixedRefIdeal.τ).loc Cert.MixedRefIdeal.main_arg8) = m ((c.tc : Thread Cert.MixedRefIdeal.nD Cert.MixedRefIdeal.τ).loc Cert.MixedRefIdeal.main_arg8)
      ∧ r.2.mem ((c.tc : Thread Cert.MixedRefIdeal.nD Cert.MixedRefIdeal.τ).loc Cert.MixedRefIdeal.main_arg9) = m ((c.tc : Thread Cert.MixedRefIdeal.nD Cert.MixedRefIdeal.τ).loc Cert.MixedRefIdeal.main_arg9)
      ∧ r.2.mem ((c.tc : Thread Cert.MixedRefIdeal.nD Cert.MixedRefIdeal.τ).loc Cert.MixedRefIdeal.main_arg10) = m ((c.tc : Thread Cert.MixedRefIdeal.nD Cert.MixedRefIdeal.τ).loc Cert.MixedRefIdeal.main_arg10)
      ∧ r.2.mem ((c.tc : Thread Cert.MixedRefIdeal.nD Cert.MixedRefIdeal.τ).loc Cert.MixedRefIdeal.main_arg11) = m ((c.tc : Thread Cert.MixedRefIdeal.nD Cert.MixedRefIdeal.τ).loc Cert.MixedRefIdeal.main_arg11))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Project_ProjectIdeal : Prop :=
  IdealRules.named_const.Statement Cert.ProjectIdeal.κ "q_scale" .f32 0x3E38AA3B#32 (((8 * (Real.log 2))⁻¹ : ℝ) : EReal)

def algebraic_ProjectIdeal_ProjectRefIdeal [hProjectIdeal : Cert.ProjectIdeal.Facts] [hProjectRefIdeal : Cert.ProjectRefIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectRefIdeal.nD Cert.ProjectRefIdeal.τ Cert.ProjectRefIdeal.sig) → Buf (Elt Ideal) ℓ) (g' : Dev Cert.ProjectRefIdeal.nD → PrngReg), Pre_ProjectIdeal m →
    (∀ c : Dev Cert.ProjectIdeal.nD,
      m' ((c.tc : Thread Cert.ProjectRefIdeal.nD Cert.ProjectRefIdeal.τ).loc Cert.ProjectRefIdeal.main_arg0) = m ((c.tc : Thread Cert.ProjectIdeal.nD Cert.ProjectIdeal.τ).loc Cert.ProjectIdeal.main_arg0)
      ∧ m' ((c.tc : Thread Cert.ProjectRefIdeal.nD Cert.ProjectRefIdeal.τ).loc Cert.ProjectRefIdeal.main_arg1) = m ((c.tc : Thread Cert.ProjectIdeal.nD Cert.ProjectIdeal.τ).loc Cert.ProjectIdeal.main_arg1)
      ∧ m' ((c.tc : Thread Cert.ProjectRefIdeal.nD Cert.ProjectRefIdeal.τ).loc Cert.ProjectRefIdeal.main_arg2) = m ((c.tc : Thread Cert.ProjectIdeal.nD Cert.ProjectIdeal.τ).loc Cert.ProjectIdeal.main_arg2)
      ∧ m' ((c.tc : Thread Cert.ProjectRefIdeal.nD Cert.ProjectRefIdeal.τ).loc Cert.ProjectRefIdeal.main_arg3) = m ((c.tc : Thread Cert.ProjectIdeal.nD Cert.ProjectIdeal.τ).loc Cert.ProjectIdeal.main_arg3)
      ∧ m' ((c.tc : Thread Cert.ProjectRefIdeal.nD Cert.ProjectRefIdeal.τ).loc Cert.ProjectRefIdeal.main_arg4) = m ((c.tc : Thread Cert.ProjectIdeal.nD Cert.ProjectIdeal.τ).loc Cert.ProjectIdeal.main_arg4)
      ∧ m' ((c.tc : Thread Cert.ProjectRefIdeal.nD Cert.ProjectRefIdeal.τ).loc Cert.ProjectRefIdeal.main_arg5) = m ((c.tc : Thread Cert.ProjectIdeal.nD Cert.ProjectIdeal.τ).loc Cert.ProjectIdeal.main_arg5)) →
    ∃ (v0 : (c : Dev Cert.ProjectIdeal.nD) → Buf (Elt Ideal) ((c.tc : Thread Cert.ProjectIdeal.nD Cert.ProjectIdeal.τ).loc Cert.ProjectIdeal.main_v13_0)) (v1 : (c : Dev Cert.ProjectIdeal.nD) → Buf (Elt Ideal) ((c.tc : Thread Cert.ProjectIdeal.nD Cert.ProjectIdeal.τ).loc Cert.ProjectIdeal.main_v13_1)) (v2 : (c : Dev Cert.ProjectIdeal.nD) → Buf (Elt Ideal) ((c.tc : Thread Cert.ProjectIdeal.nD Cert.ProjectIdeal.τ).loc Cert.ProjectIdeal.main_v13_2)) (v3 : (c : Dev Cert.ProjectIdeal.nD) → Buf (Elt Ideal) ((c.tc : Thread Cert.ProjectIdeal.nD Cert.ProjectIdeal.τ).loc Cert.ProjectIdeal.main_v13_3)) (v4 : (c : Dev Cert.ProjectIdeal.nD) → Buf (Elt Ideal) ((c.tc : Thread Cert.ProjectIdeal.nD Cert.ProjectIdeal.τ).loc Cert.ProjectIdeal.main_v13_4)) (v5 : (c : Dev Cert.ProjectIdeal.nD) → Buf (Elt Ideal) ((c.tc : Thread Cert.ProjectIdeal.nD Cert.ProjectIdeal.τ).loc Cert.ProjectIdeal.main_v13_5)) (v6 : (c : Dev Cert.ProjectIdeal.nD) → Buf (Elt Ideal) ((c.tc : Thread Cert.ProjectIdeal.nD Cert.ProjectIdeal.τ).loc Cert.ProjectIdeal.main_v13_6)) (v7 : (c : Dev Cert.ProjectIdeal.nD) → Buf (Elt Ideal) ((c.tc : Thread Cert.ProjectIdeal.nD Cert.ProjectIdeal.τ).loc Cert.ProjectIdeal.main_v13_7)) (v8 : (c : Dev Cert.ProjectIdeal.nD) → Buf (Elt Ideal) ((c.tc : Thread Cert.ProjectIdeal.nD Cert.ProjectIdeal.τ).loc Cert.ProjectIdeal.main_v13_8)) (v9 : (c : Dev Cert.ProjectIdeal.nD) → Buf (Elt Ideal) ((c.tc : Thread Cert.ProjectIdeal.nD Cert.ProjectIdeal.τ).loc Cert.ProjectIdeal.main_v13_9)) (v10 : (c : Dev Cert.ProjectIdeal.nD) → Buf (Elt Ideal) ((c.tc : Thread Cert.ProjectIdeal.nD Cert.ProjectIdeal.τ).loc Cert.ProjectIdeal.main_v13_10)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v13_0) = v0 c
          ∧ r.2.mem ((c.tc : Thread Cert.ProjectIdeal.nD Cert.ProjectIdeal.τ).loc Cert.ProjectIdeal.main_v13_1) = v1 c
          ∧ r.2.mem ((c.tc : Thread Cert.ProjectIdeal.nD Cert.ProjectIdeal.τ).loc Cert.ProjectIdeal.main_v13_2) = v2 c
          ∧ r.2.mem ((c.tc : Thread Cert.ProjectIdeal.nD Cert.ProjectIdeal.τ).loc Cert.ProjectIdeal.main_v13_3) = v3 c
          ∧ r.2.mem ((c.tc : Thread Cert.ProjectIdeal.nD Cert.ProjectIdeal.τ).loc Cert.ProjectIdeal.main_v13_4) = v4 c
          ∧ r.2.mem ((c.tc : Thread Cert.ProjectIdeal.nD Cert.ProjectIdeal.τ).loc Cert.ProjectIdeal.main_v13_5) = v5 c
          ∧ r.2.mem ((c.tc : Thread Cert.ProjectIdeal.nD Cert.ProjectIdeal.τ).loc Cert.ProjectIdeal.main_v13_6) = v6 c
          ∧ r.2.mem ((c.tc : Thread Cert.ProjectIdeal.nD Cert.ProjectIdeal.τ).loc Cert.ProjectIdeal.main_v13_7) = v7 c
          ∧ r.2.mem ((c.tc : Thread Cert.ProjectIdeal.nD Cert.ProjectIdeal.τ).loc Cert.ProjectIdeal.main_v13_8) = v8 c
          ∧ r.2.mem ((c.tc : Thread Cert.ProjectIdeal.nD Cert.ProjectIdeal.τ).loc Cert.ProjectIdeal.main_v13_9) = v9 c
          ∧ r.2.mem ((c.tc : Thread Cert.ProjectIdeal.nD Cert.ProjectIdeal.τ).loc Cert.ProjectIdeal.main_v13_10) = v10 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
          ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5))
      ∧ θ_run (Cert.ProjectRefIdeal.defs (F := Ideal)) (onTc (τ := Cert.ProjectRefIdeal.τ) (Cert.ProjectRefIdeal.main (F := Ideal))) ⟨m', fun _ => 0, g'⟩ (fun r => ∀ c : Dev Cert.ProjectRefIdeal.nD,
          r.2.mem ((c.tc : Thread Cert.ProjectRefIdeal.nD Cert.ProjectRefIdeal.τ).loc Cert.ProjectRefIdeal.main_v42) = v0 c
          ∧ r.2.mem ((c.tc : Thread Cert.ProjectRefIdeal.nD Cert.ProjectRefIdeal.τ).loc Cert.ProjectRefIdeal.main_v43) = v1 c
          ∧ r.2.mem ((c.tc : Thread Cert.ProjectRefIdeal.nD Cert.ProjectRefIdeal.τ).loc Cert.ProjectRefIdeal.main_v44) = v2 c
          ∧ r.2.mem ((c.tc : Thread Cert.ProjectRefIdeal.nD Cert.ProjectRefIdeal.τ).loc Cert.ProjectRefIdeal.main_v50) = v3 c
          ∧ r.2.mem ((c.tc : Thread Cert.ProjectRefIdeal.nD Cert.ProjectRefIdeal.τ).loc Cert.ProjectRefIdeal.main_v51) = v4 c
          ∧ r.2.mem ((c.tc : Thread Cert.ProjectRefIdeal.nD Cert.ProjectRefIdeal.τ).loc Cert.ProjectRefIdeal.main_v52) = v5 c
          ∧ r.2.mem ((c.tc : Thread Cert.ProjectRefIdeal.nD Cert.ProjectRefIdeal.τ).loc Cert.ProjectRefIdeal.main_v25) = v6 c
          ∧ r.2.mem ((c.tc : Thread Cert.ProjectRefIdeal.nD Cert.ProjectRefIdeal.τ).loc Cert.ProjectRefIdeal.main_v26) = v7 c
          ∧ r.2.mem ((c.tc : Thread Cert.ProjectRefIdeal.nD Cert.ProjectRefIdeal.τ).loc Cert.ProjectRefIdeal.main_v29) = v8 c
          ∧ r.2.mem ((c.tc : Thread Cert.ProjectRefIdeal.nD Cert.ProjectRefIdeal.τ).loc Cert.ProjectRefIdeal.main_v30) = v9 c
          ∧ r.2.mem ((c.tc : Thread Cert.ProjectRefIdeal.nD Cert.ProjectRefIdeal.τ).loc Cert.ProjectRefIdeal.main_v53) = v10 c
          ∧ r.2.mem ((c.tc : Thread Cert.ProjectRefIdeal.nD Cert.ProjectRefIdeal.τ).loc Cert.ProjectRefIdeal.main_arg0) = m' ((c.tc : Thread Cert.ProjectRefIdeal.nD Cert.ProjectRefIdeal.τ).loc Cert.ProjectRefIdeal.main_arg0)
          ∧ r.2.mem ((c.tc : Thread Cert.ProjectRefIdeal.nD Cert.ProjectRefIdeal.τ).loc Cert.ProjectRefIdeal.main_arg1) = m' ((c.tc : Thread Cert.ProjectRefIdeal.nD Cert.ProjectRefIdeal.τ).loc Cert.ProjectRefIdeal.main_arg1)
          ∧ r.2.mem ((c.tc : Thread Cert.ProjectRefIdeal.nD Cert.ProjectRefIdeal.τ).loc Cert.ProjectRefIdeal.main_arg2) = m' ((c.tc : Thread Cert.ProjectRefIdeal.nD Cert.ProjectRefIdeal.τ).loc Cert.ProjectRefIdeal.main_arg2)
          ∧ r.2.mem ((c.tc : Thread Cert.ProjectRefIdeal.nD Cert.ProjectRefIdeal.τ).loc Cert.ProjectRefIdeal.main_arg3) = m' ((c.tc : Thread Cert.ProjectRefIdeal.nD Cert.ProjectRefIdeal.τ).loc Cert.ProjectRefIdeal.main_arg3)
          ∧ r.2.mem ((c.tc : Thread Cert.ProjectRefIdeal.nD Cert.ProjectRefIdeal.τ).loc Cert.ProjectRefIdeal.main_arg4) = m' ((c.tc : Thread Cert.ProjectRefIdeal.nD Cert.ProjectRefIdeal.τ).loc Cert.ProjectRefIdeal.main_arg4)
          ∧ r.2.mem ((c.tc : Thread Cert.ProjectRefIdeal.nD Cert.ProjectRefIdeal.τ).loc Cert.ProjectRefIdeal.main_arg5) = m' ((c.tc : Thread Cert.ProjectRefIdeal.nD Cert.ProjectRefIdeal.τ).loc Cert.ProjectRefIdeal.main_arg5))

def preserves_Experts_ExpertsIdeal : Prop :=
  True

def algebraic_ExpertsIdeal_ExpertsRefIdeal [hExpertsIdeal : Cert.ExpertsIdeal.Facts] [hExpertsRefIdeal : Cert.ExpertsRefIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v3)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v3) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v18) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6))

def preserves_Mixed_MixedIdeal : Prop :=
  True

def algebraic_MixedIdeal_MixedRefIdeal [hMixedIdeal : Cert.MixedIdeal.Facts] [hMixedRefIdeal : Cert.MixedRefIdeal.Facts] : Prop :=
  ∀ (m : (ℓ : Loc Cert.MixedIdeal.nD Cert.MixedIdeal.τ Cert.MixedIdeal.sig) → Buf (Elt Ideal) ℓ) (g : Dev Cert.MixedIdeal.nD → PrngReg)
    (m' : (ℓ : Loc Cert.MixedRefIdeal.nD Cert.MixedRefIdeal.τ Cert.MixedRefIdeal.sig) → Buf (Elt Ideal) ℓ) (g' : Dev Cert.MixedRefIdeal.nD → PrngReg), Pre_MixedIdeal m →
    (∀ c : Dev Cert.MixedIdeal.nD,
      m' ((c.tc : Thread Cert.MixedRefIdeal.nD Cert.MixedRefIdeal.τ).loc Cert.MixedRefIdeal.main_arg0) = m ((c.tc : Thread Cert.MixedIdeal.nD Cert.MixedIdeal.τ).loc Cert.MixedIdeal.main_arg0)
      ∧ m' ((c.tc : Thread Cert.MixedRefIdeal.nD Cert.MixedRefIdeal.τ).loc Cert.MixedRefIdeal.main_arg1) = m ((c.tc : Thread Cert.MixedIdeal.nD Cert.MixedIdeal.τ).loc Cert.MixedIdeal.main_arg1)
      ∧ m' ((c.tc : Thread Cert.MixedRefIdeal.nD Cert.MixedRefIdeal.τ).loc Cert.MixedRefIdeal.main_arg2) = m ((c.tc : Thread Cert.MixedIdeal.nD Cert.MixedIdeal.τ).loc Cert.MixedIdeal.main_arg2)
      ∧ m' ((c.tc : Thread Cert.MixedRefIdeal.nD Cert.MixedRefIdeal.τ).loc Cert.MixedRefIdeal.main_arg3) = m ((c.tc : Thread Cert.MixedIdeal.nD Cert.MixedIdeal.τ).loc Cert.MixedIdeal.main_arg3)
      ∧ m' ((c.tc : Thread Cert.MixedRefIdeal.nD Cert.MixedRefIdeal.τ).loc Cert.MixedRefIdeal.main_arg4) = m ((c.tc : Thread Cert.MixedIdeal.nD Cert.MixedIdeal.τ).loc Cert.MixedIdeal.main_arg4)
      ∧ m' ((c.tc : Thread Cert.MixedRefIdeal.nD Cert.MixedRefIdeal.τ).loc Cert.MixedRefIdeal.main_arg5) = m ((c.tc : Thread Cert.MixedIdeal.nD Cert.MixedIdeal.τ).loc Cert.MixedIdeal.main_arg5)
      ∧ m' ((c.tc : Thread Cert.MixedRefIdeal.nD Cert.MixedRefIdeal.τ).loc Cert.MixedRefIdeal.main_arg6) = m ((c.tc : Thread Cert.MixedIdeal.nD Cert.MixedIdeal.τ).loc Cert.MixedIdeal.main_arg6)
      ∧ m' ((c.tc : Thread Cert.MixedRefIdeal.nD Cert.MixedRefIdeal.τ).loc Cert.MixedRefIdeal.main_arg7) = m ((c.tc : Thread Cert.MixedIdeal.nD Cert.MixedIdeal.τ).loc Cert.MixedIdeal.main_arg7)
      ∧ m' ((c.tc : Thread Cert.MixedRefIdeal.nD Cert.MixedRefIdeal.τ).loc Cert.MixedRefIdeal.main_arg8) = m ((c.tc : Thread Cert.MixedIdeal.nD Cert.MixedIdeal.τ).loc Cert.MixedIdeal.main_arg8)
      ∧ m' ((c.tc : Thread Cert.MixedRefIdeal.nD Cert.MixedRefIdeal.τ).loc Cert.MixedRefIdeal.main_arg9) = m ((c.tc : Thread Cert.MixedIdeal.nD Cert.MixedIdeal.τ).loc Cert.MixedIdeal.main_arg9)
      ∧ m' ((c.tc : Thread Cert.MixedRefIdeal.nD Cert.MixedRefIdeal.τ).loc Cert.MixedRefIdeal.main_arg10) = m ((c.tc : Thread Cert.MixedIdeal.nD Cert.MixedIdeal.τ).loc Cert.MixedIdeal.main_arg10)
      ∧ m' ((c.tc : Thread Cert.MixedRefIdeal.nD Cert.MixedRefIdeal.τ).loc Cert.MixedRefIdeal.main_arg11) = m ((c.tc : Thread Cert.MixedIdeal.nD Cert.MixedIdeal.τ).loc Cert.MixedIdeal.main_arg11)) →
    ∃ (v0 : (c : Dev Cert.MixedIdeal.nD) → Buf (Elt Ideal) ((c.tc : Thread Cert.MixedIdeal.nD Cert.MixedIdeal.τ).loc Cert.MixedIdeal.main_v11_0)) (v1 : (c : Dev Cert.MixedIdeal.nD) → Buf (Elt Ideal) ((c.tc : Thread Cert.MixedIdeal.nD Cert.MixedIdeal.τ).loc Cert.MixedIdeal.main_v11_1)),
      θ_run (Cert.MixedIdeal.defs (F := Ideal)) (onTc (τ := Cert.MixedIdeal.τ) (Cert.MixedIdeal.main (F := Ideal))) ⟨m, fun _ => 0, g⟩ (fun r => ∀ c : Dev Cert.MixedIdeal.nD,
          r.2.mem ((c.tc : Thread Cert.MixedIdeal.nD Cert.MixedIdeal.τ).loc Cert.MixedIdeal.main_v11_0) = v0 c
          ∧ r.2.mem ((c.tc : Thread Cert.MixedIdeal.nD Cert.MixedIdeal.τ).loc Cert.MixedIdeal.main_v11_1) = v1 c
          ∧ r.2.mem ((c.tc : Thread Cert.MixedIdeal.nD Cert.MixedIdeal.τ).loc Cert.MixedIdeal.main_arg0) = m ((c.tc : Thread Cert.MixedIdeal.nD Cert.MixedIdeal.τ).loc Cert.MixedIdeal.main_arg0)
          ∧ r.2.mem ((c.tc : Thread Cert.MixedIdeal.nD Cert.MixedIdeal.τ).loc Cert.MixedIdeal.main_arg1) = m ((c.tc : Thread Cert.MixedIdeal.nD Cert.MixedIdeal.τ).loc Cert.MixedIdeal.main_arg1)
          ∧ r.2.mem ((c.tc : Thread Cert.MixedIdeal.nD Cert.MixedIdeal.τ).loc Cert.MixedIdeal.main_arg2) = m ((c.tc : Thread Cert.MixedIdeal.nD Cert.MixedIdeal.τ).loc Cert.MixedIdeal.main_arg2)
          ∧ r.2.mem ((c.tc : Thread Cert.MixedIdeal.nD Cert.MixedIdeal.τ).loc Cert.MixedIdeal.main_arg3) = m ((c.tc : Thread Cert.MixedIdeal.nD Cert.MixedIdeal.τ).loc Cert.MixedIdeal.main_arg3)
          ∧ r.2.mem ((c.tc : Thread Cert.MixedIdeal.nD Cert.MixedIdeal.τ).loc Cert.MixedIdeal.main_arg4) = m ((c.tc : Thread Cert.MixedIdeal.nD Cert.MixedIdeal.τ).loc Cert.MixedIdeal.main_arg4)
          ∧ r.2.mem ((c.tc : Thread Cert.MixedIdeal.nD Cert.MixedIdeal.τ).loc Cert.MixedIdeal.main_arg5) = m ((c.tc : Thread Cert.MixedIdeal.nD Cert.MixedIdeal.τ).loc Cert.MixedIdeal.main_arg5)
          ∧ r.2.mem ((c.tc : Thread Cert.MixedIdeal.nD Cert.MixedIdeal.τ).loc Cert.MixedIdeal.main_arg6) = m ((c.tc : Thread Cert.MixedIdeal.nD Cert.MixedIdeal.τ).loc Cert.MixedIdeal.main_arg6)
          ∧ r.2.mem ((c.tc : Thread Cert.MixedIdeal.nD Cert.MixedIdeal.τ).loc Cert.MixedIdeal.main_arg7) = m ((c.tc : Thread Cert.MixedIdeal.nD Cert.MixedIdeal.τ).loc Cert.MixedIdeal.main_arg7)
          ∧ r.2.mem ((c.tc : Thread Cert.MixedIdeal.nD Cert.MixedIdeal.τ).loc Cert.MixedIdeal.main_arg8) = m ((c.tc : Thread Cert.MixedIdeal.nD Cert.MixedIdeal.τ).loc Cert.MixedIdeal.main_arg8)
          ∧ r.2.mem ((c.tc : Thread Cert.MixedIdeal.nD Cert.MixedIdeal.τ).loc Cert.MixedIdeal.main_arg9) = m ((c.tc : Thread Cert.MixedIdeal.nD Cert.MixedIdeal.τ).loc Cert.MixedIdeal.main_arg9)
          ∧ r.2.mem ((c.tc : Thread Cert.MixedIdeal.nD Cert.MixedIdeal.τ).loc Cert.MixedIdeal.main_arg10) = m ((c.tc : Thread Cert.MixedIdeal.nD Cert.MixedIdeal.τ).loc Cert.MixedIdeal.main_arg10)
          ∧ r.2.mem ((c.tc : Thread Cert.MixedIdeal.nD Cert.MixedIdeal.τ).loc Cert.MixedIdeal.main_arg11) = m ((c.tc : Thread Cert.MixedIdeal.nD Cert.MixedIdeal.τ).loc Cert.MixedIdeal.main_arg11))
      ∧ θ_run (Cert.MixedRefIdeal.defs (F := Ideal)) (onTc (τ := Cert.MixedRefIdeal.τ) (Cert.MixedRefIdeal.main (F := Ideal))) ⟨m', fun _ => 0, g'⟩ (fun r => ∀ c : Dev Cert.MixedRefIdeal.nD,
          r.2.mem ((c.tc : Thread Cert.MixedRefIdeal.nD Cert.MixedRefIdeal.τ).loc Cert.MixedRefIdeal.main_v30) = v0 c
          ∧ r.2.mem ((c.tc : Thread Cert.MixedRefIdeal.nD Cert.MixedRefIdeal.τ).loc Cert.MixedRefIdeal.main_v32) = v1 c
          ∧ r.2.mem ((c.tc : Thread Cert.MixedRefIdeal.nD Cert.MixedRefIdeal.τ).loc Cert.MixedRefIdeal.main_arg0) = m' ((c.tc : Thread Cert.MixedRefIdeal.nD Cert.MixedRefIdeal.τ).loc Cert.MixedRefIdeal.main_arg0)
          ∧ r.2.mem ((c.tc : Thread Cert.MixedRefIdeal.nD Cert.MixedRefIdeal.τ).loc Cert.MixedRefIdeal.main_arg1) = m' ((c.tc : Thread Cert.MixedRefIdeal.nD Cert.MixedRefIdeal.τ).loc Cert.MixedRefIdeal.main_arg1)
          ∧ r.2.mem ((c.tc : Thread Cert.MixedRefIdeal.nD Cert.MixedRefIdeal.τ).loc Cert.MixedRefIdeal.main_arg2) = m' ((c.tc : Thread Cert.MixedRefIdeal.nD Cert.MixedRefIdeal.τ).loc Cert.MixedRefIdeal.main_arg2)
          ∧ r.2.mem ((c.tc : Thread Cert.MixedRefIdeal.nD Cert.MixedRefIdeal.τ).loc Cert.MixedRefIdeal.main_arg3) = m' ((c.tc : Thread Cert.MixedRefIdeal.nD Cert.MixedRefIdeal.τ).loc Cert.MixedRefIdeal.main_arg3)
          ∧ r.2.mem ((c.tc : Thread Cert.MixedRefIdeal.nD Cert.MixedRefIdeal.τ).loc Cert.MixedRefIdeal.main_arg4) = m' ((c.tc : Thread Cert.MixedRefIdeal.nD Cert.MixedRefIdeal.τ).loc Cert.MixedRefIdeal.main_arg4)
          ∧ r.2.mem ((c.tc : Thread Cert.MixedRefIdeal.nD Cert.MixedRefIdeal.τ).loc Cert.MixedRefIdeal.main_arg5) = m' ((c.tc : Thread Cert.MixedRefIdeal.nD Cert.MixedRefIdeal.τ).loc Cert.MixedRefIdeal.main_arg5)
          ∧ r.2.mem ((c.tc : Thread Cert.MixedRefIdeal.nD Cert.MixedRefIdeal.τ).loc Cert.MixedRefIdeal.main_arg6) = m' ((c.tc : Thread Cert.MixedRefIdeal.nD Cert.MixedRefIdeal.τ).loc Cert.MixedRefIdeal.main_arg6)
          ∧ r.2.mem ((c.tc : Thread Cert.MixedRefIdeal.nD Cert.MixedRefIdeal.τ).loc Cert.MixedRefIdeal.main_arg7) = m' ((c.tc : Thread Cert.MixedRefIdeal.nD Cert.MixedRefIdeal.τ).loc Cert.MixedRefIdeal.main_arg7)
          ∧ r.2.mem ((c.tc : Thread Cert.MixedRefIdeal.nD Cert.MixedRefIdeal.τ).loc Cert.MixedRefIdeal.main_arg8) = m' ((c.tc : Thread Cert.MixedRefIdeal.nD Cert.MixedRefIdeal.τ).loc Cert.MixedRefIdeal.main_arg8)
          ∧ r.2.mem ((c.tc : Thread Cert.MixedRefIdeal.nD Cert.MixedRefIdeal.τ).loc Cert.MixedRefIdeal.main_arg9) = m' ((c.tc : Thread Cert.MixedRefIdeal.nD Cert.MixedRefIdeal.τ).loc Cert.MixedRefIdeal.main_arg9)
          ∧ r.2.mem ((c.tc : Thread Cert.MixedRefIdeal.nD Cert.MixedRefIdeal.τ).loc Cert.MixedRefIdeal.main_arg10) = m' ((c.tc : Thread Cert.MixedRefIdeal.nD Cert.MixedRefIdeal.τ).loc Cert.MixedRefIdeal.main_arg10)
          ∧ r.2.mem ((c.tc : Thread Cert.MixedRefIdeal.nD Cert.MixedRefIdeal.τ).loc Cert.MixedRefIdeal.main_arg11) = m' ((c.tc : Thread Cert.MixedRefIdeal.nD Cert.MixedRefIdeal.τ).loc Cert.MixedRefIdeal.main_arg11))

def Claim : Prop :=
  ∃ (hKernel : Cert.Kernel.Facts) (hKernelIdeal : Cert.KernelIdeal.Facts) (hReferenceIdeal : Cert.ReferenceIdeal.Facts) (hProject : Cert.Project.Facts) (hProjectIdeal : Cert.ProjectIdeal.Facts) (hProjectRefIdeal : Cert.ProjectRefIdeal.Facts) (hExperts : Cert.Experts.Facts) (hExpertsIdeal : Cert.ExpertsIdeal.Facts) (hExpertsRefIdeal : Cert.ExpertsRefIdeal.Facts) (hMixed : Cert.Mixed.Facts) (hMixedIdeal : Cert.MixedIdeal.Facts) (hMixedRefIdeal : Cert.MixedRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Project (hProject := hProject)
    ∧ quiescent_ProjectIdeal (hProjectIdeal := hProjectIdeal)
    ∧ quiescent_ProjectRefIdeal (hProjectRefIdeal := hProjectRefIdeal)
    ∧ quiescent_Experts (hExperts := hExperts)
    ∧ quiescent_ExpertsIdeal (hExpertsIdeal := hExpertsIdeal)
    ∧ quiescent_ExpertsRefIdeal (hExpertsRefIdeal := hExpertsRefIdeal)
    ∧ quiescent_Mixed (hMixed := hMixed)
    ∧ quiescent_MixedIdeal (hMixedIdeal := hMixedIdeal)
    ∧ quiescent_MixedRefIdeal (hMixedRefIdeal := hMixedRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Project_ProjectIdeal
    ∧ algebraic_ProjectIdeal_ProjectRefIdeal (hProjectIdeal := hProjectIdeal) (hProjectRefIdeal := hProjectRefIdeal)
    ∧ preserves_Experts_ExpertsIdeal
    ∧ algebraic_ExpertsIdeal_ExpertsRefIdeal (hExpertsIdeal := hExpertsIdeal) (hExpertsRefIdeal := hExpertsRefIdeal)
    ∧ preserves_Mixed_MixedIdeal
    ∧ algebraic_MixedIdeal_MixedRefIdeal (hMixedIdeal := hMixedIdeal) (hMixedRefIdeal := hMixedRefIdeal)
-- ==== Pre_finite.lean ====
abbrev S16896x512 : Shape := ⟨2, ![16896, 512]⟩
abbrev S16x8192 : Shape := ⟨2, ![16, 8192]⟩
abbrev S512 : Shape := ⟨1, ![512]⟩
abbrev S_ : Shape := ⟨0, ![]⟩

class Facts : Prop where
  bitsLt_bf16_f32 : FTy.bits .bf16 < FTy.bits .f32
  bcast_S_S16896x512 : S_.BroadcastsInDim S16896x512 (![] : Fin 0 → Fin S16896x512.rank)
  bcast_S_S16x8192 : S_.BroadcastsInDim S16x8192 (![] : Fin 0 → Fin S16x8192.rank)

variable [Facts]

def fn {F : FTy → Type} [FloatOps F] (main_arg0 : FVec F S16896x512 .bf16) (main_arg1 : FVec F S16896x512 .bf16) (main_arg2 : FVec F S16896x512 .bf16) (main_arg3 : FVec F S16x8192 .f32) (main_arg4 : FVec F S512 .f32) : IVec S16896x512 1 × IVec S16896x512 1 × IVec S16x8192 1 :=
  let main_v0 : FVec F S16896x512 .f32 := (extf .f32 · bitsLt_bf16_f32) main_arg0
  let main_v1 : FVec F S16896x512 .f32 := Host.absf main_v0
  let main_cst : FVec F S_ .f32 := constant S_ .f32 0x7F800000#32
  let main_v2 : FVec F S16896x512 .f32 := broadcastInDim S16896x512 ![] bcast_S_S16896x512 main_cst
  let main_v3 : IVec S16896x512 1 := cmpf .olt main_v1 main_v2
  let main_v4 : FVec F S16896x512 .f32 := (extf .f32 · bitsLt_bf16_f32) main_arg1
  let main_v5 : FVec F S16896x512 .f32 := Host.absf main_v4
  let main_cst_0 : FVec F S_ .f32 := constant S_ .f32 0x7F800000#32
  let main_v6 : FVec F S16896x512 .f32 := broadcastInDim S16896x512 ![] bcast_S_S16896x512 main_cst_0
  let main_v7 : IVec S16896x512 1 := cmpf .olt main_v5 main_v6
  let main_v8 : FVec F S16x8192 .f32 := Host.absf main_arg3
  let main_cst_1 : FVec F S_ .f32 := constant S_ .f32 0x7F800000#32
  let main_v9 : FVec F S16x8192 .f32 := broadcastInDim S16x8192 ![] bcast_S_S16x8192 main_cst_1
  let main_v10 : IVec S16x8192 1 := cmpf .olt main_v8 main_v9
  (main_v3, main_v7, main_v10)
-- ==== Kernel.lean ====
abbrev S16896x512 : Shape := ⟨2, ![16896, 512]⟩
abbrev S16x8192 : Shape := ⟨2, ![16, 8192]⟩
abbrev S512 : Shape := ⟨1, ![512]⟩
abbrev S2x4x2x16x512 : Shape := ⟨5, ![2, 4, 2, 16, 512]⟩
abbrev S4x2x16x2x512 : Shape := ⟨5, ![4, 2, 16, 2, 512]⟩
abbrev S4x2x16x512x2 : Shape := ⟨5, ![4, 2, 16, 512, 2]⟩
abbrev S4x16384x2 : Shape := ⟨3, ![4, 16384, 2]⟩
abbrev S1x512 : Shape := ⟨2, ![1, 512]⟩
abbrev S16384x512 : Shape := ⟨2, ![16384, 512]⟩
abbrev S512x128 : Shape := ⟨2, ![512, 128]⟩
abbrev S8192x128 : Shape := ⟨2, ![8192, 128]⟩
abbrev S1x512x2 : Shape := ⟨3, ![1, 512, 2]⟩
abbrev S1x1x16x2x512 : Shape := ⟨5, ![1, 1, 16, 2, 512]⟩
abbrev S1x128 : Shape := ⟨2, ![1, 128]⟩
abbrev S2x512x128 : Shape := ⟨3, ![2, 512, 128]⟩
abbrev S1x512x128 : Shape := ⟨3, ![1, 512, 128]⟩
abbrev S1x512x1 : Shape := ⟨3, ![1, 512, 1]⟩
abbrev S512x1 : Shape := ⟨2, ![512, 1]⟩
abbrev S1x1x1x2x512 : Shape := ⟨5, ![1, 1, 1, 2, 512]⟩
abbrev S2x512 : Shape := ⟨2, ![2, 512]⟩
abbrev S512x512 : Shape := ⟨2, ![512, 512]⟩

abbrev nBuf : Space → Nat
  | .hbm => 11
  | .vmem => 19
  | .smem => 0
  | _ => 0

abbrev bufTy : (tb : Table) → Fin (tcTables nBuf tb) → BufTy
  | .hbm, ⟨0, _⟩ => ⟨S16896x512, .bf16⟩
  | .hbm, ⟨1, _⟩ => ⟨S16896x512, .bf16⟩
  | .hbm, ⟨2, _⟩ => ⟨S16896x512, .bf16⟩
  | .hbm, ⟨3, _⟩ => ⟨S16x8192, .f32⟩
  | .hbm, ⟨4, _⟩ => ⟨S512, .f32⟩
  | .hbm, ⟨5, _⟩ => ⟨S2x4x2x16x512, .f32⟩
  | .hbm, ⟨6, _⟩ => ⟨S4x2x16x2x512, .f32⟩
  | .hbm, ⟨7, _⟩ => ⟨S4x2x16x512x2, .f32⟩
  | .hbm, ⟨8, _⟩ => ⟨S4x16384x2, .f32⟩
  | .hbm, ⟨9, _⟩ => ⟨S1x512, .f32⟩
  | .hbm, ⟨10, _⟩ => ⟨S16384x512, .bf16⟩
  | .local _ .vmem, ⟨0, _⟩ => ⟨S512x128, .bf16⟩
  | .local _ .vmem, ⟨1, _⟩ => ⟨S512x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S1x512x2, .f32⟩
  | .local _ .vmem, ⟨7, _⟩ => ⟨S1x512x2, .f32⟩
  | .local _ .vmem, ⟨8, _⟩ => ⟨S1x1x16x2x512, .f32⟩
  | .local _ .vmem, ⟨9, _⟩ => ⟨S1x1x16x2x512, .f32⟩
  | .local _ .vmem, ⟨10, _⟩ => ⟨S1x128, .f32⟩
  | .local _ .vmem, ⟨11, _⟩ => ⟨S1x128, .f32⟩
  | .local _ .vmem, ⟨12, _⟩ => ⟨S512x128, .bf16⟩
  | .local _ .vmem, ⟨13, _⟩ => ⟨S512x128, .bf16⟩
  | .local _ .vmem, ⟨14, _⟩ => ⟨S2x512x128, .bf16⟩
  | .local _ .vmem, ⟨15, _⟩ => ⟨S2x512x128, .f32⟩
  | .local _ .vmem, ⟨16, _⟩ => ⟨S2x512x128, .f32⟩
  | .local _ .vmem, ⟨17, _⟩ => ⟨S2x512x128, .f32⟩
  | .local _ .vmem, ⟨18, _⟩ => ⟨S2x512x128, .f32⟩
  | _, _ => ⟨S16896x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 4, 16], ![false, false, false]⟩

@[reducible] def k0_t1_loop (i : grid0.Coords) : Scf.Loop 32 :=
  let c0_i32_30 : BitVec 32 := 0#32
  let arg2 : BitVec 32 := BitVec.ofNat 32 (i 2).val
  let v39 : BitVec 32 := Scalar.subi arg2 c0_i32_30
  let c1_i32 : BitVec 32 := 1#32
  let v41 : BitVec 32 := Scalar.divsi v39 c1_i32
  let v42 : BitVec 32 := Scalar.muli v41 c1_i32
  let v43 : BitVec 32 := Scalar.addi c0_i32_30 v42
  let c1_i32_31 : BitVec 32 := 1#32
  ⟨c0_i32_30, v43, c1_i32_31⟩
def k0_mult1 (i : grid0.Coords) (k0_t1 : Fin (k0_t1_loop i).trips) : BitVec 32 :=
  let c0_i32_30 : BitVec 32 := 0#32
  let c1_i32_31 : BitVec 32 := 1#32
  let arg15 : BitVec 32 := Scf.iv c0_i32_30 c1_i32_31 k0_t1
  let c512_i32_128 : BitVec 32 := 512#32
  let v195 : BitVec 32 := Scalar.muli arg15 c512_i32_128
  v195
def k0_off1 (i : grid0.Coords) (k0_t1 : Fin (k0_t1_loop i).trips) : Fin 5 → Nat :=
  let c0_129 : Index := 0#32
  let c0_130 : Index := 0#32
  let c0_i32_30 : BitVec 32 := 0#32
  let c1_i32_31 : BitVec 32 := 1#32
  let arg15 : BitVec 32 := Scf.iv c0_i32_30 c1_i32_31 k0_t1
  let v197 : Index := Scalar.indexCast arg15
  let c0_131 : Index := 0#32
  let c0_132 : Index := 0#32
  ![0, 0, v197.toNat, 0, 0]
def k0_off2 (i : grid0.Coords) (k0_t1 : Fin (k0_t1_loop i).trips) : Fin 2 → Nat :=
  let c0_i32_30 : BitVec 32 := 0#32
  let c1_i32_31 : BitVec 32 := 1#32
  let arg15 : BitVec 32 := Scf.iv c0_i32_30 c1_i32_31 k0_t1
  let c512_i32_128 : BitVec 32 := 512#32
  let v195 : BitVec 32 := Scalar.muli arg15 c512_i32_128
  let v196 : BitVec 32 := v195
  let v200 : Index := Scalar.indexCast v196
  let c0_133 : Index := 0#32
  ![v200.toNat, 0]
@[reducible] def k0_t2_loop (i : grid0.Coords) : Scf.Loop 32 :=
  let c0_i32_30 : BitVec 32 := 0#32
  let arg2 : BitVec 32 := BitVec.ofNat 32 (i 2).val
  let v39 : BitVec 32 := Scalar.subi arg2 c0_i32_30
  let c1_i32 : BitVec 32 := 1#32
  let v41 : BitVec 32 := Scalar.divsi v39 c1_i32
  let v42 : BitVec 32 := Scalar.muli v41 c1_i32
  let v43 : BitVec 32 := Scalar.addi c0_i32_30 v42
  let v40 : BitVec 32 := Scalar.addi c0_i32_30 v39
  let c1_i32_32 : BitVec 32 := 1#32
  ⟨v43, v40, c1_i32_32⟩
def k0_mult2 (i : grid0.Coords) (k0_t2 : Fin (k0_t2_loop i).trips) : BitVec 32 :=
  let c0_i32_30 : BitVec 32 := 0#32
  let arg2 : BitVec 32 := BitVec.ofNat 32 (i 2).val
  let v39 : BitVec 32 := Scalar.subi arg2 c0_i32_30
  let c1_i32 : BitVec 32 := 1#32
  let v41 : BitVec 32 := Scalar.divsi v39 c1_i32
  let v42 : BitVec 32 := Scalar.muli v41 c1_i32
  let v43 : BitVec 32 := Scalar.addi c0_i32_30 v42
  let c1_i32_32 : BitVec 32 := 1#32
  let arg15 : BitVec 32 := Scf.iv v43 c1_i32_32 k0_t2
  let c512_i32_128 : BitVec 32 := 512#32
  let v195 : BitVec 32 := Scalar.muli arg15 c512_i32_128
  v195
def k0_off3 (i : grid0.Coords) (k0_t2 : Fin (k0_t2_loop i).trips) : Fin 5 → Nat :=
  let c0_129 : Index := 0#32
  let c0_130 : Index := 0#32
  let c0_i32_30 : BitVec 32 := 0#32
  let arg2 : BitVec 32 := BitVec.ofNat 32 (i 2).val
  let v39 : BitVec 32 := Scalar.subi arg2 c0_i32_30
  let c1_i32 : BitVec 32 := 1#32
  let v41 : BitVec 32 := Scalar.divsi v39 c1_i32
  let v42 : BitVec 32 := Scalar.muli v41 c1_i32
  let v43 : BitVec 32 := Scalar.addi c0_i32_30 v42
  let c1_i32_32 : BitVec 32 := 1#32
  let arg15 : BitVec 32 := Scf.iv v43 c1_i32_32 k0_t2
  let v197 : Index := Scalar.indexCast arg15
  let c0_131 : Index := 0#32
  let c0_132 : Index := 0#32
  ![0, 0, v197.toNat, 0, 0]
def k0_off4 (i : grid0.Coords) (k0_t2 : Fin (k0_t2_loop i).trips) : Fin 2 → Nat :=
  let c0_i32_30 : BitVec 32 := 0#32
  let arg2 : BitVec 32 := BitVec.ofNat 32 (i 2).val
  let v39 : BitVec 32 := Scalar.subi arg2 c0_i32_30
  let c1_i32 : BitVec 32 := 1#32
  let v41 : BitVec 32 := Scalar.divsi v39 c1_i32
  let v42 : BitVec 32 := Scalar.muli v41 c1_i32
  let v43 : BitVec 32 := Scalar.addi c0_i32_30 v42
  let c1_i32_32 : BitVec 32 := 1#32
  let arg15 : BitVec 32 := Scf.iv v43 c1_i32_32 k0_t2
  let c512_i32_128 : BitVec 32 := 512#32
  let v195 : BitVec 32 := Scalar.muli arg15 c512_i32_128
  let v196 : BitVec 32 := v195
  let v200 : Index := Scalar.indexCast v196
  let c0_133 : Index := 0#32
  ![v200.toNat, 0]
def k0_mult3 (i : grid0.Coords) : BitVec 32 :=
  let arg2 : BitVec 32 := BitVec.ofNat 32 (i 2).val
  let c512_i32 : BitVec 32 := 512#32
  let v44 : BitVec 32 := Scalar.muli arg2 c512_i32
  v44
def k0_off5 (i : grid0.Coords) : Fin 5 → Nat :=
  let c0_33 : Index := 0#32
  let c0_34 : Index := 0#32
  let arg2 : BitVec 32 := BitVec.ofNat 32 (i 2).val
  let v46 : Index := Scalar.indexCast arg2
  let c0_35 : Index := 0#32
  let c0_36 : Index := 0#32
  ![0, 0, v46.toNat, 0, 0]
def k0_off6 (i : grid0.Coords) : Fin 2 → Nat :=
  let arg2 : BitVec 32 := BitVec.ofNat 32 (i 2).val
  let c512_i32 : BitVec 32 := 512#32
  let v44 : BitVec 32 := Scalar.muli arg2 c512_i32
  let v45 : BitVec 32 := v44
  let v49 : Index := Scalar.indexCast v45
  let c0_37 : Index := 0#32
  ![v49.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![arg1.toNat, v1.toNat, c0_i32.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x16x2x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S16896x512 : Shape := ⟨2, ![16896, 512]⟩
abbrev S16x8192 : Shape := ⟨2, ![16, 8192]⟩
abbrev S512 : Shape := ⟨1, ![512]⟩
abbrev S16384x512 : Shape := ⟨2, ![16384, 512]⟩
abbrev S2x8192x8x64 : Shape := ⟨4, ![2, 8192, 8, 64]⟩
abbrev S2x8x8192 : Shape := ⟨3, ![2, 8, 8192]⟩
abbrev S2x8x8192x8192 : Shape := ⟨4, ![2, 8, 8192, 8192]⟩
abbrev S2x8x8192x1 : Shape := ⟨4, ![2, 8, 8192, 1]⟩
abbrev S2x8x1x8192 : Shape := ⟨4, ![2, 8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S2x8x64x8192 : Shape := ⟨4, ![2, 8, 64, 8192]⟩
abbrev S2x8192x8 : Shape := ⟨3, ![2, 8192, 8]⟩
abbrev S2x8192x8x1 : Shape := ⟨4, ![2, 8192, 8, 1]⟩
abbrev S8x64 : Shape := ⟨2, ![8, 64]⟩
abbrev S1x1x8x64 : Shape := ⟨4, ![1, 1, 8, 64]⟩

abbrev nBuf : Space → Nat
  | .hbm => 72
  | .vmem => 0
  | .smem => 0
  | _ => 0

abbrev bufTy : (tb : Table) → Fin (tcTables nBuf tb) → BufTy
  | .hbm, ⟨0, _⟩ => ⟨S16896x512, .bf16⟩
  | .hbm, ⟨1, _⟩ => ⟨S16896x512, .bf16⟩
  | .hbm, ⟨2, _⟩ => ⟨S16896x512, .bf16⟩
  | .hbm, ⟨3, _⟩ => ⟨S16x8192, .f32⟩
  | .hbm, ⟨4, _⟩ => ⟨S512, .f32⟩
  | .hbm, ⟨5, _⟩ => ⟨S16384x512, .bf16⟩
  | .hbm, ⟨6, _⟩ => ⟨S16384x512, .f32⟩
  | .hbm, ⟨7, _⟩ => ⟨S2x8192x8x64, .f32⟩
  | .hbm, ⟨8, _⟩ => ⟨S16384x512, .bf16⟩
  | .hbm, ⟨9, _⟩ => ⟨S16384x512, .f32⟩
  | .hbm, ⟨10, _⟩ => ⟨S2x8192x8x64, .f32⟩
  | .hbm, ⟨11, _⟩ => ⟨S16384x512, .bf16⟩
  | .hbm, ⟨12, _⟩ => ⟨S16384x512, .f32⟩
  | .hbm, ⟨13, _⟩ => ⟨S2x8192x8x64, .f32⟩
  | .hbm, ⟨14, _⟩ => ⟨S2x8x8192, .f32⟩
  | .hbm, ⟨15, _⟩ => ⟨S2x8x8192x8192, .f32⟩
  | .hbm, ⟨16, _⟩ => ⟨S2x8x8192x1, .f32⟩
  | .hbm, ⟨17, _⟩ => ⟨S2x8x8192x8192, .f32⟩
  | .hbm, ⟨18, _⟩ => ⟨S2x8x8192x8192, .f32⟩
  | .hbm, ⟨19, _⟩ => ⟨S2x8x1x8192, .f32⟩
  | .hbm, ⟨20, _⟩ => ⟨S2x8x8192x8192, .f32⟩
  | .hbm, ⟨21, _⟩ => ⟨S2x8x8192x8192, .f32⟩
  | .hbm, ⟨22, _⟩ => ⟨S8192, .i32⟩
  | .hbm, ⟨23, _⟩ => ⟨S1x8192, .i32⟩
  | .hbm, ⟨24, _⟩ => ⟨S8192x1, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S_, .f32⟩
  | .hbm, ⟨29, _⟩ => ⟨S_, .f32⟩
  | .hbm, ⟨30, _⟩ => ⟨S2x8x8192x8192, .i1⟩
  | .hbm, ⟨31, _⟩ => ⟨S2x8x8192x8192, .f32⟩
  | .hbm, ⟨32, _⟩ => ⟨S2x8x8192x8192, .f32⟩
  | .hbm, ⟨33, _⟩ => ⟨S_, .f32⟩
  | .hbm, ⟨34, _⟩ => ⟨S_, .f32⟩
  | .hbm, ⟨35, _⟩ => ⟨S2x8x8192x8192, .f32⟩
  | .hbm, ⟨36, _⟩ => ⟨S2x8x8192x8192, .f32⟩
  | .hbm, ⟨37, _⟩ => ⟨S_, .f32⟩
  | .hbm, ⟨38, _⟩ => ⟨S2x8x8192, .f32⟩
  | .hbm, ⟨39, _⟩ => ⟨S_, .f32⟩
  | .hbm, ⟨40, _⟩ => ⟨S2x8x8192, .f32⟩
  | .hbm, ⟨41, _⟩ => ⟨S2x8x8192, .f32⟩
  | .hbm, ⟨42, _⟩ => ⟨S2x8x8192x1, .f32⟩
  | .hbm, ⟨43, _⟩ => ⟨S2x8x8192x8192, .f32⟩
  | .hbm, ⟨44, _⟩ => ⟨S2x8x8192x8192, .f32⟩
  | .hbm, ⟨45, _⟩ => ⟨S2x8x8192x8192, .f32⟩
  | .hbm, ⟨46, _⟩ => ⟨S_, .f32⟩
  | .hbm, ⟨47, _⟩ => ⟨S2x8x8192, .f32⟩
  | .hbm, ⟨48, _⟩ => ⟨S2x8x8192x1, .f32⟩
  | .hbm, ⟨49, _⟩ => ⟨S2x8x8192x8192, .f32⟩
  | .hbm, ⟨50, _⟩ => ⟨S2x8x8192x8192, .f32⟩
  | .hbm, ⟨51, _⟩ => ⟨S2x8x64x8192, .f32⟩
  | .hbm, ⟨52, _⟩ => ⟨S2x8192x8x64, .f32⟩
  | .hbm, ⟨53, _⟩ => ⟨S2x8192x8x64, .f32⟩
  | .hbm, ⟨54, _⟩ => ⟨S_, .f32⟩
  | .hbm, ⟨55, _⟩ => ⟨S2x8192x8, .f32⟩
  | .hbm, ⟨56, _⟩ => ⟨S2x8192x8x1, .f32⟩
  | .hbm, ⟨57, _⟩ => ⟨S_, .f32⟩
  | .hbm, ⟨58, _⟩ => ⟨S2x8192x8x1, .f32⟩
  | .hbm, ⟨59, _⟩ => ⟨S2x8192x8x1, .f32⟩
  | .hbm, ⟨60, _⟩ => ⟨S_, .f32⟩
  | .hbm, ⟨61, _⟩ => ⟨S2x8192x8x1, .f32⟩
  | .hbm, ⟨62, _⟩ => ⟨S2x8192x8x1, .f32⟩
  | .hbm, ⟨63, _⟩ => ⟨S2x8192x8x1, .f32⟩
  | .hbm, ⟨64, _⟩ => ⟨S2x8192x8x64, .f32⟩
  | .hbm, ⟨65, _⟩ => ⟨S2x8192x8x64, .f32⟩
  | .hbm, ⟨66, _⟩ => ⟨S8x64, .f32⟩
  | .hbm, ⟨67, _⟩ => ⟨S1x1x8x64, .f32⟩
  | .hbm, ⟨68, _⟩ => ⟨S2x8192x8x64, .f32⟩
  | .hbm, ⟨69, _⟩ => ⟨S2x8192x8x64, .f32⟩
  | .hbm, ⟨70, _⟩ => ⟨S16384x512, .f32⟩
  | .hbm, ⟨71, _⟩ => ⟨S16384x512, .bf16⟩
  | _, _ => ⟨S16896x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v23 : Ref sig .tc := ⟨.hbm, 32, rfl⟩
abbrev main_cst_0 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_1 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_4 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_cst_6 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩

abbrev nD : Nat := 1
abbrev τ : Topo := Topo.v7x

variable {F : FTy → Type} [FloatOps F]
-- ==== Project.lean ====
abbrev S16896x1024 : Shape := ⟨2, ![16896, 1024]⟩
abbrev S264x1024 : Shape := ⟨2, ![264, 1024]⟩
abbrev S1024 : Shape := ⟨1, ![1024]⟩
abbrev S1024x3080 : Shape := ⟨2, ![1024, 3080]⟩
abbrev S8 : Shape := ⟨1, ![8]⟩
abbrev S1024x512 : Shape := ⟨2, ![1024, 512]⟩
abbrev S1024x8 : Shape := ⟨2, ![1024, 8]⟩
abbrev S_ : Shape := ⟨0, ![]⟩
abbrev S1024x128 : Shape := ⟨2, ![1024, 128]⟩
abbrev S1024x3200 : Shape := ⟨2, ![1024, 3200]⟩
abbrev S128 : Shape := ⟨1, ![128]⟩
abbrev S1x128 : Shape := ⟨2, ![1, 128]⟩
abbrev S1x1024 : Shape := ⟨2, ![1, 1024]⟩
abbrev S16896x512 : Shape := ⟨2, ![16896, 512]⟩
abbrev S16896x128 : Shape := ⟨2, ![16896, 128]⟩
abbrev S512x1024 : Shape := ⟨2, ![512, 1024]⟩
abbrev S8x1024 : Shape := ⟨2, ![8, 1024]⟩
abbrev S512x512 : Shape := ⟨2, ![512, 512]⟩
abbrev S512x128 : Shape := ⟨2, ![512, 128]⟩
abbrev S64x1024 : Shape := ⟨2, ![64, 1024]⟩
abbrev S64 : Shape := ⟨1, ![64]⟩
abbrev S64x1 : Shape := ⟨2, ![64, 1]⟩

abbrev nBuf : Space → Nat
  | .hbm => 34
  | .vmem => 32
  | .smem => 0
  | _ => 0

abbrev bufTy : (tb : Table) → Fin (tcTables nBuf tb) → BufTy
  | .hbm, ⟨0, _⟩ => ⟨S16896x1024, .f32⟩
  | .hbm, ⟨1, _⟩ => ⟨S264x1024, .f32⟩
  | .hbm, ⟨2, _⟩ => ⟨S264x1024, .f32⟩
  | .hbm, ⟨3, _⟩ => ⟨S1024, .f32⟩
  | .hbm, ⟨4, _⟩ => ⟨S1024x3080, .f32⟩
  | .hbm, ⟨5, _⟩ => ⟨S8, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x8, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S1024x3200, .f32⟩
  | .hbm, ⟨17, _⟩ => ⟨S1024x3200, .bf16⟩
  | .hbm, ⟨18, _⟩ => ⟨S_, .i32⟩
  | .hbm, ⟨19, _⟩ => ⟨S_, .f32⟩
  | .hbm, ⟨20, _⟩ => ⟨S128, .f32⟩
  | .hbm, ⟨21, _⟩ => ⟨S1x128, .f32⟩
  | .hbm, ⟨22, _⟩ => ⟨S1x1024, .f32⟩
  | .hbm, ⟨23, _⟩ => ⟨S16896x512, .bf16⟩
  | .hbm, ⟨24, _⟩ => ⟨S16896x512, .bf16⟩
  | .hbm, ⟨25, _⟩ => ⟨S16896x512, .bf16⟩
  | .hbm, ⟨26, _⟩ => ⟨S16896x512, .bf16⟩
  | .hbm, ⟨27, _⟩ => ⟨S16896x512, .bf16⟩
  | .hbm, ⟨28, _⟩ => ⟨S16896x512, .bf16⟩
  | .hbm, ⟨29, _⟩ => ⟨S16896x512, .f32⟩
  | .hbm, ⟨30, _⟩ => ⟨S16896x512, .f32⟩
  | .hbm, ⟨31, _⟩ => ⟨S16896x512, .f32⟩
  | .hbm, ⟨32, _⟩ => ⟨S16896x512, .f32⟩
  | .hbm, ⟨33, _⟩ => ⟨S16896x128, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S1024x3200, .bf16⟩
  | .local _ .vmem, ⟨8, _⟩ => ⟨S1x128, .f32⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S512x512, .f32⟩
  | .local _ .vmem, ⟨29, _⟩ => ⟨S512x128, .f32⟩
  | .local _ .vmem, ⟨30, _⟩ => ⟨S512x128, .f32⟩
  | .local _ .vmem, ⟨31, _⟩ => ⟨S512x1024, .bf16⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_call0_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_call1_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v13_2 : Ref sig .tc := ⟨.hbm, 25, rfl⟩
abbrev main_v13_3 : Ref sig .tc := ⟨.hbm, 26, rfl⟩
abbrev main_v13_4 : Ref sig .tc := ⟨.hbm, 27, rfl⟩
abbrev main_v13_5 : Ref sig .tc := ⟨.hbm, 28, rfl⟩
abbrev main_v13_6 : Ref sig .tc := ⟨.hbm, 29, rfl⟩
abbrev main_v13_7 : Ref sig .tc := ⟨.hbm, 30, rfl⟩
abbrev main_v13_8 : Ref sig .tc := ⟨.hbm, 31, rfl⟩
abbrev main_v13_9 : Ref sig .tc := ⟨.hbm, 32, rfl⟩
abbrev main_v13_10 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_scratch0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3200 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ProjectIdeal.lean ====
variable {F : FTy → Type} [FloatOps F] [Named F]
def κ : String → Option EReal := fun
  | "q_scale" => some (((8 * (Real.log 2))⁻¹ : ℝ) : EReal)
  | _ => none
-- ==== ProjectRefIdeal.lean ====
abbrev S16896x1024 : Shape := ⟨2, ![16896, 1024]⟩
abbrev S264x1024 : Shape := ⟨2, ![264, 1024]⟩
abbrev S1024 : Shape := ⟨1, ![1024]⟩
abbrev S1024x3080 : Shape := ⟨2, ![1024, 3080]⟩
abbrev S8 : Shape := ⟨1, ![8]⟩
abbrev S264x64x1024 : Shape := ⟨3, ![264, 64, 1024]⟩
abbrev S_ : Shape := ⟨0, ![]⟩
abbrev S264x64 : Shape := ⟨2, ![264, 64]⟩
abbrev S264x64x1 : Shape := ⟨3, ![264, 64, 1]⟩
abbrev S1x1x1024 : Shape := ⟨3, ![1, 1, 1024]⟩
abbrev S264x1x1024 : Shape := ⟨3, ![264, 1, 1024]⟩
abbrev S16896x3080 : Shape := ⟨2, ![16896, 3080]⟩
abbrev S16896x512 : Shape := ⟨2, ![16896, 512]⟩
abbrev S16896x8 : Shape := ⟨2, ![16896, 8]⟩
abbrev S1x8 : Shape := ⟨2, ![1, 8]⟩
abbrev S16896x120 : Shape := ⟨2, ![16896, 120]⟩
abbrev S16896x128 : Shape := ⟨2, ![16896, 128]⟩

abbrev nBuf : Space → Nat
  | .hbm => 96
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S264x1024, .f32⟩
  | .hbm, ⟨2, _⟩ => ⟨S264x1024, .f32⟩
  | .hbm, ⟨3, _⟩ => ⟨S1024, .f32⟩
  | .hbm, ⟨4, _⟩ => ⟨S1024x3080, .f32⟩
  | .hbm, ⟨5, _⟩ => ⟨S8, .f32⟩
  | .hbm, ⟨6, _⟩ => ⟨S264x64x1024, .f32⟩
  | .hbm, ⟨7, _⟩ => ⟨S264x64x1024, .f32⟩
  | .hbm, ⟨8, _⟩ => ⟨S_, .f32⟩
  | .hbm, ⟨9, _⟩ => ⟨S264x64, .f32⟩
  | .hbm, ⟨10, _⟩ => ⟨S264x64x1, .f32⟩
  | .hbm, ⟨11, _⟩ => ⟨S_, .f32⟩
  | .hbm, ⟨12, _⟩ => ⟨S264x64x1, .f32⟩
  | .hbm, ⟨13, _⟩ => ⟨S264x64x1, .f32⟩
  | .hbm, ⟨14, _⟩ => ⟨S_, .f32⟩
  | .hbm, ⟨15, _⟩ => ⟨S264x64x1, .f32⟩
  | .hbm, ⟨16, _⟩ => ⟨S264x64x1, .f32⟩
  | .hbm, ⟨17, _⟩ => ⟨S264x64x1, .f32⟩
  | .hbm, ⟨18, _⟩ => ⟨S264x64x1024, .f32⟩
  | .hbm, ⟨19, _⟩ => ⟨S264x64x1024, .f32⟩
  | .hbm, ⟨20, _⟩ => ⟨S1x1x1024, .f32⟩
  | .hbm, ⟨21, _⟩ => ⟨S264x64x1024, .f32⟩
  | .hbm, ⟨22, _⟩ => ⟨S264x64x1024, .f32⟩
  | .hbm, ⟨23, _⟩ => ⟨S264x1x1024, .f32⟩
  | .hbm, ⟨24, _⟩ => ⟨S_, .f32⟩
  | .hbm, ⟨25, _⟩ => ⟨S264x1x1024, .f32⟩
  | .hbm, ⟨26, _⟩ => ⟨S264x1x1024, .f32⟩
  | .hbm, ⟨27, _⟩ => ⟨S264x64x1024, .f32⟩
  | .hbm, ⟨28, _⟩ => ⟨S264x64x1024, .f32⟩
  | .hbm, ⟨29, _⟩ => ⟨S264x1x1024, .f32⟩
  | .hbm, ⟨30, _⟩ => ⟨S264x64x1024, .f32⟩
  | .hbm, ⟨31, _⟩ => ⟨S264x64x1024, .f32⟩
  | .hbm, ⟨32, _⟩ => ⟨S16896x1024, .f32⟩
  | .hbm, ⟨33, _⟩ => ⟨S16896x3080, .f32⟩
  | .hbm, ⟨34, _⟩ => ⟨S16896x512, .f32⟩
  | .hbm, ⟨35, _⟩ => ⟨S16896x512, .f32⟩
  | .hbm, ⟨36, _⟩ => ⟨S16896x512, .f32⟩
  | .hbm, ⟨37, _⟩ => ⟨S16896x8, .f32⟩
  | .hbm, ⟨38, _⟩ => ⟨S16896x512, .f32⟩
  | .hbm, ⟨39, _⟩ => ⟨S16896x512, .f32⟩
  | .hbm, ⟨40, _⟩ => ⟨S16896x512, .f32⟩
  | .hbm, ⟨41, _⟩ => ⟨S1x8, .f32⟩
  | .hbm, ⟨42, _⟩ => ⟨S16896x8, .f32⟩
  | .hbm, ⟨43, _⟩ => ⟨S16896x8, .f32⟩
  | .hbm, ⟨44, _⟩ => ⟨S16896x8, .f32⟩
  | .hbm, ⟨45, _⟩ => ⟨S_, .f32⟩
  | .hbm, ⟨46, _⟩ => ⟨S16896x8, .f32⟩
  | .hbm, ⟨47, _⟩ => ⟨S16896x8, .f32⟩
  | .hbm, ⟨48, _⟩ => ⟨S16896x8, .f32⟩
  | .hbm, ⟨49, _⟩ => ⟨S16896x8, .f32⟩
  | .hbm, ⟨50, _⟩ => ⟨S16896x8, .i1⟩
  | .hbm, ⟨51, _⟩ => ⟨S16896x8, .f32⟩
  | .hbm, ⟨52, _⟩ => ⟨S16896x8, .f32⟩
  | .hbm, ⟨53, _⟩ => ⟨S16896x8, .f32⟩
  | .hbm, ⟨54, _⟩ => ⟨S16896x8, .f32⟩
  | .hbm, ⟨55, _⟩ => ⟨S16896x8, .f32⟩
  | .hbm, ⟨56, _⟩ => ⟨S16896x8, .f32⟩
  | .hbm, ⟨57, _⟩ => ⟨S16896x8, .f32⟩
  | .hbm, ⟨58, _⟩ => ⟨S16896x8, .f32⟩
  | .hbm, ⟨59, _⟩ => ⟨S16896x8, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .i1⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S16896x120, .f32⟩
  | .hbm, ⟨75, _⟩ => ⟨S_, .f32⟩
  | .hbm, ⟨76, _⟩ => ⟨S16896x512, .f32⟩
  | .hbm, ⟨77, _⟩ => ⟨S16896x512, .f32⟩
  | .hbm, ⟨78, _⟩ => ⟨S_, .f32⟩
  | .hbm, ⟨79, _⟩ => ⟨S_, .f32⟩
  | .hbm, ⟨80, _⟩ => ⟨S16896x512, .f32⟩
  | .hbm, ⟨81, _⟩ => ⟨S16896x512, .f32⟩
  | .hbm, ⟨82, _⟩ => ⟨S16896x512, .bf16⟩
  | .hbm, ⟨83, _⟩ => ⟨S16896x512, .bf16⟩
  | .hbm, ⟨84, _⟩ => ⟨S16896x512, .bf16⟩
  | .hbm, ⟨85, _⟩ => ⟨S_, .f32⟩
  | .hbm, ⟨86, _⟩ => ⟨S16896x512, .f32⟩
  | .hbm, ⟨87, _⟩ => ⟨S16896x512, .f32⟩
  | .hbm, ⟨88, _⟩ => ⟨S_, .f32⟩
  | .hbm, ⟨89, _⟩ => ⟨S_, .f32⟩
  | .hbm, ⟨90, _⟩ => ⟨S16896x512, .f32⟩
  | .hbm, ⟨91, _⟩ => ⟨S16896x512, .f32⟩
  | .hbm, ⟨92, _⟩ => ⟨S16896x512, .bf16⟩
  | .hbm, ⟨93, _⟩ => ⟨S16896x512, .bf16⟩
  | .hbm, ⟨94, _⟩ => ⟨S16896x512, .bf16⟩
  | .hbm, ⟨95, _⟩ => ⟨S16896x128, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_call0_v0 : Ref sig .tc := ⟨.hbm, 44, rfl⟩
abbrev main_call0_call0_cst : Ref sig .tc := ⟨.hbm, 45, rfl⟩
abbrev main_call0_call0_v0 : Ref sig .tc := ⟨.hbm, 46, rfl⟩
abbrev main_call0_call0_v1 : Ref sig .tc := ⟨.hbm, 47, rfl⟩
abbrev main_call0_call0_v2 : Ref sig .tc := ⟨.hbm, 48, rfl⟩
abbrev main_call0_call0_v3 : Ref sig .tc := ⟨.hbm, 49, rfl⟩
abbrev main_call0_call0_v4 : Ref sig .tc := ⟨.hbm, 50, rfl⟩
abbrev main_call0_call0_v5 : Ref sig .tc := ⟨.hbm, 51, rfl⟩
abbrev main_call0_call0_v6 : Ref sig .tc := ⟨.hbm, 52, rfl⟩
abbrev main_call0_call0_v7 : Ref sig .tc := ⟨.hbm, 53, rfl⟩
abbrev main_call0_call0_v8 : Ref sig .tc := ⟨.hbm, 54, rfl⟩
abbrev main_call0_call0_v9 : Ref sig .tc := ⟨.hbm, 55, rfl⟩
abbrev main_call0_call0_v10 : Ref sig .tc := ⟨.hbm, 56, rfl⟩
abbrev main_call0_call0_v11 : Ref sig .tc := ⟨.hbm, 57, rfl⟩
abbrev main_call0_v1 : Ref sig .tc := ⟨.hbm, 58, rfl⟩
abbrev main_v34 : Ref sig .tc := ⟨.hbm, 59, rfl⟩
abbrev main_cst_3 : Ref sig .tc := ⟨.hbm, 60, rfl⟩
abbrev main_call1_v0 : Ref sig .tc := ⟨.hbm, 61, rfl⟩
abbrev main_call1_call0_cst : Ref sig .tc := ⟨.hbm, 62, rfl⟩
abbrev main_call1_call0_v0 : Ref sig .tc := ⟨.hbm, 63, rfl⟩
abbrev main_call1_call0_v1 : Ref sig .tc := ⟨.hbm, 64, rfl⟩
abbrev main_call1_call0_v2 : Ref sig .tc := ⟨.hbm, 65, rfl⟩
abbrev main_call1_call0_v3 : Ref sig .tc := ⟨.hbm, 66, rfl⟩
abbrev main_call1_call0_v4 : Ref sig .tc := ⟨.hbm, 67, rfl⟩
abbrev main_call1_call0_v5 : Ref sig .tc := ⟨.hbm, 68, rfl⟩
abbrev main_call1_call0_v6 : Ref sig .tc := ⟨.hbm, 69, rfl⟩
abbrev main_call1_call0_v7 : Ref sig .tc := ⟨.hbm, 70, rfl⟩
abbrev main_call1_call0_v8 : Ref sig .tc := ⟨.hbm, 71, rfl⟩
abbrev main_call1_v1 : Ref sig .tc := ⟨.hbm, 72, rfl⟩
abbrev main_v35 : Ref sig .tc := ⟨.hbm, 73, rfl⟩
abbrev main_v36 : Ref sig .tc := ⟨.hbm, 74, rfl⟩
abbrev main_cst_4 : Ref sig .tc := ⟨.hbm, 75, rfl⟩
abbrev main_v37 : Ref sig .tc := ⟨.hbm, 76, rfl⟩
abbrev main_v38 : Ref sig .tc := ⟨.hbm, 77, rfl⟩
abbrev main_cst_5 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_cst_6 : Ref sig .tc := ⟨.hbm, 85, rfl⟩
abbrev main_v45 : Ref sig .tc := ⟨.hbm, 86, rfl⟩
abbrev main_v46 : Ref sig .tc := ⟨.hbm, 87, rfl⟩
abbrev main_cst_7 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩

abbrev nD : Nat := 1
abbrev τ : Topo := Topo.v7x

variable {F : FTy → Type} [FloatOps F]
-- ==== Experts.lean ====
abbrev S16896x1024 : Shape := ⟨2, ![16896, 1024]⟩
abbrev S32x1024x256 : Shape := ⟨3, ![32, 1024, 256]⟩
abbrev S32x256x1024 : Shape := ⟨3, ![32, 256, 1024]⟩
abbrev S16896x128 : Shape := ⟨2, ![16896, 128]⟩
abbrev S264x1024 : Shape := ⟨2, ![264, 1024]⟩
abbrev S512x1024 : Shape := ⟨2, ![512, 1024]⟩
abbrev S1x1024x256 : Shape := ⟨3, ![1, 1024, 256]⟩
abbrev S1x256x1024 : Shape := ⟨3, ![1, 256, 1024]⟩
abbrev S512x128 : Shape := ⟨2, ![512, 128]⟩
abbrev S8x1024 : Shape := ⟨2, ![8, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩
abbrev S64x1024 : Shape := ⟨2, ![64, 1024]⟩
abbrev S1x1024 : Shape := ⟨2, ![1, 1024]⟩

abbrev nBuf : Space → Nat
  | .hbm => 11
  | .vmem => 17
  | .smem => 0
  | _ => 0

abbrev bufTy : (tb : Table) → Fin (tcTables nBuf tb) → BufTy
  | .hbm, ⟨0, _⟩ => ⟨S16896x1024, .bf16⟩
  | .hbm, ⟨1, _⟩ => ⟨S32x1024x256, .f32⟩
  | .hbm, ⟨2, _⟩ => ⟨S32x1024x256, .f32⟩
  | .hbm, ⟨3, _⟩ => ⟨S32x256x1024, .f32⟩
  | .hbm, ⟨4, _⟩ => ⟨S16896x128, .f32⟩
  | .hbm, ⟨5, _⟩ => ⟨S16896x1024, .f32⟩
  | .hbm, ⟨6, _⟩ => ⟨S264x1024, .f32⟩
  | .hbm, ⟨7, _⟩ => ⟨S32x1024x256, .bf16⟩
  | .hbm, ⟨8, _⟩ => ⟨S32x1024x256, .bf16⟩
  | .hbm, ⟨9, _⟩ => ⟨S32x256x1024, .bf16⟩
  | .hbm, ⟨10, _⟩ => ⟨S16896x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x256x1024, .bf16⟩
  | .local _ .vmem, ⟨7, _⟩ => ⟨S1x256x1024, .bf16⟩
  | .local _ .vmem, ⟨8, _⟩ => ⟨S512x128, .f32⟩
  | .local _ .vmem, ⟨9, _⟩ => ⟨S512x128, .f32⟩
  | .local _ .vmem, ⟨10, _⟩ => ⟨S512x1024, .f32⟩
  | .local _ .vmem, ⟨11, _⟩ => ⟨S512x1024, .f32⟩
  | .local _ .vmem, ⟨12, _⟩ => ⟨S8x1024, .f32⟩
  | .local _ .vmem, ⟨13, _⟩ => ⟨S8x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | _, _ => ⟨S16896x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![33, 32], ![false, false]⟩

def k0_cond2 (i : grid0.Coords) : BitVec 1 :=
  let arg1 : BitVec 32 := BitVec.ofNat 32 (i 1).val
  let c31_i32 : BitVec 32 := 31#32
  let v32 : BitVec 1 := Scalar.cmpi .eq arg1 c31_i32
  let v33 : BitVec 32 := Scalar.extui v32
  let c0_i32_21 : BitVec 32 := 0#32
  let v34 : BitVec 1 := Scalar.cmpi .ne v33 c0_i32_21
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ExpertsRefIdeal.lean ====
abbrev S16896x1024 : Shape := ⟨2, ![16896, 1024]⟩
abbrev S32x1024x256 : Shape := ⟨3, ![32, 1024, 256]⟩
abbrev S32x256x1024 : Shape := ⟨3, ![32, 256, 1024]⟩
abbrev S16896x128 : Shape := ⟨2, ![16896, 128]⟩
abbrev S264x1024 : Shape := ⟨2, ![264, 1024]⟩
abbrev S32x256x16896 : Shape := ⟨3, ![32, 256, 16896]⟩
abbrev S32x16896x256 : Shape := ⟨3, ![32, 16896, 256]⟩
abbrev S_ : Shape := ⟨0, ![]⟩
abbrev S16896x32 : Shape := ⟨2, ![16896, 32]⟩
abbrev S32x16896 : Shape := ⟨2, ![32, 16896]⟩
abbrev S32x16896x1 : Shape := ⟨3, ![32, 16896, 1]⟩
abbrev S32x16896x1024 : Shape := ⟨3, ![32, 16896, 1024]⟩
abbrev S264x1x1024 : Shape := ⟨3, ![264, 1, 1024]⟩
abbrev S264x64x1024 : Shape := ⟨3, ![264, 64, 1024]⟩

abbrev nBuf : Space → Nat
  | .hbm => 35
  | .vmem => 0
  | .smem => 0
  | _ => 0

abbrev bufTy : (tb : Table) → Fin (tcTables nBuf tb) → BufTy
  | .hbm, ⟨0, _⟩ => ⟨S16896x1024, .bf16⟩
  | .hbm, ⟨1, _⟩ => ⟨S32x1024x256, .f32⟩
  | .hbm, ⟨2, _⟩ => ⟨S32x1024x256, .f32⟩
  | .hbm, ⟨3, _⟩ => ⟨S32x256x1024, .f32⟩
  | .hbm, ⟨4, _⟩ => ⟨S16896x128, .f32⟩
  | .hbm, ⟨5, _⟩ => ⟨S16896x1024, .f32⟩
  | .hbm, ⟨6, _⟩ => ⟨S264x1024, .f32⟩
  | .hbm, ⟨7, _⟩ => ⟨S16896x1024, .f32⟩
  | .hbm, ⟨8, _⟩ => ⟨S32x256x16896, .f32⟩
  | .hbm, ⟨9, _⟩ => ⟨S32x16896x256, .f32⟩
  | .hbm, ⟨10, _⟩ => ⟨S32x16896x256, .f32⟩
  | .hbm, ⟨11, _⟩ => ⟨S32x16896x256, .f32⟩
  | .hbm, ⟨12, _⟩ => ⟨S_, .f32⟩
  | .hbm, ⟨13, _⟩ => ⟨S32x16896x256, .f32⟩
  | .hbm, ⟨14, _⟩ => ⟨S32x16896x256, .f32⟩
  | .hbm, ⟨15, _⟩ => ⟨S_, .f32⟩
  | .hbm, ⟨16, _⟩ => ⟨S32x16896x256, .f32⟩
  | .hbm, ⟨17, _⟩ => ⟨S32x16896x256, .f32⟩
  | .hbm, ⟨18, _⟩ => ⟨S32x16896x256, .f32⟩
  | .hbm, ⟨19, _⟩ => ⟨S32x256x16896, .f32⟩
  | .hbm, ⟨20, _⟩ => ⟨S32x16896x256, .f32⟩
  | .hbm, ⟨21, _⟩ => ⟨S32x16896x256, .f32⟩
  | .hbm, ⟨22, _⟩ => ⟨S16896x32, .f32⟩
  | .hbm, ⟨23, _⟩ => ⟨S32x16896, .f32⟩
  | .hbm, ⟨24, _⟩ => ⟨S32x16896x1, .f32⟩
  | .hbm, ⟨25, _⟩ => ⟨S32x16896x256, .f32⟩
  | .hbm, ⟨26, _⟩ => ⟨S32x16896x256, .f32⟩
  | .hbm, ⟨27, _⟩ => ⟨S32x16896x1024, .f32⟩
  | .hbm, ⟨28, _⟩ => ⟨S_, .f32⟩
  | .hbm, ⟨29, _⟩ => ⟨S16896x1024, .f32⟩
  | .hbm, ⟨30, _⟩ => ⟨S264x1x1024, .f32⟩
  | .hbm, ⟨31, _⟩ => ⟨S264x64x1024, .f32⟩
  | .hbm, ⟨32, _⟩ => ⟨S16896x1024, .f32⟩
  | .hbm, ⟨33, _⟩ => ⟨S16896x1024, .f32⟩
  | .hbm, ⟨34, _⟩ => ⟨S16896x1024, .f32⟩
  | _, _ => ⟨S16896x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]
-- ==== Mixed.lean ====
abbrev S16896x512 : Shape := ⟨2, ![16896, 512]⟩
abbrev S16896x1024 : Shape := ⟨2, ![16896, 1024]⟩
abbrev S264x1024 : Shape := ⟨2, ![264, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S1024x36 : Shape := ⟨2, ![1024, 36]⟩
abbrev S_ : Shape := ⟨0, ![]⟩
abbrev S1024x128 : Shape := ⟨2, ![1024, 128]⟩
abbrev S36 : Shape := ⟨1, ![36]⟩
abbrev S128 : Shape := ⟨1, ![128]⟩
abbrev S1x128 : Shape := ⟨2, ![1, 128]⟩
abbrev S1x1024 : Shape := ⟨2, ![1, 1024]⟩
abbrev S16896x128 : Shape := ⟨2, ![16896, 128]⟩
abbrev S512x512 : Shape := ⟨2, ![512, 512]⟩
abbrev S512x1024 : Shape := ⟨2, ![512, 1024]⟩
abbrev S8x1024 : Shape := ⟨2, ![8, 1024]⟩
abbrev S512x128 : Shape := ⟨2, ![512, 128]⟩
abbrev S64x1024 : Shape := ⟨2, ![64, 1024]⟩
abbrev S64 : Shape := ⟨1, ![64]⟩
abbrev S64x1 : Shape := ⟨2, ![64, 1]⟩
abbrev S512 : Shape := ⟨1, ![512]⟩
abbrev S512x1 : Shape := ⟨2, ![512, 1]⟩

abbrev nBuf : Space → Nat
  | .hbm => 30
  | .vmem => 24
  | .smem => 0
  | _ => 0

abbrev bufTy : (tb : Table) → Fin (tcTables nBuf tb) → BufTy
  | .hbm, ⟨0, _⟩ => ⟨S16896x512, .bf16⟩
  | .hbm, ⟨1, _⟩ => ⟨S16896x512, .bf16⟩
  | .hbm, ⟨2, _⟩ => ⟨S16896x1024, .f32⟩
  | .hbm, ⟨3, _⟩ => ⟨S264x1024, .f32⟩
  | .hbm, ⟨4, _⟩ => ⟨S264x1024, .f32⟩
  | .hbm, ⟨5, _⟩ => ⟨S264x1024, .f32⟩
  | .hbm, ⟨6, _⟩ => ⟨S1024x1024, .f32⟩
  | .hbm, ⟨7, _⟩ => ⟨S1024, .f32⟩
  | .hbm, ⟨8, _⟩ => ⟨S1024x4, .f32⟩
  | .hbm, ⟨9, _⟩ => ⟨S4, .f32⟩
  | .hbm, ⟨10, _⟩ => ⟨S1024x32, .f32⟩
  | .hbm, ⟨11, _⟩ => ⟨S32, .f32⟩
  | .hbm, ⟨12, _⟩ => ⟨S1024x36, .f32⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S36, .f32⟩
  | .hbm, ⟨17, _⟩ => ⟨S_, .i32⟩
  | .hbm, ⟨18, _⟩ => ⟨S_, .f32⟩
  | .hbm, ⟨19, _⟩ => ⟨S128, .f32⟩
  | .hbm, ⟨20, _⟩ => ⟨S1x128, .f32⟩
  | .hbm, ⟨21, _⟩ => ⟨S1024x128, .bf16⟩
  | .hbm, ⟨22, _⟩ => ⟨S1024x128, .f32⟩
  | .hbm, ⟨23, _⟩ => ⟨S1024x128, .f32⟩
  | .hbm, ⟨24, _⟩ => ⟨S1024x128, .bf16⟩
  | .hbm, ⟨25, _⟩ => ⟨S1024x1024, .bf16⟩
  | .hbm, ⟨26, _⟩ => ⟨S1x1024, .f32⟩
  | .hbm, ⟨27, _⟩ => ⟨S16896x1024, .f32⟩
  | .hbm, ⟨28, _⟩ => ⟨S16896x1024, .bf16⟩
  | .hbm, ⟨29, _⟩ => ⟨S16896x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | .local _ .vmem, ⟨12, _⟩ => ⟨S1024x1024, .bf16⟩
  | .local _ .vmem, ⟨13, _⟩ => ⟨S1x1024, .f32⟩
  | .local _ .vmem, ⟨14, _⟩ => ⟨S1024x128, .bf16⟩
  | .local _ .vmem, ⟨15, _⟩ => ⟨S1024x128, .bf16⟩
  | .local _ .vmem, ⟨16, _⟩ => ⟨S1x128, .f32⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | .local _ .vmem, ⟨21, _⟩ => ⟨S512x128, .f32⟩
  | .local _ .vmem, ⟨22, _⟩ => ⟨S512x128, .f32⟩
  | .local _ .vmem, ⟨23, _⟩ => ⟨S512x1024, .f32⟩
  | _, _ => ⟨S16896x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_call0_v0 : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_call1_v0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11_0 : Ref sig .tc := ⟨.hbm, 27, rfl⟩
abbrev main_v11_1 : Ref sig .tc := ⟨.hbm, 28, rfl⟩
abbrev main_v11_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MixedRefIdeal.lean ====
abbrev S16896x512 : Shape := ⟨2, ![16896, 512]⟩
abbrev S16896x1024 : Shape := ⟨2, ![16896, 1024]⟩
abbrev S264x1024 : Shape := ⟨2, ![264, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S264x64x1024 : Shape := ⟨3, ![264, 64, 1024]⟩
abbrev S264x1x1024 : Shape := ⟨3, ![264, 1, 1024]⟩
abbrev S_ : Shape := ⟨0, ![]⟩
abbrev S264x64 : Shape := ⟨2, ![264, 64]⟩
abbrev S264x64x1 : Shape := ⟨3, ![264, 64, 1]⟩
abbrev S1x1x1024 : Shape := ⟨3, ![1, 1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S16896x512, .bf16⟩
  | .hbm, ⟨1, _⟩ => ⟨S16896x512, .bf16⟩
  | .hbm, ⟨2, _⟩ => ⟨S16896x1024, .f32⟩
  | .hbm, ⟨3, _⟩ => ⟨S264x1024, .f32⟩
  | .hbm, ⟨4, _⟩ => ⟨S264x1024, .f32⟩
  | .hbm, ⟨5, _⟩ => ⟨S264x1024, .f32⟩
  | .hbm, ⟨6, _⟩ => ⟨S1024x1024, .f32⟩
  | .hbm, ⟨7, _⟩ => ⟨S1024, .f32⟩
  | .hbm, ⟨8, _⟩ => ⟨S1024x4, .f32⟩
  | .hbm, ⟨9, _⟩ => ⟨S4, .f32⟩
  | .hbm, ⟨10, _⟩ => ⟨S1024x32, .f32⟩
  | .hbm, ⟨11, _⟩ => ⟨S32, .f32⟩
  | .hbm, ⟨12, _⟩ => ⟨S16896x1024, .bf16⟩
  | .hbm, ⟨13, _⟩ => ⟨S16896x1024, .f32⟩
  | .hbm, ⟨14, _⟩ => ⟨S16896x1024, .f32⟩
  | .hbm, ⟨15, _⟩ => ⟨S264x64x1024, .f32⟩
  | .hbm, ⟨16, _⟩ => ⟨S264x1x1024, .f32⟩
  | .hbm, ⟨17, _⟩ => ⟨S264x64x1024, .f32⟩
  | .hbm, ⟨18, _⟩ => ⟨S264x64x1024, .f32⟩
  | .hbm, ⟨19, _⟩ => ⟨S264x64x1024, .f32⟩
  | .hbm, ⟨20, _⟩ => ⟨S264x64x1024, .f32⟩
  | .hbm, ⟨21, _⟩ => ⟨S264x64x1024, .f32⟩
  | .hbm, ⟨22, _⟩ => ⟨S_, .f32⟩
  | .hbm, ⟨23, _⟩ => ⟨S264x64, .f32⟩
  | .hbm, ⟨24, _⟩ => ⟨S264x64x1, .f32⟩
  | .hbm, ⟨25, _⟩ => ⟨S_, .f32⟩
  | .hbm, ⟨26, _⟩ => ⟨S264x64x1, .f32⟩
  | .hbm, ⟨27, _⟩ => ⟨S264x64x1, .f32⟩
  | .hbm, ⟨28, _⟩ => ⟨S_, .f32⟩
  | .hbm, ⟨29, _⟩ => ⟨S264x64x1, .f32⟩
  | .hbm, ⟨30, _⟩ => ⟨S264x64x1, .f32⟩
  | .hbm, ⟨31, _⟩ => ⟨S264x64x1, .f32⟩
  | .hbm, ⟨32, _⟩ => ⟨S264x64x1024, .f32⟩
  | .hbm, ⟨33, _⟩ => ⟨S264x64x1024, .f32⟩
  | .hbm, ⟨34, _⟩ => ⟨S1x1x1024, .f32⟩
  | .hbm, ⟨35, _⟩ => ⟨S264x64x1024, .f32⟩
  | .hbm, ⟨36, _⟩ => ⟨S264x64x1024, .f32⟩
  | .hbm, ⟨37, _⟩ => ⟨S264x1x1024, .f32⟩
  | .hbm, ⟨38, _⟩ => ⟨S_, .f32⟩
  | .hbm, ⟨39, _⟩ => ⟨S264x1x1024, .f32⟩
  | .hbm, ⟨40, _⟩ => ⟨S264x1x1024, .f32⟩
  | .hbm, ⟨41, _⟩ => ⟨S264x64x1024, .f32⟩
  | .hbm, ⟨42, _⟩ => ⟨S264x64x1024, .f32⟩
  | .hbm, ⟨43, _⟩ => ⟨S264x1x1024, .f32⟩
  | .hbm, ⟨44, _⟩ => ⟨S264x64x1024, .f32⟩
  | .hbm, ⟨45, _⟩ => ⟨S264x64x1024, .f32⟩
  | .hbm, ⟨46, _⟩ => ⟨S16896x1024, .f32⟩
  | .hbm, ⟨47, _⟩ => ⟨S16896x1024, .f32⟩
  | .hbm, ⟨48, _⟩ => ⟨S16896x1024, .bf16⟩
  | _, _ => ⟨S16896x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== Proof.Finite.lean ====
/- The claim's assumption, read entry by entry: queries, keys and decay terms are real numbers. -/
module

public import proofs.«01_k».proof.Defs
public import Idealize.ShloMosaic.Lib.Pointwise
public import Idealize.ShloMosaic.PureOps.Ideal.Laws

@[expose] public section

noncomputable section

namespace Cert.Proof.Finite

open Idealize.ShloMosaic

/-- The shape relations of the assumption's own operations. -/
theorem facts : Cert.Pre_finite.Facts := ⟨by decide, by decide, by decide⟩

theorem inf : Ideal.ofBits .f32 0x7F800000#32 = (⊤ : EReal) := by simp [Ideal.ofBits, Ideal.ieee]

/-- A value whose size is below infinity is a real number. -/
theorem real_of (x : EReal) (h : Ideal.cmp .olt (max x (-x)) (Ideal.ofBits .f32 0x7F800000#32) = 1#1) : ∃ a : ℝ, x = (a : EReal) := by
  rw [inf] at h
  induction x with
  | bot => simp [Ideal.cmp] at h
  | top => simp [Ideal.cmp] at h
  | coe a => exact ⟨a, rfl⟩

section
variable [hPre : Cert.Pre_finite.Facts] (m : (ℓ : Loc Cert.KernelIdeal.nD Cert.KernelIdeal.τ Cert.KernelIdeal.sig) → Buf (Elt Ideal) ℓ)
  (h : Cert.Pre_KernelIdeal_finite m) (c : Dev Cert.KernelIdeal.nD)
include h

/-- The queries are real. -/
theorem q_real (y : Cert.KernelIdeal.S16896x512.Idx) :
    ∃ a : ℝ, (m ((c.tc : Thread Cert.KernelIdeal.nD Cert.KernelIdeal.τ).loc Cert.KernelIdeal.main_arg0) y : EReal) = (a : EReal) :=
  real_of _ (congrFun (h c).1 y)

/-- The keys are real. -/
theorem k_real (y : Cert.KernelIdeal.S16896x512.Idx) :
    ∃ a : ℝ, (m ((c.tc : Thread Cert.KernelIdeal.nD Cert.KernelIdeal.τ).loc Cert.KernelIdeal.main_arg1) y : EReal) = (a : EReal) :=
  real_of _ (congrFun (h c).2.1 y)

/-- The decay terms are real. -/
theorem f_real (y : Cert.KernelIdeal.S16x8192.Idx) :
    ∃ a : ℝ, (m ((c.tc : Thread Cert.KernelIdeal.nD Cert.KernelIdeal.τ).loc Cert.KernelIdeal.main_arg3) y : EReal) = (a : EReal) :=
  real_of _ (congrFun (h c).2.2 y)
end

end Cert.Proof.Finite

end
-- ==== Proof.Windows.lean ====
/- What each block of the kernel holds, as entries of the argument arrays. A grid point names a sequence, a pair of heads and a tile
   of 512 queries. -/
module

public import proofs.«01_k».proof.Proof.Gen.KernelIdeal.Value
public import Idealize.ShloMosaic.Lib.Pointwise

@[expose] public section

set_option maxRecDepth 16384

noncomputable section

namespace Cert.Proof.Windows

open Cert.KernelIdeal Cert.KernelIdeal.Gen Cert.KernelIdeal.Value Idealize.ShloMosaic Idealize.ShloMosaic.TcCoe Idealize.SL.Sem

variable (m : (ℓ : Loc nD τ sig) → Buf (Elt Ideal) ℓ) (c : Dev nD)

/-- The sequence, the pair of heads and the tile of a grid point. -/
def seq (t : Fin cfg0.N) : Fin 2 := grid0.coords t 0
def pair (t : Fin cfg0.N) : Fin 4 := grid0.coords t 1
def tile (t : Fin cfg0.N) : Fin 16 := grid0.coords t 2

theorem idx0 : ∀ t : Fin cfg0.N, win0_0.index t (0 : Fin 2) = (seq t).val * 16 + (tile t).val ∧ win0_0.index t (1 : Fin 2) = (pair t).val :=
  (by decide +kernel : ∀ t : Fin grid0.N, _)
theorem idx1 : ∀ t : Fin cfg0.N, win0_1.index t (0 : Fin 2) = (seq t).val ∧ win0_1.index t (1 : Fin 2) = (pair t).val :=
  (by decide +kernel : ∀ t : Fin grid0.N, _)
theorem idx2 : ∀ t : Fin cfg0.N, win0_2.index t (0 : Fin 2) = (seq t).val ∧ win0_2.index t (1 : Fin 2) = (pair t).val :=
  (by decide +kernel : ∀ t : Fin grid0.N, _)
theorem idx3 : ∀ t : Fin cfg0.N, win0_3.index t (0 : Fin 3) = (pair t).val ∧ win0_3.index t (1 : Fin 3) = (seq t).val * 16 + (tile t).val
    ∧ win0_3.index t (2 : Fin 3) = 0 :=
  (by decide +kernel : ∀ t : Fin grid0.N, _)
theorem idx4 : ∀ t : Fin cfg0.N, win0_4.index t (0 : Fin 5) = (pair t).val ∧ win0_4.index t (1 : Fin 5) = (seq t).val
    ∧ win0_4.index t (2 : Fin 5) = 0 ∧ win0_4.index t (3 : Fin 5) = 0 ∧ win0_4.index t (4 : Fin 5) = 0 :=
  (by decide +kernel : ∀ t : Fin grid0.N, _)
theorem idx5 : ∀ t : Fin cfg0.N, win0_5.index t (0 : Fin 2) = 0 ∧ win0_5.index t (1 : Fin 2) = (pair t).val :=
  (by decide +kernel : ∀ t : Fin grid0.N, _)
theorem idx6 : ∀ t : Fin cfg0.N, win0_6.index t (0 : Fin 2) = (seq t).val * 16 + (tile t).val ∧ win0_6.index t (1 : Fin 2) = (pair t).val :=
  (by decide +kernel : ∀ t : Fin grid0.N, _)
/-- Every combination has its grid point. -/
theorem onto : ∀ (b : Fin 2) (p : Fin 4) (i : Fin 16), ∃ t : Fin cfg0.N, seq t = b ∧ pair t = p ∧ tile t = i :=
  (by decide +kernel : ∀ (b : Fin 2) (p : Fin 4) (i : Fin 16), ∃ t : Fin grid0.N, _)

/-- Row `r` of the point's tile, as a position of the sequence. -/
def pos (t : Fin cfg0.N) (r : Fin 512) : Fin 8192 := ⟨(tile t).val * 512 + r.val, by have := (tile t).isLt; omega⟩
/-- Row `n` of the point's sequence in an array of all rows. -/
def rowOf (t : Fin cfg0.N) (n : Fin 8192) : Fin 16896 := ⟨(seq t).val * 8192 + n.val, by have := (seq t).isLt; omega⟩
/-- The same row in the result. -/
def outRow (t : Fin cfg0.N) (n : Fin 8192) : Fin 16384 := ⟨(seq t).val * 8192 + n.val, by have := (seq t).isLt; omega⟩
/-- Lane `d` of the point's pair of heads, as a column. -/
def colOf (t : Fin cfg0.N) (d : Fin 128) : Fin 512 := ⟨(pair t).val * 128 + d.val, by have := (pair t).isLt; omega⟩
/-- The row of the decay terms of head `h` of the pair. -/
def termRow (t : Fin cfg0.N) (h : Fin 2) : Fin 16 := ⟨(seq t).val * 8 + (pair t).val * 2 + h.val, by have := (seq t).isLt; have := (pair t).isLt; omega⟩

/-- The query block. -/
theorem block0 (t : Fin cfg0.N) (r : Fin 512) (d : Fin 128) :
    (iblk m c 0 t : Vec Ideal S512x128 .bf16) (ix2 r d) = m ((c : Thread nD τ).loc main_arg0) (ix2 (rowOf t (pos t r)) (colOf t d)) := by
  obtain ⟨e0, e1⟩ := idx0 t
  show V m c main_arg0 (((cfg0.win 0).blk t).view.emb (ix2 r d)) = _
  rw [V_main_arg0]
  refine congrArg (m ((c : Thread nD τ).loc main_arg0)) (funext fun a => Fin.ext ?_)
  match a with
  | ⟨0, _⟩ => show win0_0.index t (0 : Fin 2) * 512 + 1 * r.val = (seq t).val * 8192 + ((tile t).val * 512 + r.val); omega
  | ⟨1, _⟩ => show win0_0.index t (1 : Fin 2) * 128 + 1 * d.val = (pair t).val * 128 + d.val; omega

/-- The key block. -/
theorem block1 (t : Fin cfg0.N) (n : Fin 8192) (d : Fin 128) :
    (X0_1 m c t : Vec Ideal S8192x128 .bf16) (ix2 n d) = m ((c : Thread nD τ).loc main_arg1) (ix2 (rowOf t n) (colOf t d)) := by
  obtain ⟨e0, e1⟩ := idx1 t
  unfold X0_1 Pipeline.Window.fill
  rw [dif_pos (moved0_1 t (ix2 n d))]
  show V m c main_arg1 (((cfg0.win 1).blk t).view.emb _) = _
  rw [V_main_arg1]
  refine congrArg (m ((c : Thread nD τ).loc main_arg1)) (funext fun a => Fin.ext ?_)
  match a with
  | ⟨0, _⟩ => show win0_1.index t (0 : Fin 2) * 8192 + 1 * n.val = (seq t).val * 8192 + n.val; omega
  | ⟨1, _⟩ => show win0_1.index t (1 : Fin 2) * 128 + 1 * d.val = (pair t).val * 128 + d.val; omega

/-- The value block. -/
theorem block2 (t : Fin cfg0.N) (n : Fin 8192) (d : Fin 128) :
    (X0_2 m c t : Vec Ideal S8192x128 .bf16) (ix2 n d) = m ((c : Thread nD τ).loc main_arg2) (ix2 (rowOf t n) (colOf t d)) := by
  obtain ⟨e0, e1⟩ := idx2 t
  unfold X0_2 Pipeline.Window.fill
  rw [dif_pos (moved0_2 t (ix2 n d))]
  show V m c main_arg2 (((cfg0.win 2).blk t).view.emb _) = _
  rw [V_main_arg2]
  refine congrArg (m ((c : Thread nD τ).loc main_arg2)) (funext fun a => Fin.ext ?_)
  match a with
  | ⟨0, _⟩ => show win0_2.index t (0 : Fin 2) * 8192 + 1 * n.val = (seq t).val * 8192 + n.val; omega
  | ⟨1, _⟩ => show win0_2.index t (1 : Fin 2) * 128 + 1 * d.val = (pair t).val * 128 + d.val; omega

/-- The decay terms laid out by pairs of heads. -/
def byPair (x : (⟨S16x8192, .f32⟩ : BufTy).Contents (Elt Ideal)) : (⟨S2x4x2x16x512, .f32⟩ : BufTy).Contents (Elt Ideal) :=
  shapeCast _ x shapeCasts_S16x8192_S2x4x2x16x512

theorem byPair_apply (x : (⟨S16x8192, .f32⟩ : BufTy).Contents (Elt Ideal)) (b : Fin 2) (p : Fin 4) (h : Fin 2) (i : Fin 16) (j : Fin 512) :
    byPair x (ix5 b p h i j) = x (ix2 ⟨b.val * 8 + p.val * 2 + h.val, by omega⟩ ⟨i.val * 512 + j.val, by omega⟩) := by
  unfold byPair
  refine shapeCast_apply x shapeCasts_S16x8192_S2x4x2x16x512 _ _ ?_
  rewrite [Shape.rowMajor_val_two, Shape.rowMajor_val_five]
  show (b.val * 8 + p.val * 2 + h.val) * 8192 + (i.val * 512 + j.val) = (((b.val * 4 + p.val) * 2 + h.val) * 16 + i.val) * 512 + j.val
  omega

theorem V_main_v1 : V m c main_v1 = transpose S4x2x16x2x512 [1, 0, 3, 2, 4] (byPair (m ((c : Thread nD τ).loc main_arg3))) transposes_S2x4x2x16x512_S4x2x16x2x512_1_0_3_2_4 := by
  unfold_abbrev_sides
  after_results
  rfl

theorem V_main_v3 : V m c main_v3 = shapeCast S4x16384x2
    (transpose S4x2x16x512x2 [1, 0, 3, 4, 2] (byPair (m ((c : Thread nD τ).loc main_arg3))) transposes_S2x4x2x16x512_S4x2x16x512x2_1_0_3_4_2) shapeCasts_S4x2x16x512x2_S4x16384x2 := by
  unfold_abbrev_sides
  after_results
  rfl

theorem V_main_v4 : V m c main_v4 = shapeCast S1x512 (m ((c : Thread nD τ).loc main_arg4)) shapeCasts_S512_S1x512 := by
  unfold_abbrev_sides
  after_results
  rfl

/-- The keys' decay terms. -/
theorem v1_apply (p : Fin 4) (b : Fin 2) (i : Fin 16) (h : Fin 2) (j : Fin 512) :
    (V m c main_v1 : Vec Ideal S4x2x16x2x512 .f32) (ix5 p b i h j)
      = m ((c : Thread nD τ).loc main_arg3) (ix2 ⟨b.val * 8 + p.val * 2 + h.val, by omega⟩ ⟨i.val * 512 + j.val, by omega⟩) := by
  rw [V_main_v1]
  refine Eq.trans ?_ (byPair_apply (m ((c : Thread nD τ).loc main_arg3)) b p h i j)
  generalize byPair _ = y
  refine transpose_apply _ y transposes_S2x4x2x16x512_S4x2x16x2x512_1_0_3_2_4 _ (ix5 b p h i j) fun a => ?_
  match a with
  | ⟨0, _⟩ => rfl
  | ⟨1, _⟩ => rfl
  | ⟨2, _⟩ => rfl
  | ⟨3, _⟩ => rfl
  | ⟨4, _⟩ => rfl

/-- The queries' decay terms. -/
theorem v3_apply (p : Fin 4) (b : Fin 2) (i : Fin 16) (j : Fin 512) (h : Fin 2) (R : Fin 16384) (hR : R.val = (b.val * 16 + i.val) * 512 + j.val) :
    (V m c main_v3 : Vec Ideal S4x16384x2 .f32) (ix3 p R h)
      = m ((c : Thread nD τ).loc main_arg3) (ix2 ⟨b.val * 8 + p.val * 2 + h.val, by omega⟩ ⟨i.val * 512 + j.val, by omega⟩) := by
  rw [V_main_v3]
  refine Eq.trans ?_ (byPair_apply (m ((c : Thread nD τ).loc main_arg3)) b p h i j)
  generalize byPair _ = y
  refine (shapeCast_apply _ shapeCasts_S4x2x16x512x2_S4x16384x2 _ (ix5 p b i j h) ?_).trans
    (transpose_apply _ y transposes_S2x4x2x16x512_S4x2x16x512x2_1_0_3_4_2 _ (ix5 b p h i j) fun a => ?_)
  · rewrite [Shape.rowMajor_val_three, Shape.rowMajor_val_five]
    show (((p.val * 2 + b.val) * 16 + i.val) * 512 + j.val) * 2 + h.val = (p.val * 16384 + R.val) * 2 + h.val
    omega
  · match a with
    | ⟨0, _⟩ => rfl
    | ⟨1, _⟩ => rfl
    | ⟨2, _⟩ => rfl
    | ⟨3, _⟩ => rfl
    | ⟨4, _⟩ => rfl

/-- The scale as one row. -/
theorem v4_apply (d : Fin 512) :
    (V m c main_v4 : Vec Ideal S1x512 .f32) (ix2 0 d) = m ((c : Thread nD τ).loc main_arg4) (ix1 d) := by
  rw [V_main_v4]
  refine shapeCast_apply _ shapeCasts_S512_S1x512 _ _ ?_
  rewrite [Shape.rowMajor_val_one, Shape.rowMajor_val_two]
  show d.val = 0 * 512 + d.val
  omega

/-- The block of the queries' decay terms. -/
theorem block3 (t : Fin cfg0.N) (r : Fin 512) (h : Fin 2) :
    (iblk m c 3 t : Vec Ideal S1x512x2 .f32) (ix3 0 r h) = m ((c : Thread nD τ).loc main_arg3) (ix2 (termRow t h) (pos t r)) := by
  obtain ⟨e0, e1, e2⟩ := idx3 t
  have hs := (seq t).isLt
  have hi := (tile t).isLt
  refine Eq.trans ?_ (v3_apply m c (pair t) (seq t) (tile t) r h ⟨((seq t).val * 16 + (tile t).val) * 512 + r.val, by omega⟩ rfl)
  show V m c main_v3 (((cfg0.win 3).blk t).view.emb (ix3 0 r h)) = _
  refine congrArg (V m c main_v3) (funext fun a => Fin.ext ?_)
  match a with
  | ⟨0, _⟩ => show win0_3.index t (0 : Fin 3) * 1 + 1 * 0 = (pair t).val; omega
  | ⟨1, _⟩ => show win0_3.index t (1 : Fin 3) * 512 + 1 * r.val = ((seq t).val * 16 + (tile t).val) * 512 + r.val; omega
  | ⟨2, _⟩ => show win0_3.index t (2 : Fin 3) * 2 + 1 * h.val = h.val; omega

/-- The block of the keys' decay terms. -/
theorem block4 (t : Fin cfg0.N) (i : Fin 16) (h : Fin 2) (j : Fin 512) :
    (iblk m c 4 t : Vec Ideal S1x1x16x2x512 .f32) (ix5 0 0 i h j)
      = m ((c : Thread nD τ).loc main_arg3) (ix2 (termRow t h) ⟨i.val * 512 + j.val, by omega⟩) := by
  obtain ⟨e0, e1, e2, e3, e4⟩ := idx4 t
  refine Eq.trans ?_ (v1_apply m c (pair t) (seq t) i h j)
  show V m c main_v1 (((cfg0.win 4).blk t).view.emb (ix5 0 0 i h j)) = _
  refine congrArg (V m c main_v1) (funext fun a => Fin.ext ?_)
  match a with
  | ⟨0, _⟩ => show win0_4.index t (0 : Fin 5) * 1 + 1 * 0 = (pair t).val; omega
  | ⟨1, _⟩ => show win0_4.index t (1 : Fin 5) * 1 + 1 * 0 = (seq t).val; omega
  | ⟨2, _⟩ => show win0_4.index t (2 : Fin 5) * 16 + 1 * i.val = i.val; omega
  | ⟨3, _⟩ => show win0_4.index t (3 : Fin 5) * 2 + 1 * h.val = h.val; omega
  | ⟨4, _⟩ => show win0_4.index t (4 : Fin 5) * 512 + 1 * j.val = j.val; omega

/-- The block of the scale. -/
theorem block5 (t : Fin cfg0.N) (d : Fin 128) :
    (iblk m c 5 t : Vec Ideal S1x128 .f32) (ix2 0 d) = m ((c : Thread nD τ).loc main_arg4) (ix1 (colOf t d)) := by
  obtain ⟨e0, e1⟩ := idx5 t
  refine Eq.trans ?_ (v4_apply m c (colOf t d))
  show V m c main_v4 (((cfg0.win 5).blk t).view.emb (ix2 0 d)) = _
  refine congrArg (V m c main_v4) (funext fun a => Fin.ext ?_)
  match a with
  | ⟨0, _⟩ => show win0_5.index t (0 : Fin 2) * 1 + 1 * 0 = 0; omega
  | ⟨1, _⟩ => show win0_5.index t (1 : Fin 2) * 128 + 1 * d.val = (pair t).val * 128 + d.val; omega

/-- An entry of the point's output block as an entry of the result. -/
theorem emb6 (t : Fin cfg0.N) (j : S512x128.Idx) : ((cfg0.win 6).blk t).view.emb j = ix2 (outRow t (pos t (j 0))) (colOf t (j 1)) := by
  obtain ⟨e0, e1⟩ := idx6 t
  funext a; apply Fin.ext
  match a with
  | ⟨0, _⟩ => show win0_6.index t (0 : Fin 2) * 512 + 1 * (j 0).val = (seq t).val * 8192 + ((tile t).val * 512 + (j 0).val); omega
  | ⟨1, _⟩ => show win0_6.index t (1 : Fin 2) * 128 + 1 * (j 1).val = (pair t).val * 128 + (j 1).val; omega

/-- A function that agrees with a block's contents entry by entry reads as that block. -/
theorem cut6 (t : Fin cfg0.N) (X : Vec Ideal S512x128 .bf16) (G : Vec Ideal S16384x512 .bf16)
    (h : ∀ (r : Fin 512) (d : Fin 128), X (ix2 r d) = G (ix2 (outRow t (pos t r)) (colOf t d))) :
    (cfg0.win 6).cut (grid0.coords t) X = ((cfg0.win 6).blk t).view.read (Elt Ideal) G := by
  funext j
  show X j = G (((cfg0.win 6).blk t).view.emb j)
  rw [emb6]
  refine Eq.trans (congrArg X (funext fun a => Fin.ext ?_)) (h (j 0) (j 1))
  match a with
  | ⟨0, _⟩ => rfl
  | ⟨1, _⟩ => rfl

/-- Every entry of the result lies in some point's block. -/
theorem covered6 (i : S16384x512.Idx) : ∃ t : Fin cfg0.N, (cfg0.win 6).flush t = true ∧ i ∈ ((cfg0.win 6).blk t).view.set := by
  have h0 : (i 0).val < 16384 := (i 0).isLt
  have h1 : (i 1).val < 512 := (i 1).isLt
  obtain ⟨t, hb, hp, hi⟩ := onto ⟨(i 0).val / 8192, by omega⟩ ⟨(i 1).val / 128, by omega⟩ ⟨(i 0).val / 512 % 16, by omega⟩
  refine ⟨t, flush0_6 t, ?_⟩
  have h := ((cfg0.win 6).blk t).view.emb_mem_set (ix2 ⟨(i 0).val % 512, by omega⟩ ⟨(i 1).val % 128, by omega⟩ : S512x128.Idx)
  rw [emb6] at h
  have e : (ix2 (outRow t (pos t ⟨(i 0).val % 512, by omega⟩)) (colOf t ⟨(i 1).val % 128, by omega⟩) : S16384x512.Idx) = i := by
    funext a; apply Fin.ext
    match a with
    | ⟨0, _⟩ =>
      show (seq t).val * 8192 + ((tile t).val * 512 + (i 0).val % 512) = (i 0).val
      rw [hb, hi]
      show (i 0).val / 8192 * 8192 + ((i 0).val / 512 % 16 * 512 + (i 0).val % 512) = (i 0).val
      omega
    | ⟨1, _⟩ =>
      show (pair t).val * 128 + (i 1).val % 128 = (i 1).val
      rw [hp]
      show (i 1).val / 128 * 128 + (i 1).val % 128 = (i 1).val
      omega
  exact e ▸ h

end Cert.Proof.Windows

end
-- ==== Proof.Slab.lean ====
/- The kernel's two-headed buffers, read and written one head at a time: a load of head `h` is the slab `h` of what the buffer holds,
   and after the stores of both heads the buffer's two slabs are the two stored arrays. -/
module

public import proofs.«01_k».proof.Proof.Gen.KernelIdeal.Skeleton
public import Idealize.ShloMosaic.Lib.Pointwise
public import Idealize.ShloMosaic.Lib.WritesUnit

@[expose] public section

set_option maxRecDepth 16384

noncomputable section

namespace Cert.Proof.Slab

open Cert.KernelIdeal Cert.KernelIdeal.Gen Idealize.ShloMosaic

variable {Val : EltTy → Type} {e : EltTy}

/-- Head `h` of a two-headed array. -/
def slab {α : Type} (X : S2x512x128.Idx → α) (h : Fin 2) : S512x128.Idx → α := fun y => X (ix3 h (y 0) (y 1))

theorem slab_apply {α : Type} (X : S2x512x128.Idx → α) (h : Fin 2) (r : Fin 512) (c : Fin 128) : slab X h (ix2 r c) = X (ix3 h r c) := rfl

/-- Two heads' arrays as one two-headed array. -/
def glue {α : Type} (X : Fin 2 → S512x128.Idx → α) : S2x512x128.Idx → α := fun y => X (y 0) (ix2 (y 1) (y 2))

theorem slab_glue {α : Type} (X : Fin 2 → S512x128.Idx → α) (h : Fin 2) : slab (glue X) h = X h :=
  funext fun y => congrArg (X h) (eq_ix2 y).symm

/-- The leading axis of length one dropped. -/
theorem cast_drop {α : Type} (w : S1x512x128.Idx → α) : shapeCast S512x128 w shapeCasts_S1x512x128_S512x128 = fun y => w (ix3 0 (y 0) (y 1)) := by
  funext y
  obtain ⟨r, c, rfl⟩ : ∃ r c, y = ix2 (n0 := 512) (n1 := 128) r c := ⟨y 0, y 1, eq_ix2 y⟩
  pointwise

/-- The leading axis of length one added. -/
theorem cast_add {α : Type} (w : S512x128.Idx → α) (z : Fin 1) (r : Fin 512) (c : Fin 128) :
    shapeCast S1x512x128 w shapeCasts_S512x128_S1x512x128 (ix3 z r c) = w (ix2 r c) := by
  pointwise

/-- A load of head `h`. -/
theorem load (v : View sig .tc .vmem S2x512x128 e) (f : v.ty.Contents Val) (h : Fin 2) (inb) :
    shapeCast S512x128 (v.readAt Val (Rect.unit (s := S2x512x128) ![h.val, 0, 0] S1x512x128.size inb).toLoadRect f)
      shapeCasts_S1x512x128_S512x128 = slab (v.read Val f) h := by
  rw [cast_drop]
  funext y
  refine congrArg (v.read Val f) (funext fun a => Fin.ext ?_)
  fin_cases a <;> simp [LoadRect.idx] <;> rfl

theorem load0 (v : View sig .tc .vmem S2x512x128 e) (f : v.ty.Contents Val) (inb) :
    shapeCast S512x128 (v.readAt Val (Rect.unit (s := S2x512x128) ![0, 0, 0] S1x512x128.size inb).toLoadRect f)
      shapeCasts_S1x512x128_S512x128 = slab (v.read Val f) 0 := load v f 0 inb

theorem load1 (v : View sig .tc .vmem S2x512x128 e) (f : v.ty.Contents Val) (inb) :
    shapeCast S512x128 (v.readAt Val (Rect.unit (s := S2x512x128) ![1, 0, 0] S1x512x128.size inb).toLoadRect f)
      shapeCasts_S1x512x128_S512x128 = slab (v.read Val f) 1 := load v f 1 inb

/-- The stores of both heads, the first head's first. -/
theorem store (v : View sig .tc .vmem S2x512x128 e) (f : v.ty.Contents Val) (w0 w1 : S512x128.Idx → Val e) (inb0 inb1)
    (L : List (View.Piece Val S2x512x128 e)) (h : Fin 2) :
    slab (v.read Val (v.writes Val f
      ((⟨Rect.unit (s := S2x512x128) ![1, 0, 0] S1x512x128.size inb1, shapeCast S1x512x128 w1 shapeCasts_S512x128_S1x512x128⟩ : View.Piece Val S2x512x128 e) ::
        (⟨Rect.unit (s := S2x512x128) ![0, 0, 0] S1x512x128.size inb0, shapeCast S1x512x128 w0 shapeCasts_S512x128_S1x512x128⟩ : View.Piece Val S2x512x128 e) :: L))) h
      = ![w0, w1] h := by
  funext y
  obtain ⟨r, c, rfl⟩ : ∃ r c, y = ix2 (n0 := 512) (n1 := 128) r c := ⟨y 0, y 1, eq_ix2 y⟩
  rw [slab_apply]
  fin_cases h
  · refine (View.read_writes_cons_unit_of_not_mem v f inb1 _ _ _ rfl 0 (Or.inl (by show (0 : ℕ) < 1; omega))).trans ?_
    refine (View.read_writes_cons_unit_of_mem v f inb0 _ _ _ (ix3 0 r c) rfl ?_).trans (cast_add w0 0 r c)
    intro a; fin_cases a <;> simp
  · refine (View.read_writes_cons_unit_of_mem v f inb1 _ _ _ (ix3 0 r c) rfl ?_).trans (cast_add w1 0 r c)
    intro a; fin_cases a <;> simp

/-- The newest store is of this head. -/
theorem store_hit (v : View sig .tc .vmem S2x512x128 e) (f : v.ty.Contents Val) (h : Fin 2) (w : S512x128.Idx → Val e) (inb)
    (L : List (View.Piece Val S2x512x128 e)) :
    slab (v.read Val (v.writes Val f ((⟨Rect.unit (s := S2x512x128) ![h.val, 0, 0] S1x512x128.size inb,
      shapeCast S1x512x128 w shapeCasts_S512x128_S1x512x128⟩ : View.Piece Val S2x512x128 e) :: L))) h = w := by
  funext y
  obtain ⟨r, c, rfl⟩ : ∃ r c, y = ix2 (n0 := 512) (n1 := 128) r c := ⟨y 0, y 1, eq_ix2 y⟩
  rw [slab_apply]
  refine (View.read_writes_cons_unit_of_mem v f inb _ _ _ (ix3 0 r c) rfl ?_).trans (cast_add w 0 r c)
  intro a; fin_cases a <;> simp

/-- The newest store is of the other head. -/
theorem store_miss (v : View sig .tc .vmem S2x512x128 e) (f : v.ty.Contents Val) (h h' : Fin 2) (hne : h' ≠ h)
    (w : S1x512x128.Idx → Val e) (inb) (L : List (View.Piece Val S2x512x128 e)) :
    slab (v.read Val (v.writes Val f ((⟨Rect.unit (s := S2x512x128) ![h.val, 0, 0] S1x512x128.size inb, w⟩ : View.Piece Val S2x512x128 e) :: L))) h'
      = slab (v.read Val (v.writes Val f L)) h' := by
  funext y
  obtain ⟨r, c, rfl⟩ : ∃ r c, y = ix2 (n0 := 512) (n1 := 128) r c := ⟨y 0, y 1, eq_ix2 y⟩
  rw [slab_apply, slab_apply]
  refine View.read_writes_cons_unit_of_not_mem v f inb _ _ _ rfl 0 ?_
  show h'.val < h.val ∨ h.val + 1 ≤ h'.val
  have : h'.val ≠ h.val := fun e => hne (Fin.ext e)
  omega

/-- A store of the whole buffer. -/
theorem store_all (v : View sig .tc .vmem S2x512x128 e) (f : v.ty.Contents Val) (w : S2x512x128.Idx → Val e) (inb)
    (L : List (View.Piece Val S2x512x128 e)) :
    v.read Val (v.writes Val f ((⟨Rect.unit (s := S2x512x128) ![0, 0, 0] S2x512x128.size inb, w⟩ : View.Piece Val S2x512x128 e) :: L)) = w := by
  funext y
  refine View.read_writes_cons_unit_of_mem v f inb _ _ _ y rfl ?_
  intro a; fin_cases a <;> simp

end Cert.Proof.Slab
-- ==== Proof.Softmax.lean ====
/- The arithmetic of one row's attention over the extended reals, free of any program: a row's scores come in tiles of 512, a
   running maximum, a running sum of powers and a running weighted sum are rescaled at each tile, and after the last tile their
   quotient is the softmax-weighted sum. -/
module

public import Idealize.ShloMosaic.PureOps.Ideal
public import Mathlib.Data.EReal.Inv
public import Mathlib.Algebra.BigOperators.Intervals

@[expose] public section

noncomputable section

namespace Cert.Proof.Softmax

open Idealize.ShloMosaic

/-- The base-2 exponential of an extended real. -/
abbrev e2 (x : EReal) : EReal := Ideal.exp2 x

/-- The largest score of a tile. -/
def top (T : Fin 512 → EReal) : EReal := Finset.univ.sup T

/-- The largest score of the first `k` tiles. -/
def M (s : ℕ → Fin 512 → EReal) (k : ℕ) : EReal := (Finset.range k).sup fun t => top (s t)

/-- The sum of the powers of the first `k` tiles' scores, relative to their largest. -/
def L (s : ℕ → Fin 512 → EReal) (k : ℕ) : EReal := ∑ t ∈ Finset.range k, ∑ j, e2 (s t j - M s k)

/-- The same sum weighted by values. -/
def A (s v : ℕ → Fin 512 → EReal) (k : ℕ) : EReal := ∑ t ∈ Finset.range k, ∑ j, e2 (s t j - M s k) * v t j

theorem M_zero (s : ℕ → Fin 512 → EReal) : M s 0 = ⊥ := rfl
theorem L_zero (s : ℕ → Fin 512 → EReal) : L s 0 = 0 := rfl
theorem A_zero (s v : ℕ → Fin 512 → EReal) : A s v 0 = 0 := rfl

theorem M_succ (s : ℕ → Fin 512 → EReal) (k : ℕ) : M s (k + 1) = max (M s k) (top (s k)) := by
  unfold M
  rw [Finset.range_add_one, Finset.sup_insert, sup_comm]

theorem le_M {s : ℕ → Fin 512 → EReal} {k t : ℕ} (h : t < k) (j : Fin 512) : s t j ≤ M s k :=
  (Finset.le_sup (f := s t) (Finset.mem_univ j)).trans
    (Finset.le_sup (f := fun t => top (s t)) (Finset.mem_range.2 h))

/-- A finite supremum of scores below `⊤` is below `⊤`. -/
theorem top_lt {T : Fin 512 → EReal} (h : ∀ j, T j ≠ ⊤) : top T < ⊤ :=
  (Finset.sup_lt_iff (by simp)).2 fun j _ => lt_top_iff_ne_top.2 (h j)

theorem M_ne_top {s : ℕ → Fin 512 → EReal} (hs : ∀ t j, s t j ≠ ⊤) (k : ℕ) : M s k ≠ ⊤ :=
  ne_of_lt ((Finset.sup_lt_iff (by simp)).2 fun t _ => top_lt (hs t))

theorem e2_nonneg (x : EReal) : 0 ≤ e2 x := by
  induction x with
  | bot => simp [e2]
  | top => simp [e2]
  | coe r => rw [e2, Ideal.exp2_coe]; exact EReal.coe_nonneg.2 (Real.rpow_nonneg (by norm_num) r)

theorem e2_ne_top {x : EReal} (h : x ≠ ⊤) : e2 x ≠ ⊤ := by
  induction x with
  | bot => simp [e2]
  | top => exact absurd rfl h
  | coe r => rw [e2, Ideal.exp2_coe]; exact EReal.coe_ne_top _

/-- A power relative to an older maximum, rescaled to a newer one. -/
theorem rescale {x m m' : EReal} (hx : x ≠ ⊤) (hxm : x ≤ m) (hm : m ≠ ⊤) (hb : m' ≠ ⊥) (ht : m' ≠ ⊤) :
    e2 (m - m') * e2 (x - m) = e2 (x - m') := by
  induction x with
  | bot => simp [e2]
  | top => exact absurd rfl hx
  | coe r =>
    induction m with
    | bot => exact absurd (le_bot_iff.1 hxm) (EReal.coe_ne_bot r)
    | top => exact absurd rfl hm
    | coe a =>
      induction m' with
      | bot => exact absurd rfl hb
      | top => exact absurd rfl ht
      | coe b =>
        rw [e2, e2, e2, ← EReal.coe_sub, ← EReal.coe_sub, ← EReal.coe_sub, Ideal.exp2_coe, Ideal.exp2_coe, Ideal.exp2_coe,
          ← EReal.coe_mul]
        congr 1
        show (2 : ℝ) ^ (a - b) * (2 : ℝ) ^ (r - a) = (2 : ℝ) ^ (r - b)
        rw [← Real.rpow_add (by norm_num)]
        congr 1
        ring

/-- A nonnegative factor below `⊤` goes into a finite sum. -/
theorem mul_sum {ι : Type*} {c : EReal} (hc : 0 ≤ c) (ht : c ≠ ⊤) (S : Finset ι) (f : ι → EReal) :
    c * ∑ i ∈ S, f i = ∑ i ∈ S, c * f i := by
  classical
  induction S using Finset.induction_on with
  | empty => simp
  | insert a S ha ih =>
    rw [Finset.sum_insert ha, Finset.sum_insert ha, EReal.left_distrib_of_nonneg_of_ne_top hc ht, ih]

section Step

variable {s : ℕ → Fin 512 → EReal} (hs : ∀ t j, s t j ≠ ⊤) (k : ℕ) (hb : M s (k + 1) ≠ ⊥)
include hs hb

theorem scale_ne_top : e2 (M s k - M s (k + 1)) ≠ ⊤ := by
  apply e2_ne_top
  have h0 := M_ne_top hs k
  have h1 := M_ne_top hs (k + 1)
  revert h0 h1 hb
  induction M s k with
  | bot => intro _ _ _; simp
  | top => intro _ h _; exact absurd rfl h
  | coe a =>
    induction M s (k + 1) with
    | bot => intro h _ _; exact absurd rfl h
    | top => intro _ _ h; exact absurd rfl h
    | coe b => intro _ _ _; rw [← EReal.coe_sub]; exact EReal.coe_ne_top _

theorem L_succ : L s (k + 1) = e2 (M s k - M s (k + 1)) * L s k + ∑ j, e2 (s k j - M s (k + 1)) := by
  unfold L
  rw [Finset.sum_range_succ, mul_sum (e2_nonneg _) (scale_ne_top hs k hb)]
  congr 1
  refine Finset.sum_congr rfl fun t ht => ?_
  rw [mul_sum (e2_nonneg _) (scale_ne_top hs k hb)]
  refine Finset.sum_congr rfl fun j _ => (rescale (hs t j) (le_M (Finset.mem_range.1 ht) j) (M_ne_top hs k) hb (M_ne_top hs _)).symm

theorem A_succ (v : ℕ → Fin 512 → EReal) :
    A s v (k + 1) = e2 (M s k - M s (k + 1)) * A s v k + ∑ j, e2 (s k j - M s (k + 1)) * v k j := by
  unfold A
  rw [Finset.sum_range_succ, mul_sum (e2_nonneg _) (scale_ne_top hs k hb)]
  congr 1
  refine Finset.sum_congr rfl fun t ht => ?_
  rw [mul_sum (e2_nonneg _) (scale_ne_top hs k hb)]
  refine Finset.sum_congr rfl fun j _ => ?_
  rw [← mul_assoc, rescale (hs t j) (le_M (Finset.mem_range.1 ht) j) (M_ne_top hs k) hb (M_ne_top hs _)]

end Step

/-- Adding a real to every score of a tile adds it to the tile's largest. -/
theorem top_add (T : Fin 512 → EReal) (f : ℝ) : top T + (f : EReal) = top fun j => T j + (f : EReal) := by
  have hmono : Monotone fun x : EReal => x + (f : EReal) := fun a b h => add_le_add_left h _
  unfold top
  have := Finset.comp_sup_eq_sup_comp_of_is_total (s := Finset.univ) (f := T) (fun x : EReal => x + (f : EReal)) hmono (by simp)
  exact this

/-- The shift of a score by a real row term, taken before or after the maximum is subtracted. -/
theorem shift (T m : EReal) (f : ℝ) (hT : T ≠ ⊤) (hb : m ≠ ⊥) (ht : m ≠ ⊤) : T + ((f : EReal) - m) = T + (f : EReal) - m := by
  induction T with
  | bot => simp [sub_eq_add_neg]
  | top => exact absurd rfl hT
  | coe r =>
    induction m with
    | bot => exact absurd rfl hb
    | top => exact absurd rfl ht
    | coe b =>
      rw [← EReal.coe_sub, ← EReal.coe_add, ← EReal.coe_add, ← EReal.coe_sub]
      congr 1
      ring

/-- The kernel's step in its own words: the new maximum. -/
def mStep (m f : EReal) (T : Fin 512 → EReal) : EReal := max m (top T + f)
/-- The kernel's step: the tile's powers. -/
def pStep (m' f : EReal) (T : Fin 512 → EReal) (j : Fin 512) : EReal := e2 (T j + (f - m'))

section Kernel

variable {s : ℕ → Fin 512 → EReal} (hs : ∀ t j, s t j ≠ ⊤) (k : ℕ) (hb : M s (k + 1) ≠ ⊥) (f : ℝ) {T : Fin 512 → EReal}
  (hT : ∀ j, T j ≠ ⊤) (hsT : ∀ j, s k j = T j + (f : EReal))
include hs hb hT hsT

omit hs hb hT in
theorem mStep_eq : mStep (M s k) f T = M s (k + 1) := by
  rw [mStep, M_succ, top_add]
  congr 1
  exact congrArg top (funext fun j => (hsT j).symm)

theorem pStep_eq (j : Fin 512) : pStep (M s (k + 1)) f T j = e2 (s k j - M s (k + 1)) := by
  rw [pStep, shift _ _ _ (hT j) hb (M_ne_top hs _), ← hsT]

end Kernel

/-- Tiles of scores all `⊥` change nothing. -/
theorem M_stable {s : ℕ → Fin 512 → EReal} {k : ℕ} (h : ∀ t, k ≤ t → ∀ j, s t j = ⊥) (d : ℕ) : M s (k + d) = M s k := by
  induction d with
  | zero => rfl
  | succ d ih =>
    rw [← add_assoc, M_succ, ih]
    apply max_eq_left
    refine Finset.sup_le fun j _ => ?_
    rw [h _ (Nat.le_add_right _ _)]
    exact bot_le

theorem A_stable {s : ℕ → Fin 512 → EReal} (v : ℕ → Fin 512 → EReal) {k : ℕ} (h : ∀ t, k ≤ t → ∀ j, s t j = ⊥) (d : ℕ) :
    A s v (k + d) = A s v k := by
  unfold A
  rw [M_stable h, Finset.sum_range_add]
  rw [Finset.sum_eq_zero (s := Finset.range d), add_zero]
  intro t _
  refine Finset.sum_eq_zero fun j _ => ?_
  rw [h _ (Nat.le_add_right _ _)]
  simp [e2]

theorem L_stable {s : ℕ → Fin 512 → EReal} {k : ℕ} (h : ∀ t, k ≤ t → ∀ j, s t j = ⊥) (d : ℕ) : L s (k + d) = L s k := by
  unfold L
  rw [M_stable h, Finset.sum_range_add]
  rw [Finset.sum_eq_zero (s := Finset.range d), add_zero]
  intro t _
  refine Finset.sum_eq_zero fun j _ => ?_
  rw [h _ (Nat.le_add_right _ _)]
  simp [e2]

/-- A finite sum of reals, read among the extended reals. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The largest is attained by some score, so its power is one and the sum of powers is positive. -/
theorem L_real {s : ℕ → Fin 512 → EReal} (hs : ∀ t j, s t j ≠ ⊤) {k : ℕ} (hb : M s k ≠ ⊥) :
    ∃ l : ℝ, 0 < l ∧ L s k = (l : EReal) := by
  have hx : ∀ t j, e2 (s t j - M s k) ≠ ⊤ := fun t j => e2_ne_top (by
    have h0 := hs t j
    have h1 := M_ne_top hs k
    revert h0 h1 hb
    induction s t j with
    | bot => intro _ _ _; simp [sub_eq_add_neg]
    | top => intro _ h _; exact absurd rfl h
    | coe a =>
      induction M s k with
      | bot => intro h _ _; exact absurd rfl h
      | top => intro _ _ h; exact absurd rfl h
      | coe b => intro _ _ _; rw [← EReal.coe_sub]; exact EReal.coe_ne_top _)
  have hy : ∀ t j, ∃ y : ℝ, 0 ≤ y ∧ e2 (s t j - M s k) = (y : EReal) := fun t j =>
    ⟨_, EReal.toReal_nonneg (e2_nonneg _),
      (EReal.coe_toReal (hx t j) (ne_of_gt (lt_of_lt_of_le EReal.bot_lt_zero (e2_nonneg _)))).symm⟩
  choose y hy0 hy1 using hy
  -- a score that attains the maximum
  obtain ⟨t₀, ht₀, j₀, hj₀⟩ : ∃ t < k, ∃ j, s t j ≠ ⊥ := by
    by_contra hcon
    push Not at hcon
    apply hb
    apply le_bot_iff.1
    refine Finset.sup_le fun t ht => Finset.sup_le fun j _ => ?_
    rw [hcon t (Finset.mem_range.1 ht) j]
  have hpos : 0 < y t₀ j₀ := by
    have h := hy1 t₀ j₀
    have h0 := hs t₀ j₀
    have h1 := M_ne_top hs k
    revert h h0 h1 hb hj₀
    induction s t₀ j₀ with
    | bot => intro _ h; exact absurd rfl h
    | top => intro _ _ _ h; exact absurd rfl h
    | coe a =>
      induction M s k with
      | bot => intro h; exact absurd rfl h
      | top => intro _ _ _ _ h; exact absurd rfl h
      | coe b =>
        intro _ _ h _ _
        rw [e2, ← EReal.coe_sub, Ideal.exp2_coe, EReal.coe_eq_coe_iff] at h
        rw [← h]
        exact Real.rpow_pos_of_pos (by norm_num) _
  refine ⟨∑ t ∈ Finset.range k, ∑ j, y t j, ?_, ?_⟩
  · refine Finset.sum_pos' (fun t _ => Finset.sum_nonneg fun j _ => hy0 t j) ⟨t₀, Finset.mem_range.2 ht₀, ?_⟩
    exact Finset.sum_pos' (fun j _ => hy0 t₀ j) ⟨j₀, Finset.mem_univ _, hpos⟩
  · unfold L
    rw [coe_sum]
    refine Finset.sum_congr rfl fun t _ => ?_
    rw [coe_sum]
    exact Finset.sum_congr rfl fun j _ => hy1 t j

end Cert.Proof.Softmax
-- ==== Proof.Tile.lean ====
/- One tile of the kernel's attention at the ideal values: the vector operations one head applies to a tile of 512 keys, as five
   definitions, each read at an index, and the step they make of the running maximum, sum and weighted sum (Softmax.lean). -/
module

public import proofs.«01_k».proof.Proof.Gen.KernelIdeal.Skeleton
public import proofs.«01_k».proof.Proof.Softmax
public import Idealize.ShloMosaic.Lib.Pointwise

@[expose] public section

set_option maxRecDepth 16384

noncomputable section

namespace Cert.Proof.Tile

open Cert.KernelIdeal Cert.KernelIdeal.Gen Idealize.ShloMosaic Cert.Proof.Softmax

/-- The scores of a tile before the row term: queries times keys, less the keys' row. -/
def score (q : FVec Ideal S512x128 .bf16) (k : FVec Ideal S512x128 .bf16) (g : FVec Ideal S1x512 .f32) : FVec Ideal S512x512 .f32 :=
  subf (matmul dot_S512x128_S512x128_S512x512_1_1_0_0_n_n none q k (constant S512x512 .f32 0x00000000#32))
    (broadcastTo S512x512 g broadcasts_S1x512_S512x512)

/-- The mask of the diagonal tile. -/
def masked (T : FVec Ideal S512x512 .f32) : FVec Ideal S512x512 .f32 :=
  select (cmpi .sle (iota .tc S512x512 32 [1] iota_S512x512_d1_w32) (iota .tc S512x512 32 [0] iota_S512x512_d0_w32)) T
    (broadcast S512x512 (Named.named κ "mask" 0xF149F2CA#32))

/-- The new running maximum. -/
def newM (T : FVec Ideal S512x512 .f32) (m f : FVec Ideal S512x128 .f32) : FVec Ideal S512x128 .f32 :=
  maximumf m (addf (broadcastTo S512x128 (shapeCast S512x1
    (multiReduction .maximumf [1] S512 T 0xFF800000#32 reduces_S512x512_S512 (.inl rfl) rfl)
    shapeCasts_S512_S512x1) broadcasts_S512x1_S512x128) f)

/-- The powers of the tile's scores relative to the new maximum. -/
def pow (T : FVec Ideal S512x512 .f32) (f m' : FVec Ideal S512x128 .f32) : FVec Ideal S512x512 .f32 :=
  exp2 (addf T (concatenate S512x512 1 [⟨S512x128, subf f m'⟩, ⟨S512x128, subf f m'⟩, ⟨S512x128, subf f m'⟩, ⟨S512x128, subf f m'⟩]
    concatenates_S512x128_S512x128_S512x128_S512x128_S512x512_d1))

/-- The factor from the old maximum to the new one. -/
def scale (m m' : FVec Ideal S512x128 .f32) : FVec Ideal S512x128 .f32 := exp2 (subf m m')

/-- The new running sum. -/
def newL (al l : FVec Ideal S512x128 .f32) (p : FVec Ideal S512x512 .f32) : FVec Ideal S512x128 .f32 :=
  addf (mulf al l) (broadcastTo S512x128 (shapeCast S512x1
    (multiReduction .add [1] S512 p 0x00000000#32 reduces_S512x512_S512 (.inl rfl) rfl) shapeCasts_S512_S512x1) broadcasts_S512x1_S512x128)

/-- The new running weighted sum. -/
def newA (al a : FVec Ideal S512x128 .f32) (p : FVec Ideal S512x512 .f32) (v : FVec Ideal S512x128 .bf16) : FVec Ideal S512x128 .f32 :=
  addf (mulf al a) (matmul dot_S512x512_S512x128_S512x128_1_0_0_1_n_n none (truncf .bf16 p bitsLt_bf16_f32) v
    (constant S512x128 .f32 0x00000000#32))

theorem score_apply (q k : FVec Ideal S512x128 .bf16) (g : FVec Ideal S1x512 .f32) (r j : Fin 512) :
    score q k g (ix2 r j) = (∑ d : Fin 128, q (ix2 r d) * k (ix2 j d)) - g (ix2 0 j) := by
  pointwise [score]

/-- The pattern of minus infinity. -/
theorem ofBits_neg_inf : Ideal.ofBits .f32 0xFF800000#32 = ⊥ := by simp [Ideal.ofBits, Ideal.ieee]

theorem newM_apply (T : FVec Ideal S512x512 .f32) (m f : FVec Ideal S512x128 .f32) (r : Fin 512) (c : Fin 128) :
    newM T m f (ix2 r c) = mStep (m (ix2 r c)) (f (ix2 r c)) fun j => T (ix2 r j) := by
  pointwise [newM]
  rw [mStep, ofBits_neg_inf]
  rfl

theorem pow_apply (T : FVec Ideal S512x512 .f32) (f m' : FVec Ideal S512x128 .f32) (r j : Fin 512) :
    pow T f m' (ix2 r j) = e2 (T (ix2 r j) + (f (ix2 r ⟨j.val % 128, by omega⟩) - m' (ix2 r ⟨j.val % 128, by omega⟩))) := by
  pointwise [pow]
  show Ideal.exp2 _ = Ideal.exp2 _
  congr 2
  have key : ∀ (x : Fin 128 → EReal),
      (if h : j.val < 128 then x ⟨j.val, h⟩ else if h : j.val - 128 < 128 then x ⟨j.val - 128, h⟩ else
        if h : j.val - 128 - 128 < 128 then x ⟨j.val - 128 - 128, h⟩ else x ⟨j.val - 128 - 128 - 128, by omega⟩)
      = x ⟨j.val % 128, by omega⟩ := fun x => by
    split
    · congr 2; omega
    · split
      · congr 2; omega
      · split
        · congr 2; omega
        · congr 2; omega
  exact key fun c => f (ix2 r c) - m' (ix2 r c)

theorem scale_apply (m m' : FVec Ideal S512x128 .f32) (i : S512x128.Idx) : scale m m' i = e2 (m i - m' i) := by
  pointwise [scale]
  rfl

theorem newL_apply (al l : FVec Ideal S512x128 .f32) (p : FVec Ideal S512x512 .f32) (r : Fin 512) (c : Fin 128) :
    newL al l p (ix2 r c) = al (ix2 r c) * l (ix2 r c) + ∑ j : Fin 512, p (ix2 r j) := by
  pointwise [newL]

theorem newA_apply (al a : FVec Ideal S512x128 .f32) (p : FVec Ideal S512x512 .f32) (v : FVec Ideal S512x128 .bf16) (r : Fin 512)
    (c : Fin 128) :
    newA al a p v (ix2 r c) = al (ix2 r c) * a (ix2 r c) + ∑ j : Fin 512, p (ix2 r j) * v (ix2 j c) := by
  pointwise [newA]

/-- The signed comparison of two small naturals. -/
theorem cmp_le {n : ℕ} (hn : n ≤ 2 ^ 31) (a b : Fin n) :
    IntOp.cmpi .sle (BitVec.ofNat 32 a.val) (BitVec.ofNat 32 b.val) = BitVec.ofBool (decide (a.val ≤ b.val)) := by
  have ha := a.isLt
  have hb := b.isLt
  have ea : (BitVec.ofNat 32 a.val).toInt = a.val := by
    rw [BitVec.toInt_ofNat', Int.bmod_def]; omega
  have eb : (BitVec.ofNat 32 b.val).toInt = b.val := by
    rw [BitVec.toInt_ofNat', Int.bmod_def]; omega
  simp [IntOp.cmpi, BitVec.sle, ea, eb]

theorem masked_apply (T : FVec Ideal S512x512 .f32) (r j : Fin 512) :
    masked T (ix2 r j) = if j.val ≤ r.val then T (ix2 r j) else ⊥ := by
  pointwise [masked]
  rw [show Named.named (F := Ideal) κ "mask" (φ := .f32) 0xF149F2CA#32 = ⊥ from rfl]
  by_cases h : j.val ≤ r.val
  · rw [if_pos h, show IntOp.cmpi .sle (BitVec.ofNat 32 j.val) (BitVec.ofNat 32 r.val) = 1#1 from ?_]
    · rfl
    · exact (cmp_le (by norm_num) j r).trans (by simp [h])
  · rw [if_neg h, show IntOp.cmpi .sle (BitVec.ofNat 32 j.val) (BitVec.ofNat 32 r.val) = 0#1 from ?_]
    · rfl
    · exact (cmp_le (by norm_num) j r).trans (by simp [h])

/-- One tile's step on one row. The maximum and the row term are the same in every lane; after the step the three running values
    are those of one more tile. -/
theorem step {s : ℕ → Fin 512 → EReal} (hs : ∀ t j, s t j ≠ ⊤) (k : ℕ) (hb : M s (k + 1) ≠ ⊥) (f₀ : ℝ) (v : Fin 128 → ℕ → Fin 512 → EReal)
    (T : FVec Ideal S512x512 .f32) (m f l a : FVec Ideal S512x128 .f32) (V : FVec Ideal S512x128 .bf16) (r : Fin 512)
    (hT : ∀ j, T (ix2 r j) ≠ ⊤) (hsT : ∀ j, s k j = T (ix2 r j) + (f₀ : EReal))
    (hm : ∀ c, m (ix2 r c) = M s k) (hf : ∀ c, f (ix2 r c) = (f₀ : EReal)) (hl : ∀ c, l (ix2 r c) = L s k)
    (ha : ∀ c, a (ix2 r c) = A s (v c) k) (hV : ∀ j c, V (ix2 j c) = v c k j) (c : Fin 128) :
    newM T m f (ix2 r c) = M s (k + 1)
      ∧ newL (scale m (newM T m f)) l (pow T f (newM T m f)) (ix2 r c) = L s (k + 1)
      ∧ newA (scale m (newM T m f)) a (pow T f (newM T m f)) V (ix2 r c) = A s (v c) (k + 1) := by
  have h1 : ∀ c, newM T m f (ix2 r c) = M s (k + 1) := fun c => by
    rw [newM_apply, hm, hf]; exact mStep_eq k f₀ hsT
  have h2 : ∀ j, pow T f (newM T m f) (ix2 r j) = e2 (s k j - M s (k + 1)) := fun j => by
    rw [pow_apply, hf, h1]; exact pStep_eq hs k hb f₀ hT hsT j
  have h3 : scale m (newM T m f) (ix2 r c) = e2 (M s k - M s (k + 1)) := by rw [scale_apply, hm, h1]
  refine ⟨h1 c, ?_, ?_⟩
  · rw [newL_apply, h3, hl, L_succ hs k hb]
    simp only [h2]
  · rw [newA_apply, h3, ha, A_succ hs k hb]
    simp only [h2, hV]

end Cert.Proof.Tile
-- ==== Proof.Trip.lean ====
/- One trip of the kernel's loop over the tiles below the diagonal: what the three running buffers hold after it, head by head, as the
   step of Tile.lean on what they held before. -/
module

public import proofs.«01_k».proof.Proof.Gen.KernelIdeal.Value
public import proofs.«01_k».proof.Proof.Slab
public import proofs.«01_k».proof.Proof.Tile

@[expose] public section

set_option maxRecDepth 16384

noncomputable section

namespace Cert.Proof.Trip

open Cert.KernelIdeal Cert.KernelIdeal.Gen Idealize.ShloMosaic Idealize.ShloMosaic.TcCoe Idealize.SL.Sem Cert.Proof.Slab Cert.Proof.Tile

/-- The row of key terms of head `h`, from the tile's two rows. -/
def keyRow (W : FVec Ideal S1x1x1x2x512 .f32) (h : Fin 2) : FVec Ideal S1x512 .f32 := fun y => W (ix5 0 0 0 h (y 1))

theorem keyRow0 (W : FVec Ideal S1x1x1x2x512 .f32) :
    extractStridedSlice S1x512 ![0, 0] (shapeCast S2x512 W shapeCasts_S1x1x1x2x512_S2x512) slices_S2x512_o0_0_S1x512 = keyRow W 0 := by
  funext y
  obtain ⟨r, c, rfl⟩ : ∃ r c, y = ix2 (n0 := 1) (n1 := 512) r c := ⟨y 0, y 1, eq_ix2 y⟩
  pointwise [keyRow]

theorem keyRow1 (W : FVec Ideal S1x1x1x2x512 .f32) :
    extractStridedSlice S1x512 ![1, 0] (shapeCast S2x512 W shapeCasts_S1x1x1x2x512_S2x512) slices_S2x512_o1_0_S1x512 = keyRow W 1 := by
  funext y
  obtain ⟨r, c, rfl⟩ : ∃ r c, y = ix2 (n0 := 1) (n1 := 512) r c := ⟨y 0, y 1, eq_ix2 y⟩
  pointwise [keyRow]

section

variable (𝒱 : Variants) (c : Dev nD) (bd : Option 𝒱.V) (i : grid0.Coords) (arg3 : Memref sig .tc .vmem S512x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x512x2 .f32) (harg6 : arg6.IsWhole) (arg7 : Memref sig .tc .vmem S1x1x16x2x512 .f32) (harg7 : arg7.IsWhole) (arg8 : Memref sig .tc .vmem S1x128 .f32) (harg8 : arg8.IsWhole) (arg9 : Memref sig .tc .vmem S512x128 .bf16) (harg9 : arg9.IsWhole) (arg10 : Memref sig .tc .vmem S2x512x128 .bf16) (harg10 : arg10.IsWhole) (arg11 : Memref sig .tc .vmem S2x512x128 .f32) (harg11 : arg11.IsWhole) (arg12 : Memref sig .tc .vmem S2x512x128 .f32) (harg12 : arg12.IsWhole) (arg13 : Memref sig .tc .vmem S2x512x128 .f32) (harg13 : arg13.IsWhole) (arg14 : Memref sig .tc .vmem S2x512x128 .f32) (harg14 : arg14.IsWhole) (arg2 : BitVec 32) (v27 : FVec Ideal S2x512x128 .f32) (X_arg4 : BufTy.Contents (Elt Ideal) arg4.view.ty) (X_arg5 : BufTy.Contents (Elt Ideal) arg5.view.ty) (X_arg7 : BufTy.Contents (Elt Ideal) arg7.view.ty) (X_arg10 : BufTy.Contents (Elt Ideal) arg10.view.ty) (X_arg11 : BufTy.Contents (Elt Ideal) arg11.view.ty)
  (k : Fin (k0_t1_loop i).trips) (f12 : BufTy.Contents (Elt Ideal) arg12.view.ty) (f13 : BufTy.Contents (Elt Ideal) arg13.view.ty)
  (f14 : BufTy.Contents (Elt Ideal) arg14.view.ty)

/-- The tile's keys, values and key terms, as the trip loads them. -/
abbrev keys : FVec Ideal S512x128 .bf16 :=
  arg4.view.readAt (Elt Ideal) (Rect.unit (s := S8192x128) (k0_off2 i k) S512x128.size (k0_off2_inb i k)).toLoadRect X_arg4
abbrev vals : FVec Ideal S512x128 .bf16 :=
  arg5.view.readAt (Elt Ideal) (Rect.unit (s := S8192x128) (k0_off2 i k) S512x128.size (k0_off2_inb i k)).toLoadRect X_arg5
abbrev terms : FVec Ideal S1x1x1x2x512 .f32 :=
  arg7.view.readAt (Elt Ideal) (Rect.unit (s := S1x1x16x2x512) (k0_off1 i k) S1x1x1x2x512.size (k0_off1_inb i k)).toLoadRect X_arg7

/-- The scores of head `h` in the tile. -/
abbrev tileOf (h : Fin 2) : FVec Ideal S512x512 .f32 :=
  score (slab (arg10.view.read (Elt Ideal) X_arg10) h) (keys i arg4 X_arg4 k) (keyRow (terms i arg7 X_arg7 k) h)

/-- The new maximum of head `h`. -/
abbrev maxOf (h : Fin 2) : FVec Ideal S512x128 .f32 :=
  newM (tileOf i arg4 arg7 arg10 X_arg4 X_arg7 X_arg10 k h) (slab (arg12.view.read (Elt Ideal) f12) h) (slab (arg11.view.read (Elt Ideal) X_arg11) h)

theorem trip_m (h : Fin 2) :
    slab (arg12.view.read (Elt Ideal) (arg12.view.writes (Elt Ideal) f12 (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg2 v27 X_arg4 X_arg5 X_arg7 X_arg10 X_arg11 k f12 f13 f14).1)) h
      = maxOf i arg4 arg7 arg10 arg11 arg12 X_arg4 X_arg7 X_arg10 X_arg11 k f12 h := by
  unfold tripL_k0_t1 trip_k0_t1
  dsimp only
  sl_unfold_run_names
  obtain rfl | rfl : h = 0 ∨ h = 1 := by omega
  · refine (store _ _ _ _ _ _ [] 0).trans ?_
    rw [maxOf, tileOf, ← load0 arg10.view X_arg10 inb_S2x512x128_S1x512x128_0_0_0, ← load0 arg11.view X_arg11 inb_S2x512x128_S1x512x128_0_0_0, ← load0 arg12.view f12 inb_S2x512x128_S1x512x128_0_0_0, ← keyRow0]
    rfl
  · refine (store _ _ _ _ _ _ [] 1).trans ?_
    rw [maxOf, tileOf, ← load1 arg10.view X_arg10 inb_S2x512x128_S1x512x128_1_0_0, ← load1 arg11.view X_arg11 inb_S2x512x128_S1x512x128_1_0_0, ← load1 arg12.view f12 inb_S2x512x128_S1x512x128_1_0_0, ← keyRow1]
    rfl

theorem trip_l (h : Fin 2) :
    slab (arg13.view.read (Elt Ideal) (arg13.view.writes (Elt Ideal) f13 (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg2 v27 X_arg4 X_arg5 X_arg7 X_arg10 X_arg11 k f12 f13 f14).2.1)) h
      = newL (scale (slab (arg12.view.read (Elt Ideal) f12) h) (maxOf i arg4 arg7 arg10 arg11 arg12 X_arg4 X_arg7 X_arg10 X_arg11 k f12 h))
          (slab (arg13.view.read (Elt Ideal) f13) h)
          (pow (tileOf i arg4 arg7 arg10 X_arg4 X_arg7 X_arg10 k h) (slab (arg11.view.read (Elt Ideal) X_arg11) h)
            (maxOf i arg4 arg7 arg10 arg11 arg12 X_arg4 X_arg7 X_arg10 X_arg11 k f12 h)) := by
  unfold tripL_k0_t1 trip_k0_t1
  dsimp only
  sl_unfold_run_names
  obtain rfl | rfl : h = 0 ∨ h = 1 := by omega
  · refine (store _ _ _ _ _ _ [] 0).trans ?_
    rw [maxOf, tileOf, ← load0 arg10.view X_arg10 inb_S2x512x128_S1x512x128_0_0_0, ← load0 arg11.view X_arg11 inb_S2x512x128_S1x512x128_0_0_0, ← load0 arg12.view f12 inb_S2x512x128_S1x512x128_0_0_0, ← load0 arg13.view f13 inb_S2x512x128_S1x512x128_0_0_0, ← keyRow0]
    rfl
  · refine (store _ _ _ _ _ _ [] 1).trans ?_
    rw [maxOf, tileOf, ← load1 arg10.view X_arg10 inb_S2x512x128_S1x512x128_1_0_0, ← load1 arg11.view X_arg11 inb_S2x512x128_S1x512x128_1_0_0, ← load1 arg12.view f12 inb_S2x512x128_S1x512x128_1_0_0, ← load1 arg13.view f13 inb_S2x512x128_S1x512x128_1_0_0, ← keyRow1]
    rfl

theorem trip_a (h : Fin 2) :
    slab (arg14.view.read (Elt Ideal) (arg14.view.writes (Elt Ideal) f14 (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg2 v27 X_arg4 X_arg5 X_arg7 X_arg10 X_arg11 k f12 f13 f14).2.2)) h
      = newA (scale (slab (arg12.view.read (Elt Ideal) f12) h) (maxOf i arg4 arg7 arg10 arg11 arg12 X_arg4 X_arg7 X_arg10 X_arg11 k f12 h))
          (slab (arg14.view.read (Elt Ideal) f14) h)
          (pow (tileOf i arg4 arg7 arg10 X_arg4 X_arg7 X_arg10 k h) (slab (arg11.view.read (Elt Ideal) X_arg11) h)
            (maxOf i arg4 arg7 arg10 arg11 arg12 X_arg4 X_arg7 X_arg10 X_arg11 k f12 h))
          (vals i arg5 X_arg5 k) := by
  unfold tripL_k0_t1 trip_k0_t1
  dsimp only
  sl_unfold_run_names
  obtain rfl | rfl : h = 0 ∨ h = 1 := by omega
  · refine (store _ _ _ _ _ _ [] 0).trans ?_
    rw [maxOf, tileOf, ← load0 arg10.view X_arg10 inb_S2x512x128_S1x512x128_0_0_0, ← load0 arg11.view X_arg11 inb_S2x512x128_S1x512x128_0_0_0, ← load0 arg12.view f12 inb_S2x512x128_S1x512x128_0_0_0, ← load0 arg14.view f14 inb_S2x512x128_S1x512x128_0_0_0, ← keyRow0]
    rfl
  · refine (store _ _ _ _ _ _ [] 1).trans ?_
    rw [maxOf, tileOf, ← load1 arg10.view X_arg10 inb_S2x512x128_S1x512x128_1_0_0, ← load1 arg11.view X_arg11 inb_S2x512x128_S1x512x128_1_0_0, ← load1 arg12.view f12 inb_S2x512x128_S1x512x128_1_0_0, ← load1 arg14.view f14 inb_S2x512x128_S1x512x128_1_0_0, ← keyRow1]
    rfl

end

end Cert.Proof.Trip
-- ==== Proof.Loop.lean ====
/- The kernel's loop over the tiles below the diagonal, by induction on its trips: before trip `k` the three running buffers hold the
   maximum, the sum and the weighted sum of the first `k` tiles. -/
module

public import proofs.«01_k».proof.Proof.Trip

@[expose] public section

set_option maxRecDepth 16384

noncomputable section

namespace Cert.Proof.Loop

open Cert.KernelIdeal Cert.KernelIdeal.Gen Idealize.ShloMosaic Idealize.ShloMosaic.TcCoe Idealize.SL.Sem Cert.Proof.Slab Cert.Proof.Tile
open Cert.Proof.Softmax Cert.Proof.Trip

/-! ## The offsets and trip counts in closed form -/

theorem trips1 (i : grid0.Coords) : (k0_t1_loop i).trips = (i 2).val := by
  have h : ∀ n : Fin 16, Scf.trips 0#32 (Scalar.addi 0#32 (Scalar.muli (Scalar.divsi (Scalar.subi (BitVec.ofNat 32 n.val) 0#32) 1#32) 1#32)) 1#32
      = n.val := by decide +kernel
  exact h (i 2)

theorem trips2 (i : grid0.Coords) : (k0_t2_loop i).trips = 0 := by
  have h : ∀ n : Fin 16, Scf.trips (Scalar.addi 0#32 (Scalar.muli (Scalar.divsi (Scalar.subi (BitVec.ofNat 32 n.val) 0#32) 1#32) 1#32))
      (Scalar.addi 0#32 (Scalar.subi (BitVec.ofNat 32 n.val) 0#32)) 1#32 = 0 := by decide +kernel
  exact h (i 2)

theorem trip_lt (i : grid0.Coords) (k : Fin (k0_t1_loop i).trips) : k.val < 16 := by
  have h := k.isLt
  have h2 : (i 2).val < 16 := (i 2).isLt
  have e := trips1 i
  exact lt_of_lt_of_le (h.trans_le e.le) h2.le

theorem off1 (i : grid0.Coords) (k : Fin (k0_t1_loop i).trips) : k0_off1 i k = ![0, 0, k.val, 0, 0] := by
  have h : ∀ n : Fin 16, (Scalar.indexCast (Scf.iv 0#32 1#32 n.val) : Index).toNat = n.val := by decide +kernel
  show ![0, 0, (Scalar.indexCast (Scf.iv 0#32 1#32 k.val) : Index).toNat, 0, 0] = _
  rw [h ⟨k.val, trip_lt i k⟩]

theorem off2 (i : grid0.Coords) (k : Fin (k0_t1_loop i).trips) : k0_off2 i k = ![k.val * 512, 0] := by
  have h : ∀ n : Fin 16, (Scalar.indexCast (Scalar.muli (Scf.iv 0#32 1#32 n.val) 512#32) : Index).toNat = n.val * 512 := by decide +kernel
  show ![(Scalar.indexCast (Scalar.muli (Scf.iv 0#32 1#32 k.val) 512#32) : Index).toNat, 0] = _
  rw [h ⟨k.val, trip_lt i k⟩]

theorem off5 (i : grid0.Coords) : k0_off5 i = ![0, 0, (i 2).val, 0, 0] := by
  have h : ∀ n : Fin 16, (Scalar.indexCast (BitVec.ofNat 32 n.val) : Index).toNat = n.val := by decide +kernel
  show ![0, 0, (Scalar.indexCast (BitVec.ofNat 32 (i 2).val) : Index).toNat, 0, 0] = _
  rw [h (i 2)]

theorem off6 (i : grid0.Coords) : k0_off6 i = ![(i 2).val * 512, 0] := by
  have h : ∀ n : Fin 16, (Scalar.indexCast (Scalar.muli (BitVec.ofNat 32 n.val) 512#32) : Index).toNat = n.val * 512 := by decide +kernel
  show ![(Scalar.indexCast (Scalar.muli (BitVec.ofNat 32 (i 2).val) 512#32) : Index).toNat, 0] = _
  rw [h (i 2)]

/-! ## The invariant -/

/-- The three buffers hold the first `k` tiles' maximum, sum and weighted sum, for each head, row and lane. -/
def Good (s : Fin 2 → Fin 512 → ℕ → Fin 512 → EReal) (v : Fin 128 → ℕ → Fin 512 → EReal) (k : ℕ) (m l a : S2x512x128.Idx → EReal) : Prop :=
  ∀ h r c, slab m h (ix2 r c) = M (s h r) k ∧ slab l h (ix2 r c) = L (s h r) k ∧ slab a h (ix2 r c) = A (s h r) (v c) k

/-- A tile's step keeps it. -/
theorem good_step {s : Fin 2 → Fin 512 → ℕ → Fin 512 → EReal} {v : Fin 128 → ℕ → Fin 512 → EReal} {k : ℕ} {m l a m' l' a' : S2x512x128.Idx → EReal}
    (hs : ∀ h r t j, s h r t j ≠ ⊤) (hb : ∀ h r, M (s h r) (k + 1) ≠ ⊥) (f₀ : Fin 2 → Fin 512 → ℝ)
    (T : Fin 2 → FVec Ideal S512x512 .f32) (f : S2x512x128.Idx → EReal) (V : FVec Ideal S512x128 .bf16)
    (hT : ∀ h r j, T h (ix2 r j) ≠ ⊤) (hsT : ∀ h r j, s h r k j = T h (ix2 r j) + (f₀ h r : EReal))
    (hf : ∀ h r c, slab f h (ix2 r c) = (f₀ h r : EReal)) (hV : ∀ j c, V (ix2 j c) = v c k j) (hg : Good s v k m l a)
    (hm' : ∀ h, slab m' h = newM (T h) (slab m h) (slab f h))
    (hl' : ∀ h, slab l' h = newL (scale (slab m h) (newM (T h) (slab m h) (slab f h))) (slab l h)
      (pow (T h) (slab f h) (newM (T h) (slab m h) (slab f h))))
    (ha' : ∀ h, slab a' h = newA (scale (slab m h) (newM (T h) (slab m h) (slab f h))) (slab a h)
      (pow (T h) (slab f h) (newM (T h) (slab m h) (slab f h))) V) :
    Good s v (k + 1) m' l' a' := by
  intro h r c
  rw [hm', hl', ha']
  exact step (hs h r) k (hb h r) (f₀ h r) v (T h) (slab m h) (slab f h) (slab l h) (slab a h) V r (hT h r) (hsT h r)
    (fun c => (hg h r c).1) (hf h r) (fun c => (hg h r c).2.1) (fun c => (hg h r c).2.2) hV c

section

variable (𝒱 : Variants) (c : Dev nD) (bd : Option 𝒱.V) (i : grid0.Coords) (arg3 : Memref sig .tc .vmem S512x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x512x2 .f32) (harg6 : arg6.IsWhole) (arg7 : Memref sig .tc .vmem S1x1x16x2x512 .f32) (harg7 : arg7.IsWhole) (arg8 : Memref sig .tc .vmem S1x128 .f32) (harg8 : arg8.IsWhole) (arg9 : Memref sig .tc .vmem S512x128 .bf16) (harg9 : arg9.IsWhole) (arg10 : Memref sig .tc .vmem S2x512x128 .bf16) (harg10 : arg10.IsWhole) (arg11 : Memref sig .tc .vmem S2x512x128 .f32) (harg11 : arg11.IsWhole) (arg12 : Memref sig .tc .vmem S2x512x128 .f32) (harg12 : arg12.IsWhole) (arg13 : Memref sig .tc .vmem S2x512x128 .f32) (harg13 : arg13.IsWhole) (arg14 : Memref sig .tc .vmem S2x512x128 .f32) (harg14 : arg14.IsWhole) (arg2 : BitVec 32) (v27 : FVec Ideal S2x512x128 .f32) (X_arg4 : BufTy.Contents (Elt Ideal) arg4.view.ty) (X_arg5 : BufTy.Contents (Elt Ideal) arg5.view.ty) (X_arg7 : BufTy.Contents (Elt Ideal) arg7.view.ty) (X_arg10 : BufTy.Contents (Elt Ideal) arg10.view.ty) (X_arg11 : BufTy.Contents (Elt Ideal) arg11.view.ty)
  (G12 : BufTy.Contents (Elt Ideal) arg12.view.ty) (G13 : BufTy.Contents (Elt Ideal) arg13.view.ty)
  (G14 : BufTy.Contents (Elt Ideal) arg14.view.ty)

/-- Before trip `n` the buffers hold the first `n` tiles' values. -/
theorem loop {s : Fin 2 → Fin 512 → ℕ → Fin 512 → EReal} {v : Fin 128 → ℕ → Fin 512 → EReal}
    (hs : ∀ h r t j, s h r t j ≠ ⊤) (hb : ∀ h r k, M (s h r) (k + 1) ≠ ⊥) (f₀ : Fin 2 → Fin 512 → ℝ)
    (hT : ∀ k h r j, tileOf i arg4 arg7 arg10 X_arg4 X_arg7 X_arg10 k h (ix2 r j) ≠ ⊤)
    (hsT : ∀ (k : Fin (k0_t1_loop i).trips) h r j, s h r k.val j = tileOf i arg4 arg7 arg10 X_arg4 X_arg7 X_arg10 k h (ix2 r j) + (f₀ h r : EReal))
    (hf : ∀ h r c, slab (arg11.view.read (Elt Ideal) X_arg11) h (ix2 r c) = (f₀ h r : EReal))
    (hV : ∀ (k : Fin (k0_t1_loop i).trips) j c, vals i arg5 X_arg5 k (ix2 j c) = v c k.val j)
    (h0 : Good s v 0 (arg12.view.read (Elt Ideal) G12) (arg13.view.read (Elt Ideal) G13) (arg14.view.read (Elt Ideal) G14)) :
    ∀ n ≤ (k0_t1_loop i).trips, Good s v n
      (arg12.view.read (Elt Ideal) (arg12.view.writes (Elt Ideal) G12 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg2 v27 X_arg4 X_arg5 X_arg7 X_arg10 X_arg11 G12 G13 G14 n).1))
      (arg13.view.read (Elt Ideal) (arg13.view.writes (Elt Ideal) G13 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg2 v27 X_arg4 X_arg5 X_arg7 X_arg10 X_arg11 G12 G13 G14 n).2.1))
      (arg14.view.read (Elt Ideal) (arg14.view.writes (Elt Ideal) G14 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg2 v27 X_arg4 X_arg5 X_arg7 X_arg10 X_arg11 G12 G13 G14 n).2.2)) := by
  intro n
  induction n with
  | zero => intro _; exact h0
  | succ n ih =>
    intro hn
    have hg := ih (by omega)
    let k : Fin (k0_t1_loop i).trips := ⟨n, by omega⟩
    have e := pb_k0_t1_succ (F := Ideal) 𝒱 c bd i arg3 harg3 arg4 harg4 arg5 harg5 arg6 harg6 arg7 harg7 arg8 harg8 arg9 harg9 arg10 harg10 arg11 harg11 arg12 harg12 arg13 harg13 arg14 harg14 arg2 v27 X_arg4 X_arg5 X_arg7 X_arg10 X_arg11 G12 G13 G14 k
    rw [show n + 1 = k.val + 1 from rfl, e]
    dsimp only
    rw [View.writes_append, View.writes_append, View.writes_append]
    exact good_step hs (fun h r => hb h r n) f₀ (tileOf i arg4 arg7 arg10 X_arg4 X_arg7 X_arg10 k) _ _ (hT k) (hsT k) hf (hV k) hg
      (trip_m 𝒱 c bd i arg3 harg3 arg4 harg4 arg5 harg5 arg6 harg6 arg7 harg7 arg8 harg8 arg9 harg9 arg10 harg10 arg11 harg11 arg12 harg12 arg13 harg13 arg14 harg14 arg2 v27 X_arg4 X_arg5 X_arg7 X_arg10 X_arg11 k _ _ _) (trip_l 𝒱 c bd i arg3 harg3 arg4 harg4 arg5 harg5 arg6 harg6 arg7 harg7 arg8 harg8 arg9 harg9 arg10 harg10 arg11 harg11 arg12 harg12 arg13 harg13 arg14 harg14 arg2 v27 X_arg4 X_arg5 X_arg7 X_arg10 X_arg11 k _ _ _) (trip_a 𝒱 c bd i arg3 harg3 arg4 harg4 arg5 harg5 arg6 harg6 arg7 harg7 arg8 harg8 arg9 harg9 arg10 harg10 arg11 harg11 arg12 harg12 arg13 harg13 arg14 harg14 arg2 v27 X_arg4 X_arg5 X_arg7 X_arg10 X_arg11 k _ _ _)

end

end Cert.Proof.Loop
-- ==== Proof.Final.lean ====
/- The kernel's body at a grid point: what it leaves in the output's block, as the diagonal tile's step on what the loop left, the
   division, and the two heads' normalisation. -/
module

public import proofs.«01_k».proof.Proof.Loop

@[expose] public section

set_option maxRecDepth 16384

noncomputable section

namespace Cert.Proof.Final

open Cert.KernelIdeal Cert.KernelIdeal.Gen Idealize.ShloMosaic Idealize.ShloMosaic.TcCoe Idealize.SL.Sem Cert.Proof.Slab Cert.Proof.Tile
open Cert.Proof.Softmax Cert.Proof.Trip Cert.Proof.Loop

/-! ## The diagonal tile -/

/-- The diagonal tile's scores of head `h`. -/
def dT (q : S2x512x128.Idx → EReal) (K : FVec Ideal S512x128 .bf16) (W : FVec Ideal S1x1x1x2x512 .f32) (h : Fin 2) : FVec Ideal S512x512 .f32 :=
  masked (score (slab q h) K (keyRow W h))

/-- The last maximum, sum and weighted sum of head `h`. -/
def dM (q f m : S2x512x128.Idx → EReal) (K : FVec Ideal S512x128 .bf16) (W : FVec Ideal S1x1x1x2x512 .f32) (h : Fin 2) : FVec Ideal S512x128 .f32 :=
  newM (dT q K W h) (slab m h) (slab f h)
def dL (q f m l : S2x512x128.Idx → EReal) (K : FVec Ideal S512x128 .bf16) (W : FVec Ideal S1x1x1x2x512 .f32) (h : Fin 2) : FVec Ideal S512x128 .f32 :=
  newL (scale (slab m h) (dM q f m K W h)) (slab l h) (pow (dT q K W h) (slab f h) (dM q f m K W h))
def dA (q f m a : S2x512x128.Idx → EReal) (K V : FVec Ideal S512x128 .bf16) (W : FVec Ideal S1x1x1x2x512 .f32) (h : Fin 2) : FVec Ideal S512x128 .f32 :=
  newA (scale (slab m h) (dM q f m K W h)) (slab a h) (pow (dT q K W h) (slab f h) (dM q f m K W h)) V

/-- A block stored whole is what was stored. -/
theorem store_block (v : View sig .tc .vmem S512x128 .bf16) (f : v.ty.Contents (Elt Ideal)) (w : S512x128.Idx → EReal) (inb) :
    v.read (Elt Ideal) (v.writes (Elt Ideal) f [(⟨Rect.unit (s := S512x128) ![0, 0] S512x128.size inb, w⟩ : View.Piece (Elt Ideal) S512x128 .bf16)]) = w := by
  funext y
  refine View.read_writes_cons_unit_of_mem v f inb _ _ _ y rfl ?_
  intro a; fin_cases a <;> simp

/-- A whole load of the gain's block. -/
theorem load_gain (m : Memref sig .tc .vmem S1x128 .f32) (hm : m.IsWhole) (x : FVec Ideal S1x128 .f32) (inb) :
    m.view.readAt (Elt Ideal) (Rect.unit (s := S1x128) ![0, 0] S1x128.size inb).toLoadRect (hm.unread (Val := Elt Ideal) x) = x := by
  funext y
  refine (congrFun (hm.read_unread (Val := Elt Ideal) x) _).trans (congrArg x (funext fun a => Fin.ext ?_))
  fin_cases a <;> simp [LoadRect.idx]

section

variable (c : Dev nD) (i : grid0.Coords) (arg3 : Memref sig .tc .vmem S512x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x512x2 .f32) (harg6 : arg6.IsWhole) (arg7 : Memref sig .tc .vmem S1x1x16x2x512 .f32) (harg7 : arg7.IsWhole) (arg8 : Memref sig .tc .vmem S1x128 .f32) (harg8 : arg8.IsWhole) (arg9 : Memref sig .tc .vmem S512x128 .bf16) (harg9 : arg9.IsWhole) (arg10 : Memref sig .tc .vmem S2x512x128 .bf16) (harg10 : arg10.IsWhole) (arg11 : Memref sig .tc .vmem S2x512x128 .f32) (harg11 : arg11.IsWhole) (arg12 : Memref sig .tc .vmem S2x512x128 .f32) (harg12 : arg12.IsWhole) (arg13 : Memref sig .tc .vmem S2x512x128 .f32) (harg13 : arg13.IsWhole) (arg14 : Memref sig .tc .vmem S2x512x128 .f32) (harg14 : arg14.IsWhole)
    (x0 : Vec Ideal S512x128 .bf16) (x1 : Vec Ideal S8192x128 .bf16) (x2 : Vec Ideal S8192x128 .bf16) (x3 : Vec Ideal S1x512x2 .f32) (x4 : Vec Ideal S1x1x16x2x512 .f32) (x5 : Vec Ideal S1x128 .f32)

/-! ## What the buffers hold -/

abbrev f10 : BufTy.Contents (Elt Ideal) arg10.view.ty := arg10.view.writes (Elt Ideal) arg10.view.junk (kernelRun0_A.sl.HS0_2 (F := Ideal) c arg3 harg3 x0)
abbrev f11 : BufTy.Contents (Elt Ideal) arg11.view.ty := arg11.view.writes (Elt Ideal) arg11.view.junk (kernelRun0_A.sl.HS1_2 (F := Ideal) c arg6 harg6 x3)
abbrev g12 : BufTy.Contents (Elt Ideal) arg12.view.ty := arg12.view.writes (Elt Ideal) arg12.view.junk (kernelRun0_A.sl.HS2_1 (F := Ideal))
abbrev g13 : BufTy.Contents (Elt Ideal) arg13.view.ty := arg13.view.writes (Elt Ideal) arg13.view.junk (kernelRun0_A.sl.HS3_1 (F := Ideal))
abbrev g14 : BufTy.Contents (Elt Ideal) arg14.view.ty := arg14.view.writes (Elt Ideal) arg14.view.junk (kernelRun0_A.sl.HS4_1 (F := Ideal))

/-- The pieces the loop below the diagonal writes. -/
abbrev p1 : List (View.Piece (Elt Ideal) S2x512x128 .f32) × List (View.Piece (Elt Ideal) S2x512x128 .f32) × List (View.Piece (Elt Ideal) S2x512x128 .f32) :=
  (pb_k0_t1 (F := Ideal) Variants.none c none i arg3 harg3 arg4 harg4 arg5 harg5 arg6 harg6 arg7 harg7 arg8 harg8 arg9 harg9 arg10 harg10 arg11 harg11 arg12 harg12 arg13 harg13 arg14 harg14 (BitVec.ofNat 32 (i 2).val) k0_pay36 (harg4.unread x1) (harg5.unread x2) (harg7.unread x4) (f10 c arg3 harg3 arg10 x0) (f11 c arg6 harg6 arg11 x3) (g12 arg12) (g13 arg13) (g14 arg14) (k0_t1_loop i).trips)

/-- The pieces the remainder loop writes: it has no trips. -/
abbrev p2 : List (View.Piece (Elt Ideal) S2x512x128 .f32) × List (View.Piece (Elt Ideal) S2x512x128 .f32) × List (View.Piece (Elt Ideal) S2x512x128 .f32) :=
  (pb_k0_t2 (F := Ideal) Variants.none c none i arg3 harg3 arg4 harg4 arg5 harg5 arg6 harg6 arg7 harg7 arg8 harg8 arg9 harg9 arg10 harg10 arg11 harg11 arg12 harg12 arg13 harg13 arg14 harg14 (BitVec.ofNat 32 (i 2).val) k0_pay36 (kernelRun0_A.sl.v43 i) (harg4.unread x1) (harg5.unread x2) (harg7.unread x4) (f10 c arg3 harg3 arg10 x0) (f11 c arg6 harg6 arg11 x3) (arg12.view.writes (Elt Ideal) arg12.view.junk ((p1 c i arg3 harg3 arg4 harg4 arg5 harg5 arg6 harg6 arg7 harg7 arg8 harg8 arg9 harg9 arg10 harg10 arg11 harg11 arg12 harg12 arg13 harg13 arg14 harg14 x0 x1 x2 x3 x4).1 ++ kernelRun0_A.sl.HS2_1 (F := Ideal))) (arg13.view.writes (Elt Ideal) arg13.view.junk ((p1 c i arg3 harg3 arg4 harg4 arg5 harg5 arg6 harg6 arg7 harg7 arg8 harg8 arg9 harg9 arg10 harg10 arg11 harg11 arg12 harg12 arg13 harg13 arg14 harg14 x0 x1 x2 x3 x4).2.1 ++ kernelRun0_A.sl.HS3_1 (F := Ideal))) (arg14.view.writes (Elt Ideal) arg14.view.junk ((p1 c i arg3 harg3 arg4 harg4 arg5 harg5 arg6 harg6 arg7 harg7 arg8 harg8 arg9 harg9 arg10 harg10 arg11 harg11 arg12 harg12 arg13 harg13 arg14 harg14 x0 x1 x2 x3 x4).2.2 ++ kernelRun0_A.sl.HS4_1 (F := Ideal))) (k0_t2_loop i).trips)

/-- What the loops leave in the three buffers. -/
abbrev R12 : S2x512x128.Idx → EReal := arg12.view.read (Elt Ideal) (arg12.view.writes (Elt Ideal) (g12 arg12) (p1 c i arg3 harg3 arg4 harg4 arg5 harg5 arg6 harg6 arg7 harg7 arg8 harg8 arg9 harg9 arg10 harg10 arg11 harg11 arg12 harg12 arg13 harg13 arg14 harg14 x0 x1 x2 x3 x4).1)
abbrev R13 : S2x512x128.Idx → EReal := arg13.view.read (Elt Ideal) (arg13.view.writes (Elt Ideal) (g13 arg13) (p1 c i arg3 harg3 arg4 harg4 arg5 harg5 arg6 harg6 arg7 harg7 arg8 harg8 arg9 harg9 arg10 harg10 arg11 harg11 arg12 harg12 arg13 harg13 arg14 harg14 x0 x1 x2 x3 x4).2.1)
abbrev R14 : S2x512x128.Idx → EReal := arg14.view.read (Elt Ideal) (arg14.view.writes (Elt Ideal) (g14 arg14) (p1 c i arg3 harg3 arg4 harg4 arg5 harg5 arg6 harg6 arg7 harg7 arg8 harg8 arg9 harg9 arg10 harg10 arg11 harg11 arg12 harg12 arg13 harg13 arg14 harg14 x0 x1 x2 x3 x4).2.2)
abbrev R10 : S2x512x128.Idx → EReal := arg10.view.read (Elt Ideal) (f10 c arg3 harg3 arg10 x0)
abbrev R11 : S2x512x128.Idx → EReal := arg11.view.read (Elt Ideal) (f11 c arg6 harg6 arg11 x3)

theorem p2_eq : p2 c i arg3 harg3 arg4 harg4 arg5 harg5 arg6 harg6 arg7 harg7 arg8 harg8 arg9 harg9 arg10 harg10 arg11 harg11 arg12 harg12 arg13 harg13 arg14 harg14 x0 x1 x2 x3 x4 = ([], [], []) := by
  unfold p2
  rw [trips2]
  rfl

theorem R12_eq : arg12.view.read (Elt Ideal) (arg12.view.writes (Elt Ideal) arg12.view.junk
    ((p2 c i arg3 harg3 arg4 harg4 arg5 harg5 arg6 harg6 arg7 harg7 arg8 harg8 arg9 harg9 arg10 harg10 arg11 harg11 arg12 harg12 arg13 harg13 arg14 harg14 x0 x1 x2 x3 x4).1 ++ ((p1 c i arg3 harg3 arg4 harg4 arg5 harg5 arg6 harg6 arg7 harg7 arg8 harg8 arg9 harg9 arg10 harg10 arg11 harg11 arg12 harg12 arg13 harg13 arg14 harg14 x0 x1 x2 x3 x4).1 ++ kernelRun0_A.sl.HS2_1 (F := Ideal)))) = R12 c i arg3 harg3 arg4 harg4 arg5 harg5 arg6 harg6 arg7 harg7 arg8 harg8 arg9 harg9 arg10 harg10 arg11 harg11 arg12 harg12 arg13 harg13 arg14 harg14 x0 x1 x2 x3 x4 := by
  rw [p2_eq, List.nil_append, View.writes_append]
theorem R13_eq : arg13.view.read (Elt Ideal) (arg13.view.writes (Elt Ideal) arg13.view.junk
    ((p2 c i arg3 harg3 arg4 harg4 arg5 harg5 arg6 harg6 arg7 harg7 arg8 harg8 arg9 harg9 arg10 harg10 arg11 harg11 arg12 harg12 arg13 harg13 arg14 harg14 x0 x1 x2 x3 x4).2.1 ++ ((p1 c i arg3 harg3 arg4 harg4 arg5 harg5 arg6 harg6 arg7 harg7 arg8 harg8 arg9 harg9 arg10 harg10 arg11 harg11 arg12 harg12 arg13 harg13 arg14 harg14 x0 x1 x2 x3 x4).2.1 ++ kernelRun0_A.sl.HS3_1 (F := Ideal)))) = R13 c i arg3 harg3 arg4 harg4 arg5 harg5 arg6 harg6 arg7 harg7 arg8 harg8 arg9 harg9 arg10 harg10 arg11 harg11 arg12 harg12 arg13 harg13 arg14 harg14 x0 x1 x2 x3 x4 := by
  rw [p2_eq, List.nil_append, View.writes_append]
theorem R14_eq : arg14.view.read (Elt Ideal) (arg14.view.writes (Elt Ideal) arg14.view.junk
    ((p2 c i arg3 harg3 arg4 harg4 arg5 harg5 arg6 harg6 arg7 harg7 arg8 harg8 arg9 harg9 arg10 harg10 arg11 harg11 arg12 harg12 arg13 harg13 arg14 harg14 x0 x1 x2 x3 x4).2.2 ++ ((p1 c i arg3 harg3 arg4 harg4 arg5 harg5 arg6 harg6 arg7 harg7 arg8 harg8 arg9 harg9 arg10 harg10 arg11 harg11 arg12 harg12 arg13 harg13 arg14 harg14 x0 x1 x2 x3 x4).2.2 ++ kernelRun0_A.sl.HS4_1 (F := Ideal)))) = R14 c i arg3 harg3 arg4 harg4 arg5 harg5 arg6 harg6 arg7 harg7 arg8 harg8 arg9 harg9 arg10 harg10 arg11 harg11 arg12 harg12 arg13 harg13 arg14 harg14 x0 x1 x2 x3 x4 := by
  rw [p2_eq, List.nil_append, View.writes_append]

/-! ## The loads -/

theorem c53 : shapeCast S512x128 (kernelRun0_A.sl.v53 (F := Ideal) c arg3 harg3 arg10 x0) shapeCasts_S1x512x128_S512x128
    = slab (R10 c arg3 harg3 arg10 x0) 0 := load0 _ _ _
theorem c103 : shapeCast S512x128 (kernelRun0_A.sl.v103 (F := Ideal) c arg3 harg3 arg10 x0) shapeCasts_S1x512x128_S512x128
    = slab (R10 c arg3 harg3 arg10 x0) 1 := load1 _ _ _
theorem c68 : shapeCast S512x128 (kernelRun0_A.sl.v68 (F := Ideal) c arg6 harg6 arg11 x3) shapeCasts_S1x512x128_S512x128
    = slab (R11 c arg6 harg6 arg11 x3) 0 := load0 _ _ _
theorem c118 : shapeCast S512x128 (kernelRun0_A.sl.v118 (F := Ideal) c arg6 harg6 arg11 x3) shapeCasts_S1x512x128_S512x128
    = slab (R11 c arg6 harg6 arg11 x3) 1 := load1 _ _ _
theorem c64 : shapeCast S512x128 (kernelRun0_A.sl.v64 (F := Ideal) c i arg3 harg3 arg4 harg4 arg5 harg5 arg6 harg6 arg7 harg7 arg8 harg8 arg9 harg9 arg10 harg10 arg11 harg11 arg12 harg12 arg13 harg13 arg14 harg14 x0 x1 x2 x3 x4) shapeCasts_S1x512x128_S512x128
    = slab (R12 c i arg3 harg3 arg4 harg4 arg5 harg5 arg6 harg6 arg7 harg7 arg8 harg8 arg9 harg9 arg10 harg10 arg11 harg11 arg12 harg12 arg13 harg13 arg14 harg14 x0 x1 x2 x3 x4) 0 := by
  rw [← R12_eq]; exact load0 _ _ _
theorem c81 : shapeCast S512x128 (kernelRun0_A.sl.v81 (F := Ideal) c i arg3 harg3 arg4 harg4 arg5 harg5 arg6 harg6 arg7 harg7 arg8 harg8 arg9 harg9 arg10 harg10 arg11 harg11 arg12 harg12 arg13 harg13 arg14 harg14 x0 x1 x2 x3 x4) shapeCasts_S1x512x128_S512x128
    = slab (R13 c i arg3 harg3 arg4 harg4 arg5 harg5 arg6 harg6 arg7 harg7 arg8 harg8 arg9 harg9 arg10 harg10 arg11 harg11 arg12 harg12 arg13 harg13 arg14 harg14 x0 x1 x2 x3 x4) 0 := by
  rw [← R13_eq]; exact load0 _ _ _
theorem c91 : shapeCast S512x128 (kernelRun0_A.sl.v91 (F := Ideal) c i arg3 harg3 arg4 harg4 arg5 harg5 arg6 harg6 arg7 harg7 arg8 harg8 arg9 harg9 arg10 harg10 arg11 harg11 arg12 harg12 arg13 harg13 arg14 harg14 x0 x1 x2 x3 x4) shapeCasts_S1x512x128_S512x128
    = slab (R14 c i arg3 harg3 arg4 harg4 arg5 harg5 arg6 harg6 arg7 harg7 arg8 harg8 arg9 harg9 arg10 harg10 arg11 harg11 arg12 harg12 arg13 harg13 arg14 harg14 x0 x1 x2 x3 x4) 0 := by
  rw [← R14_eq]; exact load0 _ _ _
theorem c114 : shapeCast S512x128 (kernelRun0_A.sl.v114 (F := Ideal) c i arg3 harg3 arg4 harg4 arg5 harg5 arg6 harg6 arg7 harg7 arg8 harg8 arg9 harg9 arg10 harg10 arg11 harg11 arg12 harg12 arg13 harg13 arg14 harg14 x0 x1 x2 x3 x4) shapeCasts_S1x512x128_S512x128
    = slab (R12 c i arg3 harg3 arg4 harg4 arg5 harg5 arg6 harg6 arg7 harg7 arg8 harg8 arg9 harg9 arg10 harg10 arg11 harg11 arg12 harg12 arg13 harg13 arg14 harg14 x0 x1 x2 x3 x4) 1 := by
  rw [← R12_eq]; exact (load1 _ _ _).trans (store_miss _ _ 0 1 (by decide) _ _ _)
theorem c131 : shapeCast S512x128 (kernelRun0_A.sl.v131 (F := Ideal) c i arg3 harg3 arg4 harg4 arg5 harg5 arg6 harg6 arg7 harg7 arg8 harg8 arg9 harg9 arg10 harg10 arg11 harg11 arg12 harg12 arg13 harg13 arg14 harg14 x0 x1 x2 x3 x4) shapeCasts_S1x512x128_S512x128
    = slab (R13 c i arg3 harg3 arg4 harg4 arg5 harg5 arg6 harg6 arg7 harg7 arg8 harg8 arg9 harg9 arg10 harg10 arg11 harg11 arg12 harg12 arg13 harg13 arg14 harg14 x0 x1 x2 x3 x4) 1 := by
  rw [← R13_eq]; exact (load1 _ _ _).trans (store_miss _ _ 0 1 (by decide) _ _ _)
theorem c141 : shapeCast S512x128 (kernelRun0_A.sl.v141 (F := Ideal) c i arg3 harg3 arg4 harg4 arg5 harg5 arg6 harg6 arg7 harg7 arg8 harg8 arg9 harg9 arg10 harg10 arg11 harg11 arg12 harg12 arg13 harg13 arg14 harg14 x0 x1 x2 x3 x4) shapeCasts_S1x512x128_S512x128
    = slab (R14 c i arg3 harg3 arg4 harg4 arg5 harg5 arg6 harg6 arg7 harg7 arg8 harg8 arg9 harg9 arg10 harg10 arg11 harg11 arg12 harg12 arg13 harg13 arg14 harg14 x0 x1 x2 x3 x4) 1 := by
  rw [← R14_eq]; exact (load1 _ _ _).trans (store_miss _ _ 0 1 (by decide) _ _ _)

/-- The diagonal tile's keys, values and key terms. -/
abbrev dK : FVec Ideal S512x128 .bf16 := kernelRun0_A.sl.r_1 (F := Ideal) i arg4 harg4 x1
abbrev dV : FVec Ideal S512x128 .bf16 := kernelRun0_A.sl.r_2 (F := Ideal) i arg5 harg5 x2
abbrev dW : FVec Ideal S1x1x1x2x512 .f32 :=
  arg7.view.readAt (Elt Ideal) (Rect.unit (s := S1x1x16x2x512) (k0_off5 i) S1x1x1x2x512.size (k0_off5_inb i)).toLoadRect (harg7.unread x4)

theorem c155 : shapeCast S512x128 (kernelRun0_A.sl.v155 (F := Ideal) c i arg3 harg3 arg4 harg4 arg5 harg5 arg6 harg6 arg7 harg7 arg8 harg8 arg9 harg9 arg10 harg10 arg11 harg11 arg12 harg12 arg13 harg13 arg14 harg14 x0 x1 x2 x3 x4) shapeCasts_S1x512x128_S512x128 = (dL (R10 c arg3 harg3 arg10 x0) (R11 c arg6 harg6 arg11 x3) (R12 c i arg3 harg3 arg4 harg4 arg5 harg5 arg6 harg6 arg7 harg7 arg8 harg8 arg9 harg9 arg10 harg10 arg11 harg11 arg12 harg12 arg13 harg13 arg14 harg14 x0 x1 x2 x3 x4) (R13 c i arg3 harg3 arg4 harg4 arg5 harg5 arg6 harg6 arg7 harg7 arg8 harg8 arg9 harg9 arg10 harg10 arg11 harg11 arg12 harg12 arg13 harg13 arg14 harg14 x0 x1 x2 x3 x4) (dK i arg4 harg4 x1) (dW i arg7 harg7 x4) 0) := by
  refine (load0 _ _ _).trans ((store_miss _ _ 1 0 (by decide) _ _ _).trans ((store_hit _ _ 0 _ _ _).trans ?_))
  rw [dL, dM, dT, ← c53 c arg3 harg3 arg10 x0, ← c68 c arg6 harg6 arg11 x3, ← c64 c i arg3 harg3 arg4 harg4 arg5 harg5 arg6 harg6 arg7 harg7 arg8 harg8 arg9 harg9 arg10 harg10 arg11 harg11 arg12 harg12 arg13 harg13 arg14 harg14 x0 x1 x2 x3 x4, ← keyRow0, ← c81 c i arg3 harg3 arg4 harg4 arg5 harg5 arg6 harg6 arg7 harg7 arg8 harg8 arg9 harg9 arg10 harg10 arg11 harg11 arg12 harg12 arg13 harg13 arg14 harg14 x0 x1 x2 x3 x4]
  rfl
theorem c160 : shapeCast S512x128 (kernelRun0_A.sl.v160 (F := Ideal) c i arg3 harg3 arg4 harg4 arg5 harg5 arg6 harg6 arg7 harg7 arg8 harg8 arg9 harg9 arg10 harg10 arg11 harg11 arg12 harg12 arg13 harg13 arg14 harg14 x0 x1 x2 x3 x4) shapeCasts_S1x512x128_S512x128 = (dL (R10 c arg3 harg3 arg10 x0) (R11 c arg6 harg6 arg11 x3) (R12 c i arg3 harg3 arg4 harg4 arg5 harg5 arg6 harg6 arg7 harg7 arg8 harg8 arg9 harg9 arg10 harg10 arg11 harg11 arg12 harg12 arg13 harg13 arg14 harg14 x0 x1 x2 x3 x4) (R13 c i arg3 harg3 arg4 harg4 arg5 harg5 arg6 harg6 arg7 harg7 arg8 harg8 arg9 harg9 arg10 harg10 arg11 harg11 arg12 harg12 arg13 harg13 arg14 harg14 x0 x1 x2 x3 x4) (dK i arg4 harg4 x1) (dW i arg7 harg7 x4) 1) := by
  refine (load1 _ _ _).trans ((store_hit _ _ 1 _ _ _).trans ?_)
  rw [dL, dM, dT, ← c103 c arg3 harg3 arg10 x0, ← c118 c arg6 harg6 arg11 x3, ← c114 c i arg3 harg3 arg4 harg4 arg5 harg5 arg6 harg6 arg7 harg7 arg8 harg8 arg9 harg9 arg10 harg10 arg11 harg11 arg12 harg12 arg13 harg13 arg14 harg14 x0 x1 x2 x3 x4, ← keyRow1, ← c131 c i arg3 harg3 arg4 harg4 arg5 harg5 arg6 harg6 arg7 harg7 arg8 harg8 arg9 harg9 arg10 harg10 arg11 harg11 arg12 harg12 arg13 harg13 arg14 harg14 x0 x1 x2 x3 x4]
  rfl
theorem c153 : shapeCast S512x128 (kernelRun0_A.sl.v153 (F := Ideal) c i arg3 harg3 arg4 harg4 arg5 harg5 arg6 harg6 arg7 harg7 arg8 harg8 arg9 harg9 arg10 harg10 arg11 harg11 arg12 harg12 arg13 harg13 arg14 harg14 x0 x1 x2 x3 x4) shapeCasts_S1x512x128_S512x128 = (dA (R10 c arg3 harg3 arg10 x0) (R11 c arg6 harg6 arg11 x3) (R12 c i arg3 harg3 arg4 harg4 arg5 harg5 arg6 harg6 arg7 harg7 arg8 harg8 arg9 harg9 arg10 harg10 arg11 harg11 arg12 harg12 arg13 harg13 arg14 harg14 x0 x1 x2 x3 x4) (R14 c i arg3 harg3 arg4 harg4 arg5 harg5 arg6 harg6 arg7 harg7 arg8 harg8 arg9 harg9 arg10 harg10 arg11 harg11 arg12 harg12 arg13 harg13 arg14 harg14 x0 x1 x2 x3 x4) (dK i arg4 harg4 x1) (dV i arg5 harg5 x2) (dW i arg7 harg7 x4) 0) := by
  refine (load0 _ _ _).trans ((store_miss _ _ 1 0 (by decide) _ _ _).trans ((store_hit _ _ 0 _ _ _).trans ?_))
  rw [dA, dM, dT, ← c53 c arg3 harg3 arg10 x0, ← c68 c arg6 harg6 arg11 x3, ← c64 c i arg3 harg3 arg4 harg4 arg5 harg5 arg6 harg6 arg7 harg7 arg8 harg8 arg9 harg9 arg10 harg10 arg11 harg11 arg12 harg12 arg13 harg13 arg14 harg14 x0 x1 x2 x3 x4, ← keyRow0, ← c91 c i arg3 harg3 arg4 harg4 arg5 harg5 arg6 harg6 arg7 harg7 arg8 harg8 arg9 harg9 arg10 harg10 arg11 harg11 arg12 harg12 arg13 harg13 arg14 harg14 x0 x1 x2 x3 x4]
  rfl
theorem c158 : shapeCast S512x128 (kernelRun0_A.sl.v158 (F := Ideal) c i arg3 harg3 arg4 harg4 arg5 harg5 arg6 harg6 arg7 harg7 arg8 harg8 arg9 harg9 arg10 harg10 arg11 harg11 arg12 harg12 arg13 harg13 arg14 harg14 x0 x1 x2 x3 x4) shapeCasts_S1x512x128_S512x128 = (dA (R10 c arg3 harg3 arg10 x0) (R11 c arg6 harg6 arg11 x3) (R12 c i arg3 harg3 arg4 harg4 arg5 harg5 arg6 harg6 arg7 harg7 arg8 harg8 arg9 harg9 arg10 harg10 arg11 harg11 arg12 harg12 arg13 harg13 arg14 harg14 x0 x1 x2 x3 x4) (R14 c i arg3 harg3 arg4 harg4 arg5 harg5 arg6 harg6 arg7 harg7 arg8 harg8 arg9 harg9 arg10 harg10 arg11 harg11 arg12 harg12 arg13 harg13 arg14 harg14 x0 x1 x2 x3 x4) (dK i arg4 harg4 x1) (dV i arg5 harg5 x2) (dW i arg7 harg7 x4) 1) := by
  refine (load1 _ _ _).trans ((store_hit _ _ 1 _ _ _).trans ?_)
  rw [dA, dM, dT, ← c103 c arg3 harg3 arg10 x0, ← c118 c arg6 harg6 arg11 x3, ← c114 c i arg3 harg3 arg4 harg4 arg5 harg5 arg6 harg6 arg7 harg7 arg8 harg8 arg9 harg9 arg10 harg10 arg11 harg11 arg12 harg12 arg13 harg13 arg14 harg14 x0 x1 x2 x3 x4, ← keyRow1, ← c141 c i arg3 harg3 arg4 harg4 arg5 harg5 arg6 harg6 arg7 harg7 arg8 harg8 arg9 harg9 arg10 harg10 arg11 harg11 arg12 harg12 arg13 harg13 arg14 harg14 x0 x1 x2 x3 x4]
  rfl

/-- The block the body leaves. -/
theorem out_eq : out0_A_6 (F := Ideal) c i arg3 harg3 arg4 harg4 arg5 harg5 arg6 harg6 arg7 harg7 arg8 harg8 arg9 harg9 arg10 harg10 arg11 harg11 arg12 harg12 arg13 harg13 arg14 harg14 x0 x1 x2 x3 x4 x5
    = k0_pay1 k0_pay30 (divf (dA (R10 c arg3 harg3 arg10 x0) (R11 c arg6 harg6 arg11 x3) (R12 c i arg3 harg3 arg4 harg4 arg5 harg5 arg6 harg6 arg7 harg7 arg8 harg8 arg9 harg9 arg10 harg10 arg11 harg11 arg12 harg12 arg13 harg13 arg14 harg14 x0 x1 x2 x3 x4) (R14 c i arg3 harg3 arg4 harg4 arg5 harg5 arg6 harg6 arg7 harg7 arg8 harg8 arg9 harg9 arg10 harg10 arg11 harg11 arg12 harg12 arg13 harg13 arg14 harg14 x0 x1 x2 x3 x4) (dK i arg4 harg4 x1) (dV i arg5 harg5 x2) (dW i arg7 harg7 x4) 0) (dL (R10 c arg3 harg3 arg10 x0) (R11 c arg6 harg6 arg11 x3) (R12 c i arg3 harg3 arg4 harg4 arg5 harg5 arg6 harg6 arg7 harg7 arg8 harg8 arg9 harg9 arg10 harg10 arg11 harg11 arg12 harg12 arg13 harg13 arg14 harg14 x0 x1 x2 x3 x4) (R13 c i arg3 harg3 arg4 harg4 arg5 harg5 arg6 harg6 arg7 harg7 arg8 harg8 arg9 harg9 arg10 harg10 arg11 harg11 arg12 harg12 arg13 harg13 arg14 harg14 x0 x1 x2 x3 x4) (dK i arg4 harg4 x1) (dW i arg7 harg7 x4) 0)) (dA (R10 c arg3 harg3 arg10 x0) (R11 c arg6 harg6 arg11 x3) (R12 c i arg3 harg3 arg4 harg4 arg5 harg5 arg6 harg6 arg7 harg7 arg8 harg8 arg9 harg9 arg10 harg10 arg11 harg11 arg12 harg12 arg13 harg13 arg14 harg14 x0 x1 x2 x3 x4) (R14 c i arg3 harg3 arg4 harg4 arg5 harg5 arg6 harg6 arg7 harg7 arg8 harg8 arg9 harg9 arg10 harg10 arg11 harg11 arg12 harg12 arg13 harg13 arg14 harg14 x0 x1 x2 x3 x4) (dK i arg4 harg4 x1) (dV i arg5 harg5 x2) (dW i arg7 harg7 x4) 1) (kernelRun0_A.sl.v160 (F := Ideal) c i arg3 harg3 arg4 harg4 arg5 harg5 arg6 harg6 arg7 harg7 arg8 harg8 arg9 harg9 arg10 harg10 arg11 harg11 arg12 harg12 arg13 harg13 arg14 harg14 x0 x1 x2 x3 x4) x5 := by
  unfold out0_A_6 kernelRun0_A
  dsimp only
  rw [← c153, ← c155, ← c158]
  refine (store_block _ _ _ _).trans ?_
  exact congrArg _ (load_gain arg8 harg8 x5 _)

end

end Cert.Proof.Final
-- ==== Proof.Merge.lean ====
/- The kernel's last lines: each head's rows divided by the root of their mean square, the two heads merged, times the gain. -/
module

public import proofs.«01_k».proof.Proof.Gen.KernelIdeal.Skeleton
public import proofs.«01_k».proof.Proof.Softmax
public import Idealize.ShloMosaic.Lib.Pointwise

@[expose] public section

set_option maxRecDepth 16384

noncomputable section

namespace Cert.Proof.Merge

open Cert.KernelIdeal Cert.KernelIdeal.Gen Idealize.ShloMosaic

/-- One head's squares, the other head's lanes at zero, summed along the lanes. -/
def squares (own : IVec S512x128 1) (o : FVec Ideal S512x128 .f32) : FVec Ideal S512x1 .f32 :=
  shapeCast S512x1 (multiReduction .add [1] S512 (select own (mulf o o) (broadcast S512x128 (Scalar.ofBits .f32 0x00000000#32 : Ideal .f32)))
    0x00000000#32 reduces_S512x128_S512 (.inl rfl) rfl) shapeCasts_S512_S512x1

/-- One head's rows over the root of their mean square. -/
def normed (own : IVec S512x128 1) (o : FVec Ideal S512x128 .f32) : FVec Ideal S512x128 .f32 :=
  mulf o (broadcastTo S512x128 (rsqrt (addf (mulf (squares own o) (broadcast S512x1 (Scalar.ofBits .f32 0x3C800000#32 : Ideal .f32)))
    (broadcast S512x1 (Scalar.ofBits .f32 0x358637BD#32 : Ideal .f32)))) broadcasts_S512x1_S512x128)

/-- The two heads merged, times the gain. -/
def merge (o0 o1 : FVec Ideal S512x128 .f32) (g : FVec Ideal S1x128 .f32) : FVec Ideal S512x128 .bf16 :=
  truncf .bf16 (mulf (select k0_pay30 (normed k0_pay30 o0) (normed (xori k0_pay30 (constantI S512x128 1 1#1)) o1))
    (broadcastTo S512x128 (shapeCast S1x128 g shapeCasts_S1x128_S1x128) broadcasts_S1x128_S512x128)) bitsLt_bf16_f32

theorem pay1_eq (o0 a1 : FVec Ideal S512x128 .f32) (l1 : FVec Ideal S1x512x128 .f32) (g : FVec Ideal S1x128 .f32) :
    k0_pay1 k0_pay30 o0 a1 l1 g = merge o0 (divf a1 (shapeCast S512x128 l1 shapeCasts_S1x512x128_S512x128)) g := rfl

/-- The mask of the first head's lanes. -/
theorem low_apply (r : Fin 512) (c : Fin 128) : k0_pay30 (ix2 r c) = BitVec.ofBool (decide (c.val < 64)) := by
  pointwise [k0_pay30]
  have h : ∀ c : Fin 128, IntOp.cmpi .slt (BitVec.ofNat 32 c.val) 64#32 = BitVec.ofBool (decide (c.val < 64)) := by decide +kernel
  exact h c

theorem high_apply (r : Fin 512) (c : Fin 128) :
    xori k0_pay30 (constantI S512x128 1 1#1) (ix2 r c) = BitVec.ofBool (decide (64 ≤ c.val)) := by
  show IntOp.xori (k0_pay30 (ix2 r c)) 1#1 = _
  rw [low_apply]
  by_cases h : c.val < 64
  · simp [h, show ¬ 64 ≤ c.val by omega, IntOp.xori]
  · simp [h, show 64 ≤ c.val by omega, IntOp.xori]

/-- The mean square's root, of 64 lanes. -/
def root (x : Fin 64 → EReal) : EReal :=
  Ideal.rsqrt ((∑ e : Fin 64, x e * x e) * Ideal.ofBits .f32 0x3C800000#32 + Ideal.ofBits .f32 0x358637BD#32)

theorem squares_apply (own : IVec S512x128 1) (o : FVec Ideal S512x128 .f32) (r : Fin 512) (z : Fin 1) :
    squares own o (ix2 r z) = ∑ c : Fin 128, if own (ix2 r c) = 1#1 then o (ix2 r c) * o (ix2 r c) else 0 := by
  pointwise [squares]
  rfl

theorem sum_low (f : Fin 128 → EReal) : (∑ c : Fin 128, if c.val < 64 then f c else 0) = ∑ e : Fin 64, f ⟨e.val, by omega⟩ := by
  rw [show (∑ c : Fin 128, if c.val < 64 then f c else 0) = ∑ c : Fin (64 + 64), if c.val < 64 then f ⟨c.val, by omega⟩ else 0 from rfl,
    Fin.sum_univ_add]
  simp

theorem sum_high (f : Fin 128 → EReal) : (∑ c : Fin 128, if 64 ≤ c.val then f c else 0) = ∑ e : Fin 64, f ⟨64 + e.val, by omega⟩ := by
  rw [show (∑ c : Fin 128, if 64 ≤ c.val then f c else 0) = ∑ c : Fin (64 + 64), if 64 ≤ c.val then f ⟨c.val, by omega⟩ else 0 from rfl,
    Fin.sum_univ_add, Finset.sum_eq_zero (fun e _ => if_neg (by show ¬ 64 ≤ e.val; omega)), zero_add]
  exact Finset.sum_congr rfl fun e _ => if_pos (by show 64 ≤ 64 + e.val; omega)

theorem normed_apply (own : IVec S512x128 1) (o : FVec Ideal S512x128 .f32) (r : Fin 512) (c : Fin 128) :
    normed own o (ix2 r c) = o (ix2 r c) * Ideal.rsqrt (squares own o (ix2 r 0) * Ideal.ofBits .f32 0x3C800000#32 + Ideal.ofBits .f32 0x358637BD#32) := by
  pointwise [normed]

/-- The merged block at a lane: its own head's row, normalised, times the gain. -/
theorem merge_apply (o0 o1 : FVec Ideal S512x128 .f32) (g : FVec Ideal S1x128 .f32) (r : Fin 512) (c : Fin 128) :
    merge o0 o1 g (ix2 r c)
      = (if c.val < 64 then o0 (ix2 r c) * root fun e => o0 (ix2 r ⟨e.val, by omega⟩)
          else o1 (ix2 r c) * root fun e => o1 (ix2 r ⟨64 + e.val, by omega⟩)) * g (ix2 0 c) := by
  have h0 : squares k0_pay30 o0 (ix2 r 0) = ∑ e : Fin 64, o0 (ix2 r ⟨e.val, by omega⟩) * o0 (ix2 r ⟨e.val, by omega⟩) := by
    rw [squares_apply, ← sum_low fun c => o0 (ix2 r c) * o0 (ix2 r c)]
    refine Finset.sum_congr rfl fun c _ => ?_
    rw [low_apply]
    by_cases h : c.val < 64 <;> simp [h]
  have h1 : squares (xori k0_pay30 (constantI S512x128 1 1#1)) o1 (ix2 r 0)
      = ∑ e : Fin 64, o1 (ix2 r ⟨64 + e.val, by omega⟩) * o1 (ix2 r ⟨64 + e.val, by omega⟩) := by
    rw [squares_apply, ← sum_high fun c => o1 (ix2 r c) * o1 (ix2 r c)]
    refine Finset.sum_congr rfl fun c _ => ?_
    rw [high_apply]
    by_cases h : 64 ≤ c.val <;> simp [h]
  pointwise [merge]
  rw [normed_apply, normed_apply, h0, h1, low_apply]
  by_cases h : c.val < 64 <;> simp [h, Scalar.select, root]

end Cert.Proof.Merge
-- ==== Proof.Loads.lean ====
/- The loads of the kernel's inputs, read at an index: a tile of keys or values, a tile's key terms, a head's column of row terms, the
   whole block of queries; and the two heads' queries and row terms as the kernel spreads them. -/
module

public import proofs.«01_k».proof.Proof.Final
public import proofs.«01_k».proof.Proof.Merge

@[expose] public section

set_option maxRecDepth 16384

noncomputable section

namespace Cert.Proof.Loads

open Cert.KernelIdeal Cert.KernelIdeal.Gen Idealize.ShloMosaic Idealize.ShloMosaic.TcCoe Idealize.SL.Sem Cert.Proof.Slab Cert.Proof.Tile
open Cert.Proof.Softmax Cert.Proof.Trip Cert.Proof.Loop Cert.Proof.Final Cert.Proof.Merge

/-- Row `n` of the keys, for every natural. -/
def key (n : ℕ) : Fin 8192 := ⟨n % 8192, Nat.mod_lt _ (by norm_num)⟩

/-- The tile of row `n`. -/
def tileIx (n : ℕ) : Fin 16 := ⟨n / 512 % 16, Nat.mod_lt _ (by norm_num)⟩

/-- The place of row `n` in its tile. -/
def place (n : ℕ) : Fin 512 := ⟨n % 512, Nat.mod_lt _ (by norm_num)⟩

theorem load_rows (m : Memref sig .tc .vmem S8192x128 .bf16) (hm : m.IsWhole) (x : FVec Ideal S8192x128 .bf16) {off : Fin 2 → ℕ} (inb) (t : ℕ)
    (ht : t < 16) (ho : off = ![t * 512, 0]) (j : Fin 512) (d : Fin 128) :
    m.view.readAt (Elt Ideal) (Rect.unit (s := S8192x128) off S512x128.size inb).toLoadRect (hm.unread (Val := Elt Ideal) x) (ix2 j d)
      = x (ix2 (key (t * 512 + j.val)) d) := by
  subst ho
  refine (congrFun (hm.read_unread (Val := Elt Ideal) x) _).trans (congrArg x (funext fun a => Fin.ext ?_))
  have hj := j.isLt
  fin_cases a
  · show t * 512 + 1 * j.val = (t * 512 + j.val) % 8192
    omega
  · show 0 + 1 * d.val = d.val
    omega

theorem load_terms (m : Memref sig .tc .vmem S1x1x16x2x512 .f32) (hm : m.IsWhole) (x : FVec Ideal S1x1x16x2x512 .f32) {off : Fin 5 → ℕ} (inb) (t : ℕ)
    (ht : t < 16) (ho : off = ![0, 0, t, 0, 0]) (h : Fin 2) (j : Fin 512) :
    keyRow (m.view.readAt (Elt Ideal) (Rect.unit (s := S1x1x16x2x512) off S1x1x1x2x512.size inb).toLoadRect (hm.unread (Val := Elt Ideal) x)) h (ix2 0 j)
      = x (ix5 0 0 (tileIx (t * 512 + j.val)) h (place (t * 512 + j.val))) := by
  subst ho
  refine (congrFun (hm.read_unread (Val := Elt Ideal) x) _).trans (congrArg x (funext fun a => Fin.ext ?_))
  have hj := j.isLt
  fin_cases a
  · rfl
  · rfl
  · show t + 1 * 0 = (t * 512 + j.val) / 512 % 16
    omega
  · show 0 + 1 * h.val = h.val
    omega
  · show 0 + 1 * j.val = (t * 512 + j.val) % 512
    omega

theorem load_col (m : Memref sig .tc .vmem S1x512x2 .f32) (hm : m.IsWhole) (x : FVec Ideal S1x512x2 .f32) (h : Fin 2) (inb) (r : Fin 512) :
    m.view.readAt (Elt Ideal) (Rect.unit (s := S1x512x2) ![0, 0, h.val] S1x512x1.size inb).toLoadRect (hm.unread (Val := Elt Ideal) x) (ix3 0 r 0)
      = x (ix3 0 r h) := by
  refine (congrFun (hm.read_unread (Val := Elt Ideal) x) _).trans (congrArg x (funext fun a => Fin.ext ?_))
  fin_cases a
  · rfl
  · show 0 + 1 * r.val = r.val
    omega
  · show h.val + 1 * 0 = h.val
    omega

theorem load_queries (m : Memref sig .tc .vmem S512x128 .bf16) (hm : m.IsWhole) (x : FVec Ideal S512x128 .bf16) (inb) :
    m.view.readAt (Elt Ideal) (Rect.unit (s := S512x128) ![0, 0] S512x128.size inb).toLoadRect (hm.unread (Val := Elt Ideal) x) = x := by
  funext y
  refine (congrFun (hm.read_unread (Val := Elt Ideal) x) _).trans (congrArg x (funext fun a => Fin.ext ?_))
  fin_cases a <;> simp [LoadRect.idx]

/-- A column spread along the lanes. -/
def spread (w : FVec Ideal S1x512x1 .f32) : FVec Ideal S512x128 .f32 :=
  broadcastTo S512x128 (shapeCast S512x1 (shapeCast S512x1 w shapeCasts_S1x512x1_S512x1) shapeCasts_S512x1_S512x1) broadcasts_S512x1_S512x128

theorem spread_apply (w : FVec Ideal S1x512x1 .f32) (r : Fin 512) (c : Fin 128) : spread w (ix2 r c) = w (ix3 0 r 0) := by
  pointwise [spread]

section

variable (c : Dev nD) (arg3 : Memref sig .tc .vmem S512x128 .bf16) (harg3 : arg3.IsWhole) (arg6 : Memref sig .tc .vmem S1x512x2 .f32) (harg6 : arg6.IsWhole)
  (arg10 : Memref sig .tc .vmem S2x512x128 .bf16) (arg11 : Memref sig .tc .vmem S2x512x128 .f32)
  (x0 : FVec Ideal S512x128 .bf16) (x3 : FVec Ideal S1x512x2 .f32)

/-- The two heads' queries: the block's, the other head's lanes at zero. -/
theorem queries (h : Fin 2) (r : Fin 512) (d : Fin 128) :
    slab (R10 c arg3 harg3 arg10 x0) h (ix2 r d) = if d.val / 64 = h.val then x0 (ix2 r d) else 0 := by
  have hd := d.isLt
  have hz : k0_pay31 (F := Ideal) (ix2 r d) = 0 := by pointwise [k0_pay31]
  obtain rfl | rfl : h = 0 ∨ h = 1 := by omega
  · refine (congrFun (store _ _ _ _ _ _ [] 0) _).trans ?_
    rw [load_queries arg3 harg3 x0]
    show Scalar.select (k0_pay30 (ix2 r d)) (x0 (ix2 r d)) (k0_pay31 (F := Ideal) (ix2 r d)) = _
    rw [low_apply, hz]
    by_cases hl : d.val < 64
    · rw [if_pos (show d.val / 64 = (0 : Fin 2).val by show d.val / 64 = 0; omega)]; simp [hl, Scalar.select]
    · rw [if_neg (show ¬ d.val / 64 = (0 : Fin 2).val by show ¬ d.val / 64 = 0; omega)]; simp [hl, Scalar.select]
  · refine (congrFun (store _ _ _ _ _ _ [] 1) _).trans ?_
    rw [load_queries arg3 harg3 x0]
    show Scalar.select (k0_pay30 (ix2 r d)) (k0_pay31 (F := Ideal) (ix2 r d)) (x0 (ix2 r d)) = _
    rw [low_apply, hz]
    by_cases hl : d.val < 64
    · rw [if_neg (show ¬ d.val / 64 = (1 : Fin 2).val by show ¬ d.val / 64 = 1; omega)]; simp [hl, Scalar.select]
    · rw [if_pos (show d.val / 64 = (1 : Fin 2).val by show d.val / 64 = 1; omega)]; simp [hl, Scalar.select]

/-- The two heads' row terms, the same in every lane. -/
theorem rowTerms (h : Fin 2) (r : Fin 512) (d : Fin 128) : slab (R11 c arg6 harg6 arg11 x3) h (ix2 r d) = x3 (ix3 0 r h) := by
  obtain rfl | rfl : h = 0 ∨ h = 1 := by omega
  · refine (congrFun (store _ _ _ _ _ _ [] 0) _).trans ?_
    exact (spread_apply _ r d).trans (load_col arg6 harg6 x3 0 _ r)
  · refine (congrFun (store _ _ _ _ _ _ [] 1) _).trans ?_
    exact (spread_apply _ r d).trans (load_col arg6 harg6 x3 1 _ r)

end

end Cert.Proof.Loads
-- ==== Proof.Flat.lean ====
/- One row's softmax as the reference writes it — over all 8192 scores at once, in base e of the scores times log 2 — equals the
   quotient of the running sums over sixteen tiles (Softmax.lean). -/
module

public import proofs.«01_k».proof.Proof.Softmax

@[expose] public section

noncomputable section

namespace Cert.Proof.Softmax

open Idealize.ShloMosaic

/-- The scores of a row cut into tiles of 512. -/
def tile (S : ℕ → EReal) (t : ℕ) (j : Fin 512) : EReal := S (t * 512 + j.val)

/-- A sum over the 8192 positions is the sum over the tiles. -/
theorem sum_tiles (F : ℕ → EReal) : ∑ i : Fin 8192, F i.val = ∑ t ∈ Finset.range 16, ∑ j : Fin 512, F (t * 512 + j.val) := by
  rw [Finset.sum_range fun t => ∑ j : Fin 512, F (t * 512 + j.val), ← Fintype.sum_prod_type' fun (t : Fin 16) (j : Fin 512) => F (t.val * 512 + j.val)]
  rw [← Equiv.sum_comp (finProdFinEquiv (m := 16) (n := 512)) fun i : Fin (16 * 512) => F i.val]
  refine Finset.sum_congr rfl fun x _ => ?_
  congr 1
  rw [finProdFinEquiv_apply_val]
  omega

/-- The largest of the 8192 scores is the largest over the tiles. -/
theorem sup_tiles (S : ℕ → EReal) : (Finset.univ.sup fun i : Fin 8192 => S i.val) = M (tile S) 16 := by
  apply le_antisymm
  · refine Finset.sup_le fun i _ => ?_
    have h := le_M (s := tile S) (k := 16) (t := i.val / 512) (by omega) ⟨i.val % 512, by omega⟩
    have e : i.val / 512 * 512 + i.val % 512 = i.val := by omega
    rw [tile] at h
    simp only at h
    rwa [e] at h
  · refine Finset.sup_le fun t ht => Finset.sup_le fun j _ => ?_
    have ht' := Finset.mem_range.1 ht
    exact Finset.le_sup (f := fun i : Fin 8192 => S i.val) (Finset.mem_univ (⟨t * 512 + j.val, by omega⟩ : Fin 8192))

/-- log 2 is positive. -/
theorem log2_pos : 0 < Real.log 2 := Real.log_pos (by norm_num)

/-- A natural exponential of a difference times log 2 is a power of two. -/
theorem exp_log2 {x m : EReal} (hx : x ≠ ⊤) (hb : m ≠ ⊥) (ht : m ≠ ⊤) :
    Ideal.exp (x * ((Real.log 2 : ℝ) : EReal) - m * ((Real.log 2 : ℝ) : EReal)) = e2 (x - m) := by
  induction m with
  | bot => exact absurd rfl hb
  | top => exact absurd rfl ht
  | coe b =>
    induction x with
    | bot =>
      rw [EReal.bot_mul_of_pos (by exact_mod_cast log2_pos), ← EReal.coe_mul]
      simp [e2, sub_eq_add_neg]
    | top => exact absurd rfl hx
    | coe a =>
      rw [← EReal.coe_mul, ← EReal.coe_mul, ← EReal.coe_sub, ← EReal.coe_sub, Ideal.exp_coe, e2, Ideal.exp2_coe]
      congr 1
      show _ = (2 : ℝ) ^ (a - b)
      rw [Real.rpow_def_of_pos (by norm_num)]
      congr 1
      ring

/-- The largest of the scores times log 2. -/
theorem sup_log2 {ι : Type*} [Fintype ι] (S : ι → EReal) :
    (Finset.univ.sup fun i => S i * ((Real.log 2 : ℝ) : EReal)) = Finset.univ.sup S * ((Real.log 2 : ℝ) : EReal) := by
  have hpos : (0 : EReal) < ((Real.log 2 : ℝ) : EReal) := by exact_mod_cast log2_pos
  have hmono : Monotone fun x : EReal => x * ((Real.log 2 : ℝ) : EReal) := fun a b h => mul_le_mul_of_nonneg_right h hpos.le
  exact (Finset.comp_sup_eq_sup_comp_of_is_total (s := Finset.univ) (f := S) _ hmono (EReal.bot_mul_of_pos hpos)).symm

/-- The row as the reference computes it. -/
def refRow (S V : ℕ → EReal) : EReal :=
  ∑ i : Fin 8192, V i.val * Ideal.div
    (Ideal.exp (S i.val * ((Real.log 2 : ℝ) : EReal) - Finset.univ.sup fun i : Fin 8192 => S i.val * ((Real.log 2 : ℝ) : EReal)))
    (∑ i : Fin 8192, Ideal.exp (S i.val * ((Real.log 2 : ℝ) : EReal) - Finset.univ.sup fun i : Fin 8192 => S i.val * ((Real.log 2 : ℝ) : EReal)))

/-- It is the quotient of the running sums. -/
theorem refRow_eq {S : ℕ → EReal} (V : ℕ → EReal) (hS : ∀ i, S i ≠ ⊤) (hb : M (tile S) 16 ≠ ⊥) :
    refRow S V = Ideal.div (A (tile S) (tile V) 16) (L (tile S) 16) := by
  have hs : ∀ t j, tile S t j ≠ ⊤ := fun t j => hS _
  have hm : (Finset.univ.sup fun i : Fin 8192 => S i.val * ((Real.log 2 : ℝ) : EReal)) = M (tile S) 16 * ((Real.log 2 : ℝ) : EReal) := by
    rw [sup_log2 fun i : Fin 8192 => S i.val, sup_tiles]
  have he : ∀ i : Fin 8192, Ideal.exp (S i.val * ((Real.log 2 : ℝ) : EReal) - M (tile S) 16 * ((Real.log 2 : ℝ) : EReal))
      = e2 (S i.val - M (tile S) 16) := fun i => exp_log2 (hS _) hb (M_ne_top hs _)
  have hl : ∑ i : Fin 8192, e2 (S i.val - M (tile S) 16) = L (tile S) 16 := sum_tiles fun i => e2 (S i - M (tile S) 16)
  unfold refRow
  simp only [hm, he]
  rw [hl]
  obtain ⟨l, hl0, hl1⟩ := L_real hs hb
  rw [hl1]
  have hdiv : ∀ x : EReal, Ideal.div x (l : EReal) = ((1 / l : ℝ) : EReal) * x := fun x => by
    rw [Ideal.div_coe hl0.ne', mul_comm]
  simp only [hdiv]
  rw [sum_tiles fun i => V i * (((1 / l : ℝ) : EReal) * e2 (S i - M (tile S) 16))]
  have hnn : (0 : EReal) ≤ ((1 / l : ℝ) : EReal) := by
    have : (0 : ℝ) ≤ 1 / l := by positivity
    exact_mod_cast this
  unfold A
  rw [mul_sum hnn (EReal.coe_ne_top _)]
  refine Finset.sum_congr rfl fun t _ => ?_
  rw [mul_sum hnn (EReal.coe_ne_top _)]
  refine Finset.sum_congr rfl fun j _ => ?_
  rw [tile, tile, mul_comm (V _), mul_assoc]

end Cert.Proof.Softmax
-- ==== Proof.Block.lean ====
/- The block the kernel's body leaves at a grid point, in the problem's own terms: for each row and lane the softmax-weighted sum of the
   values over all keys not after the row, over the root of its head's mean square, times the gain. -/
module

public import proofs.«01_k».proof.Proof.Loads
public import proofs.«01_k».proof.Proof.Flat

@[expose] public section

set_option maxRecDepth 16384

noncomputable section

namespace Cert.Proof.Block

open Cert.KernelIdeal Cert.KernelIdeal.Gen Idealize.ShloMosaic Idealize.ShloMosaic.TcCoe Idealize.SL.Sem Cert.Proof.Slab Cert.Proof.Tile
open Cert.Proof.Softmax Cert.Proof.Trip Cert.Proof.Loop Cert.Proof.Final Cert.Proof.Merge Cert.Proof.Loads

/-- Lane `e` of head `h`. -/
def lane (h : Fin 2) (e : Fin 64) : Fin 128 := ⟨h.val * 64 + e.val, by omega⟩

/-- A sum over the lanes that keeps one head's. -/
theorem sum_head (h : Fin 2) (f g : Fin 128 → EReal) :
    (∑ d : Fin 128, (if d.val / 64 = h.val then f d else 0) * g d) = ∑ e : Fin 64, f (lane h e) * g (lane h e) := by
  obtain rfl | rfl : h = 0 ∨ h = 1 := by omega
  · refine Eq.trans ?_ ((sum_low fun d => f d * g d).trans (Finset.sum_congr rfl fun e _ => ?_))
    · refine Finset.sum_congr rfl fun d _ => ?_
      have hd := d.isLt
      by_cases hl : d.val < 64
      · rw [if_pos (show d.val / 64 = (0 : Fin 2).val by show d.val / 64 = 0; omega), if_pos hl]
      · rw [if_neg (show ¬ d.val / 64 = (0 : Fin 2).val by show ¬ d.val / 64 = 0; omega), if_neg hl, zero_mul]
    · rw [show lane 0 e = ⟨e.val, by omega⟩ from Fin.ext (by show 0 * 64 + e.val = e.val; omega)]
  · refine Eq.trans ?_ ((sum_high fun d => f d * g d).trans (Finset.sum_congr rfl fun e _ => ?_))
    · refine Finset.sum_congr rfl fun d _ => ?_
      have hd := d.isLt
      by_cases hl : 64 ≤ d.val
      · rw [if_pos (show d.val / 64 = (1 : Fin 2).val by show d.val / 64 = 1; omega), if_pos hl]
      · rw [if_neg (show ¬ d.val / 64 = (1 : Fin 2).val by show ¬ d.val / 64 = 1; omega), if_neg hl, zero_mul]
    · rw [show lane 1 e = ⟨64 + e.val, by omega⟩ from Fin.ext (by show 1 * 64 + e.val = 64 + e.val; omega)]

section Spec

variable (qi : Fin 16) (x0 : FVec Ideal S512x128 .bf16) (x1 x2 : FVec Ideal S8192x128 .bf16) (x3 : FVec Ideal S1x512x2 .f32)
  (x4 : FVec Ideal S1x1x16x2x512 .f32)

/-- The score of row `r` against key `n` before the row term. -/
def raw (h : Fin 2) (r : Fin 512) (n : ℕ) : EReal :=
  (∑ e : Fin 64, x0 (ix2 r (lane h e)) * x1 (ix2 (key n) (lane h e))) - x4 (ix5 0 0 (tileIx n) h (place n))

/-- The scores of row `r`, at minus infinity after the row. -/
def S (h : Fin 2) (r : Fin 512) (n : ℕ) : EReal :=
  if n ≤ qi.val * 512 + r.val then raw x0 x1 x4 h r n + x3 (ix3 0 r h) else ⊥

/-- The values' lane `d`. -/
def V (d : Fin 128) (n : ℕ) : EReal := x2 (ix2 (key n) d)

/-- Row `r`'s attention, at lane `d`. -/
def att (h : Fin 2) (r : Fin 512) (d : Fin 128) : EReal := refRow (S qi x0 x1 x3 x4 h r) (V x2 d)

theorem S_of_le (h : Fin 2) (r : Fin 512) (n : ℕ) (hn : n ≤ qi.val * 512 + r.val) :
    S qi x0 x1 x3 x4 h r n = raw x0 x1 x4 h r n + x3 (ix3 0 r h) := if_pos hn

theorem S_of_lt (h : Fin 2) (r : Fin 512) (n : ℕ) (hn : qi.val * 512 + r.val < n) : S qi x0 x1 x3 x4 h r n = ⊥ := if_neg (by omega)

variable (hx0 : ∀ y, ∃ a : ℝ, x0 y = (a : EReal)) (hx1 : ∀ y, ∃ a : ℝ, x1 y = (a : EReal)) (hx3 : ∀ y, ∃ a : ℝ, x3 y = (a : EReal))
  (hx4 : ∀ y, ∃ a : ℝ, x4 y = (a : EReal))

include hx0 hx1 hx4 in
theorem raw_real (h : Fin 2) (r : Fin 512) (n : ℕ) : ∃ a : ℝ, raw x0 x1 x4 h r n = (a : EReal) := by
  choose f0 e0 using hx0
  choose f1 e1 using hx1
  choose f4 e4 using hx4
  refine ⟨(∑ e : Fin 64, f0 (ix2 r (lane h e)) * f1 (ix2 (key n) (lane h e))) - f4 (ix5 0 0 (tileIx n) h (place n)), ?_⟩
  rw [raw, EReal.coe_sub, coe_sum, e4]
  simp only [e0, e1, EReal.coe_mul]

include hx0 hx1 hx3 hx4 in
theorem S_ne_top (h : Fin 2) (r : Fin 512) (n : ℕ) : S qi x0 x1 x3 x4 h r n ≠ ⊤ := by
  obtain ⟨a, ea⟩ := raw_real x0 x1 x4 hx0 hx1 hx4 h r n
  obtain ⟨b, eb⟩ := hx3 (ix3 0 r h)
  rw [S, ea, eb, ← EReal.coe_add]
  split
  · exact EReal.coe_ne_top _
  · simp

include hx0 hx1 hx3 hx4 in
theorem M_ne_bot (h : Fin 2) (r : Fin 512) (k : ℕ) : M (tile (S qi x0 x1 x3 x4 h r)) (k + 1) ≠ ⊥ := by
  intro hM
  have h0 := le_M (s := tile (S qi x0 x1 x3 x4 h r)) (Nat.succ_pos k) (0 : Fin 512)
  obtain ⟨a, ea⟩ := raw_real x0 x1 x4 hx0 hx1 hx4 h r 0
  obtain ⟨b, eb⟩ := hx3 (ix3 0 r h)
  have e : tile (S qi x0 x1 x3 x4 h r) 0 (0 : Fin 512) = ((a + b : ℝ) : EReal) := by
    show S qi x0 x1 x3 x4 h r 0 = _
    rw [S, if_pos (Nat.zero_le _), ea, eb, EReal.coe_add]
  rw [e, hM] at h0
  exact EReal.coe_ne_bot _ (le_bot_iff.1 h0)

theorem S_after (h : Fin 2) (r : Fin 512) (t : ℕ) (ht : qi.val + 1 ≤ t) (j : Fin 512) : tile (S qi x0 x1 x3 x4 h r) t j = ⊥ := by
  have hr := r.isLt
  show S qi x0 x1 x3 x4 h r (t * 512 + j.val) = ⊥
  have : (qi.val + 1) * 512 ≤ t * 512 := Nat.mul_le_mul_right _ ht
  exact if_neg (by omega)

include hx0 hx1 hx3 hx4 in
/-- The kernel's quotient after the diagonal tile is the attention. -/
theorem att_eq (h : Fin 2) (r : Fin 512) (d : Fin 128) :
    Ideal.div (A (tile (S qi x0 x1 x3 x4 h r)) (tile (V x2 d)) (qi.val + 1)) (L (tile (S qi x0 x1 x3 x4 h r)) (qi.val + 1))
      = att qi x0 x1 x2 x3 x4 h r d := by
  have hq := qi.isLt
  have eA := A_stable (tile (V x2 d)) (S_after qi x0 x1 x3 x4 h r) (15 - qi.val)
  have eL := L_stable (S_after qi x0 x1 x3 x4 h r) (15 - qi.val)
  rw [show qi.val + 1 + (15 - qi.val) = 16 by omega] at eA eL
  rw [att, refRow_eq (V x2 d) (S_ne_top qi x0 x1 x3 x4 hx0 hx1 hx3 hx4 h r) (M_ne_bot qi x0 x1 x3 x4 hx0 hx1 hx3 hx4 h r 15), eA, eL]

end Spec

section

variable (c : Dev nD) (i : grid0.Coords) (arg3 : Memref sig .tc .vmem S512x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x512x2 .f32) (harg6 : arg6.IsWhole) (arg7 : Memref sig .tc .vmem S1x1x16x2x512 .f32) (harg7 : arg7.IsWhole) (arg8 : Memref sig .tc .vmem S1x128 .f32) (harg8 : arg8.IsWhole) (arg9 : Memref sig .tc .vmem S512x128 .bf16) (harg9 : arg9.IsWhole) (arg10 : Memref sig .tc .vmem S2x512x128 .bf16) (harg10 : arg10.IsWhole) (arg11 : Memref sig .tc .vmem S2x512x128 .f32) (harg11 : arg11.IsWhole) (arg12 : Memref sig .tc .vmem S2x512x128 .f32) (harg12 : arg12.IsWhole) (arg13 : Memref sig .tc .vmem S2x512x128 .f32) (harg13 : arg13.IsWhole) (arg14 : Memref sig .tc .vmem S2x512x128 .f32) (harg14 : arg14.IsWhole)
    (x0 : Vec Ideal S512x128 .bf16) (x1 : Vec Ideal S8192x128 .bf16) (x2 : Vec Ideal S8192x128 .bf16) (x3 : Vec Ideal S1x512x2 .f32) (x4 : Vec Ideal S1x1x16x2x512 .f32) (x5 : Vec Ideal S1x128 .f32)
  (hx0 : ∀ y, ∃ a : ℝ, x0 y = (a : EReal)) (hx1 : ∀ y, ∃ a : ℝ, x1 y = (a : EReal)) (hx3 : ∀ y, ∃ a : ℝ, x3 y = (a : EReal))
  (hx4 : ∀ y, ∃ a : ℝ, x4 y = (a : EReal))

/-- A tile of the kernel's scores, from its loads. -/
theorem score_eq (K : FVec Ideal S512x128 .bf16) (W : FVec Ideal S1x1x1x2x512 .f32) (t : ℕ)
    (hK : ∀ j d, K (ix2 j d) = x1 (ix2 (key (t * 512 + j.val)) d))
    (hW : ∀ h j, keyRow W h (ix2 0 j) = x4 (ix5 0 0 (tileIx (t * 512 + j.val)) h (place (t * 512 + j.val)))) (h : Fin 2) (r j : Fin 512) :
    score (slab (R10 c arg3 harg3 arg10 x0) h) K (keyRow W h) (ix2 r j) = raw x0 x1 x4 h r (t * 512 + j.val) := by
  rw [score_apply, hW, raw]
  simp only [queries, hK]
  rw [sum_head h (fun d => x0 (ix2 r d)) fun d => x1 (ix2 (key (t * 512 + j.val)) d)]

include hx0 hx1 hx3 hx4 in
/-- What the loop leaves. -/
theorem after_loop : Good (fun h r => tile (S (i 2) x0 x1 x3 x4 h r)) (fun d => tile (V x2 d)) (i 2).val
    (R12 c i arg3 harg3 arg4 harg4 arg5 harg5 arg6 harg6 arg7 harg7 arg8 harg8 arg9 harg9 arg10 harg10 arg11 harg11 arg12 harg12 arg13 harg13 arg14 harg14 x0 x1 x2 x3 x4) (R13 c i arg3 harg3 arg4 harg4 arg5 harg5 arg6 harg6 arg7 harg7 arg8 harg8 arg9 harg9 arg10 harg10 arg11 harg11 arg12 harg12 arg13 harg13 arg14 harg14 x0 x1 x2 x3 x4) (R14 c i arg3 harg3 arg4 harg4 arg5 harg5 arg6 harg6 arg7 harg7 arg8 harg8 arg9 harg9 arg10 harg10 arg11 harg11 arg12 harg12 arg13 harg13 arg14 harg14 x0 x1 x2 x3 x4) := by
  choose f3 e3 using hx3
  have hx3 : ∀ y, ∃ a : ℝ, x3 y = (a : EReal) := fun y => ⟨f3 y, e3 y⟩
  have hsc := fun k : Fin (k0_t1_loop i).trips => score_eq c arg3 harg3 arg10 x0 x1 x4 (keys i arg4 (harg4.unread x1) k) (terms i arg7 (harg7.unread x4) k) k.val
    (fun j d => load_rows arg4 harg4 x1 _ k.val (trip_lt i k) (off2 i k) j d) (fun h j => load_terms arg7 harg7 x4 _ k.val (trip_lt i k) (off1 i k) h j)
  have hl := loop Variants.none c none i arg3 harg3 arg4 harg4 arg5 harg5 arg6 harg6 arg7 harg7 arg8 harg8 arg9 harg9 arg10 harg10 arg11 harg11 arg12 harg12 arg13 harg13 arg14 harg14 (BitVec.ofNat 32 (i 2).val) k0_pay36 (harg4.unread x1) (harg5.unread x2) (harg7.unread x4) (f10 c arg3 harg3 arg10 x0) (f11 c arg6 harg6 arg11 x3) (g12 arg12) (g13 arg13) (g14 arg14)
    (s := fun h r => tile (S (i 2) x0 x1 x3 x4 h r)) (v := fun d => tile (V x2 d))
    (fun h r t j => S_ne_top (i 2) x0 x1 x3 x4 hx0 hx1 hx3 hx4 h r _)
    (fun h r k => M_ne_bot (i 2) x0 x1 x3 x4 hx0 hx1 hx3 hx4 h r k) (fun h r => f3 (ix3 0 r h))
    (fun k h r j => by
      obtain ⟨a, ea⟩ := raw_real x0 x1 x4 hx0 hx1 hx4 h r (k.val * 512 + j.val)
      rw [tileOf, hsc k h r j, ea]
      exact EReal.coe_ne_top _)
    (fun k h r j => by
      have hk := k.isLt.trans_le (trips1 i).le
      have hj := j.isLt
      have : (k.val + 1) * 512 ≤ (i 2).val * 512 := Nat.mul_le_mul_right _ hk
      rw [tileOf, hsc k h r j]
      exact (S_of_le (i 2) x0 x1 x3 x4 h r _ (by omega)).trans (by rw [e3]))
    (fun h r d => by rw [rowTerms, e3])
    (fun k j d => load_rows arg5 harg5 x2 _ k.val (trip_lt i k) (off2 i k) j d)
    (fun h r d => by
      refine ⟨?_, ?_, ?_⟩
      · rw [M_zero, slab_apply]
        refine (congrFun (store_all _ _ _ _ []) _).trans ?_
        pointwise [k0_pay37, k0_pay36]
        rfl
      · rw [L_zero, slab_apply]
        refine (congrFun (store_all _ _ _ _ []) _).trans ?_
        pointwise [k0_pay38]
      · rw [A_zero, slab_apply]
        refine (congrFun (store_all _ _ _ _ []) _).trans ?_
        pointwise [k0_pay39])
    _ le_rfl
  exact Eq.mp (congrArg (fun n => Good (fun h r => tile (S (i 2) x0 x1 x3 x4 h r)) (fun d => tile (V x2 d)) n
    (R12 c i arg3 harg3 arg4 harg4 arg5 harg5 arg6 harg6 arg7 harg7 arg8 harg8 arg9 harg9 arg10 harg10 arg11 harg11 arg12 harg12 arg13 harg13 arg14 harg14 x0 x1 x2 x3 x4) (R13 c i arg3 harg3 arg4 harg4 arg5 harg5 arg6 harg6 arg7 harg7 arg8 harg8 arg9 harg9 arg10 harg10 arg11 harg11 arg12 harg12 arg13 harg13 arg14 harg14 x0 x1 x2 x3 x4) (R14 c i arg3 harg3 arg4 harg4 arg5 harg5 arg6 harg6 arg7 harg7 arg8 harg8 arg9 harg9 arg10 harg10 arg11 harg11 arg12 harg12 arg13 harg13 arg14 harg14 x0 x1 x2 x3 x4)) (trips1 i)) hl

include hx0 hx1 hx3 hx4 in
/-- What the diagonal tile makes of it. -/
theorem after_diagonal (h : Fin 2) (r : Fin 512) (d : Fin 128) :
    dL (R10 c arg3 harg3 arg10 x0) (R11 c arg6 harg6 arg11 x3) (R12 c i arg3 harg3 arg4 harg4 arg5 harg5 arg6 harg6 arg7 harg7 arg8 harg8 arg9 harg9 arg10 harg10 arg11 harg11 arg12 harg12 arg13 harg13 arg14 harg14 x0 x1 x2 x3 x4) (R13 c i arg3 harg3 arg4 harg4 arg5 harg5 arg6 harg6 arg7 harg7 arg8 harg8 arg9 harg9 arg10 harg10 arg11 harg11 arg12 harg12 arg13 harg13 arg14 harg14 x0 x1 x2 x3 x4) (dK i arg4 harg4 x1) (dW i arg7 harg7 x4) h (ix2 r d) = L (tile (S (i 2) x0 x1 x3 x4 h r)) ((i 2).val + 1)
    ∧ dA (R10 c arg3 harg3 arg10 x0) (R11 c arg6 harg6 arg11 x3) (R12 c i arg3 harg3 arg4 harg4 arg5 harg5 arg6 harg6 arg7 harg7 arg8 harg8 arg9 harg9 arg10 harg10 arg11 harg11 arg12 harg12 arg13 harg13 arg14 harg14 x0 x1 x2 x3 x4) (R14 c i arg3 harg3 arg4 harg4 arg5 harg5 arg6 harg6 arg7 harg7 arg8 harg8 arg9 harg9 arg10 harg10 arg11 harg11 arg12 harg12 arg13 harg13 arg14 harg14 x0 x1 x2 x3 x4) (dK i arg4 harg4 x1) (dV i arg5 harg5 x2) (dW i arg7 harg7 x4) h (ix2 r d) = A (tile (S (i 2) x0 x1 x3 x4 h r)) (tile (V x2 d)) ((i 2).val + 1) := by
  have hl := after_loop c i arg3 harg3 arg4 harg4 arg5 harg5 arg6 harg6 arg7 harg7 arg8 harg8 arg9 harg9 arg10 harg10 arg11 harg11 arg12 harg12 arg13 harg13 arg14 harg14 x0 x1 x2 x3 x4 hx0 hx1 hx3 hx4
  choose f3 e3 using hx3
  have hx3 : ∀ y, ∃ a : ℝ, x3 y = (a : EReal) := fun y => ⟨f3 y, e3 y⟩
  have hT : ∀ h r j, dT (R10 c arg3 harg3 arg10 x0) (dK i arg4 harg4 x1) (dW i arg7 harg7 x4) h (ix2 r j)
      = if j.val ≤ r.val then raw x0 x1 x4 h r ((i 2).val * 512 + j.val) else ⊥ := fun h r j => by
    rw [dT, masked_apply, score_eq c arg3 harg3 arg10 x0 x1 x4 (dK i arg4 harg4 x1) (dW i arg7 harg7 x4) (i 2).val
      (fun j d => load_rows arg4 harg4 x1 _ (i 2).val (i 2).isLt (off6 i) j d) (fun h j => load_terms arg7 harg7 x4 _ (i 2).val (i 2).isLt (off5 i) h j)]
  have hg := good_step (k := (i 2).val) (s := fun h r => tile (S (i 2) x0 x1 x3 x4 h r)) (v := fun d => tile (V x2 d))
    (m' := glue (dM (R10 c arg3 harg3 arg10 x0) (R11 c arg6 harg6 arg11 x3) (R12 c i arg3 harg3 arg4 harg4 arg5 harg5 arg6 harg6 arg7 harg7 arg8 harg8 arg9 harg9 arg10 harg10 arg11 harg11 arg12 harg12 arg13 harg13 arg14 harg14 x0 x1 x2 x3 x4) (dK i arg4 harg4 x1) (dW i arg7 harg7 x4)))
    (l' := glue (dL (R10 c arg3 harg3 arg10 x0) (R11 c arg6 harg6 arg11 x3) (R12 c i arg3 harg3 arg4 harg4 arg5 harg5 arg6 harg6 arg7 harg7 arg8 harg8 arg9 harg9 arg10 harg10 arg11 harg11 arg12 harg12 arg13 harg13 arg14 harg14 x0 x1 x2 x3 x4) (R13 c i arg3 harg3 arg4 harg4 arg5 harg5 arg6 harg6 arg7 harg7 arg8 harg8 arg9 harg9 arg10 harg10 arg11 harg11 arg12 harg12 arg13 harg13 arg14 harg14 x0 x1 x2 x3 x4) (dK i arg4 harg4 x1) (dW i arg7 harg7 x4)))
    (a' := glue (dA (R10 c arg3 harg3 arg10 x0) (R11 c arg6 harg6 arg11 x3) (R12 c i arg3 harg3 arg4 harg4 arg5 harg5 arg6 harg6 arg7 harg7 arg8 harg8 arg9 harg9 arg10 harg10 arg11 harg11 arg12 harg12 arg13 harg13 arg14 harg14 x0 x1 x2 x3 x4) (R14 c i arg3 harg3 arg4 harg4 arg5 harg5 arg6 harg6 arg7 harg7 arg8 harg8 arg9 harg9 arg10 harg10 arg11 harg11 arg12 harg12 arg13 harg13 arg14 harg14 x0 x1 x2 x3 x4) (dK i arg4 harg4 x1) (dV i arg5 harg5 x2) (dW i arg7 harg7 x4)))
    (fun h r t j => S_ne_top (i 2) x0 x1 x3 x4 hx0 hx1 hx3 hx4 h r _)
    (fun h r => M_ne_bot (i 2) x0 x1 x3 x4 hx0 hx1 hx3 hx4 h r _) (fun h r => f3 (ix3 0 r h))
    (dT (R10 c arg3 harg3 arg10 x0) (dK i arg4 harg4 x1) (dW i arg7 harg7 x4)) (R11 c arg6 harg6 arg11 x3) (dV i arg5 harg5 x2)
    (fun h r j => by
      obtain ⟨a, ea⟩ := raw_real x0 x1 x4 hx0 hx1 hx4 h r ((i 2).val * 512 + j.val)
      rw [hT, ea]
      split
      · exact EReal.coe_ne_top _
      · simp)
    (fun h r j => by
      rw [hT]
      by_cases hj : j.val ≤ r.val
      · rw [if_pos hj]
        exact (S_of_le (i 2) x0 x1 x3 x4 h r _ (by omega)).trans (by rw [e3])
      · rw [if_neg hj]
        exact (S_of_lt (i 2) x0 x1 x3 x4 h r _ (by omega)).trans (EReal.bot_add _).symm)
    (fun h r d => by rw [rowTerms, e3])
    (fun j d => load_rows arg5 harg5 x2 _ (i 2).val (i 2).isLt (off6 i) j d)
    hl
    (fun h => slab_glue _ h) (fun h => slab_glue _ h) (fun h => slab_glue _ h)
  have hg' := (hg h r d).2
  rw [slab_glue, slab_glue] at hg'
  exact hg'

include hx0 hx1 hx3 hx4 in
/-- The block at a row and a lane. -/
theorem block_apply (r : Fin 512) (d : Fin 128) : out0_A_6 (F := Ideal) c i arg3 harg3 arg4 harg4 arg5 harg5 arg6 harg6 arg7 harg7 arg8 harg8 arg9 harg9 arg10 harg10 arg11 harg11 arg12 harg12 arg13 harg13 arg14 harg14 x0 x1 x2 x3 x4 x5 (ix2 r d)
    = (if d.val < 64 then att (i 2) x0 x1 x2 x3 x4 0 r d * root (fun e => att (i 2) x0 x1 x2 x3 x4 0 r ⟨e.val, by omega⟩)
        else att (i 2) x0 x1 x2 x3 x4 1 r d * root (fun e => att (i 2) x0 x1 x2 x3 x4 1 r ⟨64 + e.val, by omega⟩)) * x5 (ix2 0 d) := by
  have ho : ∀ (h : Fin 2) (d : Fin 128), divf (dA (R10 c arg3 harg3 arg10 x0) (R11 c arg6 harg6 arg11 x3) (R12 c i arg3 harg3 arg4 harg4 arg5 harg5 arg6 harg6 arg7 harg7 arg8 harg8 arg9 harg9 arg10 harg10 arg11 harg11 arg12 harg12 arg13 harg13 arg14 harg14 x0 x1 x2 x3 x4) (R14 c i arg3 harg3 arg4 harg4 arg5 harg5 arg6 harg6 arg7 harg7 arg8 harg8 arg9 harg9 arg10 harg10 arg11 harg11 arg12 harg12 arg13 harg13 arg14 harg14 x0 x1 x2 x3 x4) (dK i arg4 harg4 x1) (dV i arg5 harg5 x2) (dW i arg7 harg7 x4) h) (dL (R10 c arg3 harg3 arg10 x0) (R11 c arg6 harg6 arg11 x3) (R12 c i arg3 harg3 arg4 harg4 arg5 harg5 arg6 harg6 arg7 harg7 arg8 harg8 arg9 harg9 arg10 harg10 arg11 harg11 arg12 harg12 arg13 harg13 arg14 harg14 x0 x1 x2 x3 x4) (R13 c i arg3 harg3 arg4 harg4 arg5 harg5 arg6 harg6 arg7 harg7 arg8 harg8 arg9 harg9 arg10 harg10 arg11 harg11 arg12 harg12 arg13 harg13 arg14 harg14 x0 x1 x2 x3 x4) (dK i arg4 harg4 x1) (dW i arg7 harg7 x4) h) (ix2 r d)
      = att (i 2) x0 x1 x2 x3 x4 h r d := fun h d => by
    obtain ⟨eL, eA⟩ := after_diagonal c i arg3 harg3 arg4 harg4 arg5 harg5 arg6 harg6 arg7 harg7 arg8 harg8 arg9 harg9 arg10 harg10 arg11 harg11 arg12 harg12 arg13 harg13 arg14 harg14 x0 x1 x2 x3 x4 hx0 hx1 hx3 hx4 h r d
    show Ideal.div _ _ = _
    rw [eL, eA]
    exact att_eq (i 2) x0 x1 x2 x3 x4 hx0 hx1 hx3 hx4 h r d
  rw [out_eq, pay1_eq, c160, merge_apply]
  simp only [ho]

end

end Cert.Proof.Block
-- ==== Proof.RefScore.lean ====
/- The reference's scores, its softmax and its weighted sum, read at a position. -/
module

public import proofs.«01_k».proof.Proof.Gen.ReferenceIdeal.Read
public import proofs.«01_k».proof.Proof.Flat
public import proofs.«01_k».proof.Proof.Loads
public import Idealize.ShloMosaic.Lib.Pointwise

@[expose] public section

set_option maxRecDepth 16384

noncomputable section

namespace Cert.Proof.RefScore

open Idealize.ShloMosaic
open Cert.ReferenceIdeal Cert.ReferenceIdeal.Read
open Cert.Proof.Softmax Cert.Proof.Loads

/-- The row of the arrays that holds position `n` of sequence `b`. -/
def row (b : Fin 2) (n : Fin 8192) : Fin 16896 := ⟨b.val * 8192 + n.val, by omega⟩
/-- The column that holds channel `e` of head `h`. -/
def col (h : Fin 8) (e : Fin 64) : Fin 512 := ⟨h.val * 64 + e.val, by omega⟩
/-- The row of the decay terms for head `h` of sequence `b`. -/
def band (b : Fin 2) (h : Fin 8) : Fin 16 := ⟨b.val * 8 + h.val, by omega⟩

abbrev Rows := (⟨S16896x512, .bf16⟩ : BufTy).Contents (Elt Ideal)
abbrev Terms := (⟨S16x8192, .f32⟩ : BufTy).Contents (Elt Ideal)

/-- The score of position `n` for the query at `r`: the product of the two rows plus the query's term less the key's. -/
def dots (x0 x1 : Rows) (b : Fin 2) (h : Fin 8) (r n : Fin 8192) : EReal :=
  ∑ e : Fin 64, x0 (ix2 (row b r) (col h e)) * x1 (ix2 (row b n) (col h e))

def score (x0 x1 : Rows) (x3 : Terms) (b : Fin 2) (h : Fin 8) (r : Fin 8192) (n : ℕ) : EReal :=
  if n ≤ r.val then dots x0 x1 b h r (key n) + x3 (ix2 (band b h) r) - x3 (ix2 (band b h) (key n)) else ⊥

/-- The value at position `n`. -/
def value (x2 : Rows) (b : Fin 2) (h : Fin 8) (e : Fin 64) (n : ℕ) : EReal := x2 (ix2 (row b (key n)) (col h e))

theorem key_val (n : Fin 8192) : key n.val = n := Fin.ext (Nat.mod_eq_of_lt n.isLt)

/-- An array's rows cut into sequences and heads. -/
theorem heads2 (x : Rows) (i : S2x8192x8x64.Idx) : val_main_v2 (F := Ideal) x i = x (ix2 (row (i 0) (i 1)) (col (i 2) (i 3))) := by
  rw [val_main_v2_apply, val_main_v1_apply, val_main_v0_apply]
  show x _ = x _
  have h0 : (i 0).val < 2 := (i 0).isLt
  have h1 : (i 1).val < 8192 := (i 1).isLt
  have h2 : (i 2).val < 8 := (i 2).isLt
  have h3 : (i 3).val < 64 := (i 3).isLt
  refine congrArg x (funext fun a => Fin.ext ?_)
  match a with
  | ⟨0, _⟩ => show ((((i 0).val * 8192 + (i 1).val) * 8 + (i 2).val) * 64 + (i 3).val) / 512 = (i 0).val * 8192 + (i 1).val; omega
  | ⟨1, _⟩ => show ((((i 0).val * 8192 + (i 1).val) * 8 + (i 2).val) * 64 + (i 3).val) % 512 = (i 2).val * 64 + (i 3).val; omega

theorem heads5 (x : Rows) (i : S2x8192x8x64.Idx) : val_main_v5 (F := Ideal) x i = x (ix2 (row (i 0) (i 1)) (col (i 2) (i 3))) := heads2 x i
theorem heads8 (x : Rows) (i : S2x8192x8x64.Idx) : val_main_v8 (F := Ideal) x i = x (ix2 (row (i 0) (i 1)) (col (i 2) (i 3))) := heads2 x i

/-- The decay terms cut into sequences and heads. -/
theorem terms9 (x : Terms) (i : S2x8x8192.Idx) : val_main_v9 (F := Ideal) x i = x (ix2 (band (i 0) (i 1)) (i 2)) := by
  rw [val_main_v9_apply]
  have h0 : (i 0).val < 2 := (i 0).isLt
  have h1 : (i 1).val < 8 := (i 1).isLt
  have h2 : (i 2).val < 8192 := (i 2).isLt
  refine congrArg x (funext fun a => Fin.ext ?_)
  match a with
  | ⟨0, _⟩ => show (((i 0).val * 8 + (i 1).val) * 8192 + (i 2).val) / 8192 = (i 0).val * 8 + (i 1).val; omega
  | ⟨1, _⟩ => show (((i 0).val * 8 + (i 1).val) * 8192 + (i 2).val) % 8192 = (i 2).val; omega

/-- The unmasked scores. -/
theorem v16_apply (x0 x1 : Rows) (x3 : Terms) (i : S2x8x8192x8192.Idx) :
    val_main_v16 (F := Ideal) x0 x1 x3 i
      = dots x0 x1 (i 0) (i 1) (i 2) (i 3) + x3 (ix2 (band (i 0) (i 1)) (i 2)) - x3 (ix2 (band (i 0) (i 1)) (i 3)) := by
  rw [val_main_v16_apply, val_main_v13_apply, val_main_v10_apply, val_main_v12_apply, val_main_v11_apply, val_main_v15_apply,
    val_main_v14_apply, terms9, terms9]
  simp only [heads2, heads5]
  rfl

/-- The mask: a key no later than the query. -/
theorem v22_apply (i : S8192x8192.Idx) : val_main_v22 (F := Ideal) i = BitVec.ofBool (decide ((i 1).val ≤ (i 0).val)) := by
  rw [val_main_v22_apply, val_main_v20_apply, val_main_v18_apply, val_main_v17_apply, val_main_v21_apply, val_main_v19_apply, val_main_v17_apply]
  have h0 : (i 0).val < 8192 := (i 0).isLt
  have h1 : (i 1).val < 8192 := (i 1).isLt
  show BitVec.ofBool ((BitVec.ofNat 32 (i 1).val).sle (BitVec.ofNat 32 (i 0).val)) = _
  congr 1
  rw [BitVec.sle_eq_decide, BitVec.toInt_eq_toNat_of_lt, BitVec.toInt_eq_toNat_of_lt] <;> simp only [BitVec.toNat_ofNat]
  · rw [Nat.mod_eq_of_lt (by omega), Nat.mod_eq_of_lt (by omega)]
    simp
  · omega
  · omega

theorem ninf : Ideal.ofBits .f32 0xFF800000#32 = (⊥ : EReal) := by simp [Ideal.ofBits, Ideal.ieee]
theorem two : Ideal.ofBits .f32 0x40000000#32 = ((2 : ℝ) : EReal) := by
  simp [Ideal.ofBits, Ideal.ieee]
  rw [← EReal.coe_mul]
  norm_num

theorem score_of (x0 x1 : Rows) (x3 : Terms) (b : Fin 2) (h : Fin 8) (r n : Fin 8192) :
    score x0 x1 x3 b h r n.val = if n.val ≤ r.val then dots x0 x1 b h r n + x3 (ix2 (band b h) r) - x3 (ix2 (band b h) n) else ⊥ := by
  unfold score
  rw [key_val]

theorem value_of (x2 : Rows) (b : Fin 2) (h : Fin 8) (e : Fin 64) (n : Fin 8192) : value x2 b h e n.val = x2 (ix2 (row b n) (col h e)) := by
  unfold value
  rw [key_val]

/-- The masked scores. -/
theorem v23_apply (x0 x1 : Rows) (x3 : Terms) (i : S2x8x8192x8192.Idx) :
    val_main_v23 (F := Ideal) x0 x1 x3 i = score x0 x1 x3 (i 0) (i 1) (i 2) (i 3).val := by
  rw [val_main_v23_apply, val_main_call0_v1_apply, v22_apply, v16_apply, val_main_call0_v2_apply, val_main_call0_v0_apply, val_main_cst_apply]
  refine Eq.trans ?_ (score_of x0 x1 x3 (i 0) (i 1) (i 2) (i 3)).symm
  show Scalar.select (BitVec.ofBool (decide ((i 3).val ≤ (i 2).val))) _ (Ideal.ofBits .f32 0xFF800000#32) = _
  rw [ninf]
  by_cases h : (i 3).val ≤ (i 2).val
  · rw [if_pos h, decide_eq_true h]; rfl
  · rw [if_neg h, decide_eq_false h]; rfl

theorem log_two : Ideal.log ((2 : ℝ) : EReal) = ((Real.log 2 : ℝ) : EReal) := by
  rw [Ideal.log_coe, if_neg (by norm_num)]

/-- The scores in base e. -/
theorem v26_apply (x0 x1 : Rows) (x3 : Terms) (i : S2x8x8192x8192.Idx) :
    val_main_v26 (F := Ideal) x0 x1 x3 i = score x0 x1 x3 (i 0) (i 1) (i 2) (i 3).val * ((Real.log 2 : ℝ) : EReal) := by
  rw [val_main_v26_apply, v23_apply, val_main_v25_apply, val_main_v24_apply, val_main_cst_0_apply]
  show _ * Ideal.log (Ideal.ofBits .f32 0x40000000#32) = _
  rw [two, log_two]

/-- A fold by maximum is a supremum. -/
theorem fold_max (f : Fin 8192 → EReal) : (Finset.univ : Finset (Fin 8192)).fold (FloatOps.maximumf (F := Ideal) (φ := .f32)) (⊥ : EReal) f = Finset.univ.sup f := rfl

/-- The largest score of a row. -/
theorem v27_apply (x0 x1 : Rows) (x3 : Terms) (i : S2x8x8192.Idx) :
    val_main_v27 (F := Ideal) x0 x1 x3 i = Finset.univ.sup fun k : Fin 8192 => val_main_v26 (F := Ideal) x0 x1 x3 (idx_main_v34 i k) := by
  unfold val_main_v27
  generalize val_main_v26 (F := Ideal) x0 x1 x3 = y
  rw [Host.reduce_eq_fold, Shape.ReducesTo.fold_fiber_r4_a3]
  rw [val_main_cst_1_apply]
  show Finset.fold _ (Ideal.ofBits .f32 0xFF800000#32) _ _ = _
  rw [ninf]
  refine (fold_max _).trans (Finset.sup_congr rfl fun k _ => congrArg y (funext fun a => Fin.ext ?_))
  match a with
  | ⟨0, _⟩ => rfl
  | ⟨1, _⟩ => rfl
  | ⟨2, _⟩ => rfl
  | ⟨3, _⟩ => rfl

/-- The largest score of a row, in base e. -/
def top (S : ℕ → EReal) : EReal := Finset.univ.sup fun k : Fin 8192 => S k.val * ((Real.log 2 : ℝ) : EReal)

theorem v29_apply (x0 x1 : Rows) (x3 : Terms) (i : S2x8x8192.Idx) :
    val_main_v29 (F := Ideal) x0 x1 x3 i = top (score x0 x1 x3 (i 0) (i 1) (i 2)) := by
  rw [val_main_v29_apply, val_main_v28_apply, val_main_cst_2_apply, v27_apply]
  show max (Ideal.ofBits .f32 0xFF800000#32) _ = _
  rw [ninf, max_eq_right bot_le]
  exact Finset.sup_congr rfl fun k _ => v26_apply x0 x1 x3 (idx_main_v34 i k)

/-- The weight of a position before the division. -/
def weight (S : ℕ → EReal) (n : ℕ) : EReal := Ideal.exp (S n * ((Real.log 2 : ℝ) : EReal) - top S)

theorem v33_apply (x0 x1 : Rows) (x3 : Terms) (i : S2x8x8192x8192.Idx) :
    val_main_v33 (F := Ideal) x0 x1 x3 i = weight (score x0 x1 x3 (i 0) (i 1) (i 2)) (i 3).val := by
  rw [val_main_v33_apply, val_main_v32_apply, val_main_v31_apply, val_main_v30_apply, v29_apply, v26_apply]
  generalize score x0 x1 x3 = s
  rfl

theorem v34_apply (x0 x1 : Rows) (x3 : Terms) (i : S2x8x8192.Idx) :
    val_main_v34 (F := Ideal) x0 x1 x3 i = ∑ k : Fin 8192, weight (score x0 x1 x3 (i 0) (i 1) (i 2)) k.val := by
  rw [val_main_v34_apply, val_main_cst_3_apply]
  show Ideal.ofBits .f32 0x00000000#32 + _ = _
  rw [Ideal.ofBits_zero_f32, zero_add]
  exact Finset.sum_congr rfl fun k _ => v33_apply x0 x1 x3 (idx_main_v34 i k)

theorem v37_apply (x0 x1 : Rows) (x3 : Terms) (i : S2x8x8192x8192.Idx) :
    val_main_v37 (F := Ideal) x0 x1 x3 i
      = Ideal.div (weight (score x0 x1 x3 (i 0) (i 1) (i 2)) (i 3).val) (∑ k : Fin 8192, weight (score x0 x1 x3 (i 0) (i 1) (i 2)) k.val) := by
  rw [val_main_v37_apply, val_main_v36_apply, val_main_v35_apply, v34_apply, v33_apply]
  generalize score x0 x1 x3 = s
  rfl

theorem refRow_weight (S V : ℕ → EReal) : refRow S V = ∑ i : Fin 8192, V i.val * Ideal.div (weight S i.val) (∑ k : Fin 8192, weight S k.val) := rfl

/-- The softmax times the values, summed over the keys. -/
theorem v38_apply (x0 x1 x2 : Rows) (x3 : Terms) (i : S2x8x64x8192.Idx) :
    val_main_v38 (F := Ideal) x0 x1 x2 x3 i = refRow (score x0 x1 x3 (i 0) (i 1) (i 3)) (value x2 (i 0) (i 1) (i 2)) := by
  rw [val_main_v38_apply, refRow_weight]
  refine Finset.sum_congr rfl fun k _ => ?_
  rw [heads8, v37_apply]
  refine Eq.trans ?_ (congrArg (· * _) (value_of x2 (i 0) (i 1) (i 2) k).symm)
  generalize score x0 x1 x3 = s
  rfl

end Cert.Proof.RefScore

end
-- ==== Proof.RefValue.lean ====
/- The reference's result read at a row and a column: the attention of the column's head, divided by its root mean square and scaled. -/
module

public import proofs.«01_k».proof.Proof.RefScore
public import proofs.«01_k».proof.Proof.Merge

@[expose] public section

set_option maxRecDepth 16384

noncomputable section

namespace Cert.Proof.RefValue

open Idealize.ShloMosaic
open Cert.ReferenceIdeal Cert.ReferenceIdeal.Read
open Cert.Proof.Softmax Cert.Proof.Loads Cert.Proof.RefScore Cert.Proof.Merge

abbrev Gain := (⟨S512, .f32⟩ : BufTy).Contents (Elt Ideal)

/-- The attention of head `h` of sequence `b` at position `r`, channel `e`. -/
def attend (x0 x1 x2 : Rows) (x3 : Terms) (b : Fin 2) (h : Fin 8) (r : Fin 8192) (e : Fin 64) : EReal :=
  refRow (score x0 x1 x3 b h r) (value x2 b h e)

theorem v39_apply (x0 x1 x2 : Rows) (x3 : Terms) (i : S2x8192x8x64.Idx) :
    val_main_v39 (F := Ideal) x0 x1 x2 x3 i = attend x0 x1 x2 x3 (i 0) (i 2) (i 1) (i 3) :=
  (val_main_v39_apply x0 x1 x2 x3 i).trans (v38_apply x0 x1 x2 x3 (idx_main_v39 i))

/-- Dividing by 64 is multiplying by one sixty-fourth. -/
theorem sixtyfour : Ideal.ofBits .f32 0x42800000#32 = ((64 : ℝ) : EReal) := by
  simp [Ideal.ofBits, Ideal.ieee]
  rw [← EReal.coe_mul]
  norm_num

theorem sixtyfourth : Ideal.ofBits .f32 0x3C800000#32 = ((1 / 64 : ℝ) : EReal) := by
  simp [Ideal.ofBits, Ideal.ieee]
  rw [← EReal.coe_mul]
  norm_num

/-- The scale of a head. -/
theorem v47_apply (x0 x1 x2 : Rows) (x3 : Terms) (i : S2x8192x8x1.Idx) :
    val_main_v47 (F := Ideal) x0 x1 x2 x3 i = root (attend x0 x1 x2 x3 (i 0) (i 2) (i 1)) := by
  rw [val_main_v47_apply, val_main_v46_apply, val_main_v44_apply, val_main_v42_apply, val_main_v41_apply, val_main_v43_apply, val_main_cst_5_apply,
    val_main_v45_apply, val_main_cst_6_apply, val_main_cst_4_apply]
  simp only [val_main_v40_apply, v39_apply]
  unfold root
  show Ideal.rsqrt (Ideal.div (Ideal.ofBits .f32 0x00000000#32 + _) (Ideal.ofBits .f32 0x42800000#32) + Ideal.ofBits .f32 0x358637BD#32) = _
  rw [Ideal.ofBits_zero_f32, zero_add, sixtyfour, Ideal.div_coe (by norm_num), sixtyfourth]
  rfl

/-- The scaled attention before it is laid out again. -/
theorem v53_apply (x0 x1 x2 : Rows) (x3 : Terms) (x4 : Gain) (i : S2x8192x8x64.Idx) :
    val_main_v53 (F := Ideal) x0 x1 x2 x3 x4 i
      = attend x0 x1 x2 x3 (i 0) (i 2) (i 1) (i 3) * root (attend x0 x1 x2 x3 (i 0) (i 2) (i 1)) * x4 (ix1 (col (i 2) (i 3))) := by
  rw [val_main_v53_apply, val_main_v49_apply, v39_apply, val_main_v48_apply, v47_apply, val_main_v52_apply, val_main_v51_apply, val_main_v50_apply]
  have e : idx_main_v50 (idx_main_v51 (idx_main_v52 i)) = ix1 (col (i 2) (i 3)) := funext fun a => Fin.ext (by
    match a with
    | ⟨0, _⟩ => rfl)
  rw [e]
  generalize attend x0 x1 x2 x3 = s
  rfl

/-- The result at position `r` of sequence `b`, channel `e` of head `h`. -/
theorem result_apply (x0 x1 x2 : Rows) (x3 : Terms) (x4 : Gain) (b : Fin 2) (h : Fin 8) (r : Fin 8192) (e : Fin 64) (i : S16384x512.Idx)
    (hi0 : (i 0).val = b.val * 8192 + r.val) (hi1 : (i 1).val = h.val * 64 + e.val) :
    val_main_v55 (F := Ideal) x0 x1 x2 x3 x4 i
      = attend x0 x1 x2 x3 b h r e * root (attend x0 x1 x2 x3 b h r) * x4 (ix1 (col h e)) := by
  rw [val_main_v55_apply, val_main_v54_apply]
  have ei : idx_main_v54 i = ix4 b r h e := funext fun a => Fin.ext (by
    have hb := b.isLt
    have hh := h.isLt
    have hr := r.isLt
    have he := e.isLt
    match a with
    | ⟨0, _⟩ => show ((i 0).val * 512 + (i 1).val) / 4194304 = b.val; omega
    | ⟨1, _⟩ => show ((i 0).val * 512 + (i 1).val) / 512 % 8192 = r.val; omega
    | ⟨2, _⟩ => show ((i 0).val * 512 + (i 1).val) / 64 % 8 = h.val; omega
    | ⟨3, _⟩ => show ((i 0).val * 512 + (i 1).val) % 64 = e.val; omega)
  rw [ei]
  exact v53_apply x0 x1 x2 x3 x4 (ix4 b r h e)

end Cert.Proof.RefValue

end
-- ==== Proof.Equation.lean ====
/- The kernel's result is the reference's, entry by entry: each grid point's block is the block of the reference's result, and the
   blocks cover it. -/
module

public import proofs.«01_k».proof.Proof.Windows
public import proofs.«01_k».proof.Proof.Block
public import proofs.«01_k».proof.Proof.RefValue

@[expose] public section

set_option maxRecDepth 16384

noncomputable section

namespace Cert.Proof.Equation

open Cert.KernelIdeal Cert.KernelIdeal.Gen Cert.KernelIdeal.Value Idealize.ShloMosaic Idealize.ShloMosaic.TcCoe Idealize.SL.Sem
open Cert.Proof.Softmax Cert.Proof.Loads Cert.Proof.Merge Cert.Proof.Windows

/-- The head that half `h` of a point's pair is. -/
def head (t : Fin cfg0.N) (h : Fin 2) : Fin 8 := ⟨(pair t).val * 2 + h.val, by have := (pair t).isLt; omega⟩

theorem colOf_lane (t : Fin cfg0.N) (h : Fin 2) (e : Fin 64) : colOf t (Block.lane h e) = RefScore.col (head t h) e :=
  Fin.ext (by show (pair t).val * 128 + (h.val * 64 + e.val) = ((pair t).val * 2 + h.val) * 64 + e.val; omega)

theorem termRow_head (t : Fin cfg0.N) (h : Fin 2) : termRow t h = RefScore.band (seq t) (head t h) :=
  Fin.ext (by show (seq t).val * 8 + (pair t).val * 2 + h.val = (seq t).val * 8 + ((pair t).val * 2 + h.val); omega)

theorem rowOf_row (t : Fin cfg0.N) (n : Fin 8192) : rowOf t n = RefScore.row (seq t) n := rfl

section
variable (t : Fin cfg0.N) (x0 : Vec Ideal S512x128 .bf16) (x1 x2 : Vec Ideal S8192x128 .bf16) (x3 : Vec Ideal S1x512x2 .f32)
  (x4 : Vec Ideal S1x1x16x2x512 .f32) (q k v : RefScore.Rows) (f : RefScore.Terms)
  (e0 : ∀ r d, x0 (ix2 r d) = q (ix2 (rowOf t (pos t r)) (colOf t d)))
  (e1 : ∀ n d, x1 (ix2 n d) = k (ix2 (rowOf t n) (colOf t d)))
  (e2 : ∀ n d, x2 (ix2 n d) = v (ix2 (rowOf t n) (colOf t d)))
  (e3 : ∀ r h, x3 (ix3 0 r h) = f (ix2 (termRow t h) (pos t r)))
  (e4 : ∀ (i : Fin 16) h (j : Fin 512), x4 (ix5 0 0 i h j) = f (ix2 (termRow t h) ⟨i.val * 512 + j.val, by omega⟩))

include e0 e1 e3 e4 in
/-- The kernel's scores are the reference's. -/
theorem scores (h : Fin 2) (r : Fin 512) : Block.S (tile t) x0 x1 x3 x4 h r = RefScore.score q k f (seq t) (head t h) (pos t r) := by
  funext n
  unfold Block.S RefScore.score
  refine if_congr Iff.rfl ?_ rfl
  unfold Block.raw RefScore.dots
  rw [e3, e4, termRow_head]
  have ek : (⟨(tileIx n).val * 512 + (place n).val, by omega⟩ : Fin 8192) = key n :=
    Fin.ext (by show n / 512 % 16 * 512 + n % 512 = n % 8192; omega)
  rw [ek]
  simp only [e0, e1, colOf_lane, rowOf_row]
  rw [sub_eq_add_neg, sub_eq_add_neg, add_right_comm]

include e0 e1 e2 e3 e4 in
/-- The kernel's attention is the reference's. -/
theorem attends (h : Fin 2) (r : Fin 512) (e : Fin 64) (d : Fin 128) (hd : d.val = h.val * 64 + e.val) :
    Block.att (tile t) x0 x1 x2 x3 x4 h r d = RefValue.attend q k v f (seq t) (head t h) (pos t r) e := by
  obtain rfl : d = Block.lane h e := Fin.ext hd
  unfold Block.att RefValue.attend
  rw [scores t x0 x1 x3 x4 q k f e0 e1 e3 e4]
  congr 1
  funext n
  unfold Block.V RefScore.value
  rw [e2, colOf_lane, rowOf_row]
end

variable (m : (ℓ : Loc nD τ sig) → Buf (Elt Ideal) ℓ) (c : Dev nD)

/-- The arguments as arrays. -/
abbrev aq : RefScore.Rows := m ((c : Thread nD τ).loc main_arg0)
abbrev ak : RefScore.Rows := m ((c : Thread nD τ).loc main_arg1)
abbrev av : RefScore.Rows := m ((c : Thread nD τ).loc main_arg2)
abbrev af : RefScore.Terms := m ((c : Thread nD τ).loc main_arg3)
abbrev ag : RefValue.Gain := m ((c : Thread nD τ).loc main_arg4)

/-- The reference's result on the kernel's arguments. -/
def G : Vec Ideal S16384x512 .bf16 := Cert.ReferenceIdeal.Read.val_main_v55 (F := Ideal) (aq m c) (ak m c) (av m c) (af m c) (ag m c)

/-- An index of two coordinates by its coordinates. -/
theorem ix2_eta {n₀ n₁ : ℕ} (y : (⟨2, ![n₀, n₁]⟩ : Shape).Idx) : ∃ (a : Fin n₀) (b : Fin n₁), y = ix2 a b :=
  ⟨y 0, y 1, funext fun a => match a with | ⟨0, _⟩ => rfl | ⟨1, _⟩ => rfl⟩

theorem ix3_eta {n₁ n₂ : ℕ} (y : (⟨3, ![1, n₁, n₂]⟩ : Shape).Idx) : ∃ (a : Fin n₁) (b : Fin n₂), y = ix3 0 a b :=
  ⟨y 1, y 2, funext fun a => match a with | ⟨0, _⟩ => Subsingleton.elim (α := Fin 1) _ _ | ⟨1, _⟩ => rfl | ⟨2, _⟩ => rfl⟩

theorem ix5_eta {n₂ n₃ n₄ : ℕ} (y : (⟨5, ![1, 1, n₂, n₃, n₄]⟩ : Shape).Idx) : ∃ (a : Fin n₂) (b : Fin n₃) (d : Fin n₄), y = ix5 0 0 a b d :=
  ⟨y 2, y 3, y 4, funext fun a => match a with
    | ⟨0, _⟩ => Subsingleton.elim (α := Fin 1) _ _ | ⟨1, _⟩ => Subsingleton.elim (α := Fin 1) _ _ | ⟨2, _⟩ => rfl | ⟨3, _⟩ => rfl | ⟨4, _⟩ => rfl⟩

section
variable (hq : ∀ y, ∃ a : ℝ, aq m c y = (a : EReal)) (hk : ∀ y, ∃ a : ℝ, ak m c y = (a : EReal)) (hf : ∀ y, ∃ a : ℝ, af m c y = (a : EReal))
include hq hk hf

/-- What a grid point writes back is its block of the reference's result. -/
theorem point (t : Fin cfg0.N) : (dats m 0 c).flushed 6 t = ((cfg0.win 6).blk t).view.read (Elt Ideal) (G m c) := by
  rw [flushed6_A]
  refine cut6 t _ _ fun r d => ?_
  have e0 := block0 m c t
  have e1 := block1 m c t
  have e2 := block2 m c t
  have e3 := block3 m c t
  have e4 := block4 m c t
  refine (Block.block_apply c (grid0.coords t) _ _ _ _ _ _ _ _ _ _ _ _ _ _ _ _ _ _ _ _ _ _ _ _ _ _ _ _ _ _ ?_ ?_ ?_ ?_ r d).trans ?_
  · intro y
    obtain ⟨a, b, rfl⟩ := ix2_eta y
    rw [e0]
    exact hq _
  · intro y
    obtain ⟨a, b, rfl⟩ := ix2_eta y
    rw [e1]
    exact hk _
  · intro y
    obtain ⟨a, b, rfl⟩ := ix3_eta y
    rw [e3]
    exact hf _
  · intro y
    obtain ⟨a, b, d, rfl⟩ := ix5_eta y
    rw [e4]
    exact hf _
  · have A := attends t (iblk m c 0 t) (X0_1 m c t) (X0_2 m c t) (iblk m c 3 t) (iblk m c 4 t) (aq m c) (ak m c) (av m c) (af m c) e0 e1 e2 e3 e4
    rw [block5]
    have hd := d.isLt
    have row0 : (ix2 (outRow t (pos t r)) (colOf t d) : S16384x512.Idx) 0 = outRow t (pos t r) := rfl
    by_cases h : d.val < 64
    · rw [if_pos h]
      refine Eq.trans ?_ (RefValue.result_apply (aq m c) (ak m c) (av m c) (af m c) (ag m c) (seq t) (head t 0) (pos t r) ⟨d.val, h⟩
        (ix2 (outRow t (pos t r)) (colOf t d)) rfl (by show (pair t).val * 128 + d.val = ((pair t).val * 2 + 0) * 64 + d.val; omega)).symm
      have ed : RefScore.col (head t 0) ⟨d.val, h⟩ = colOf t d := Fin.ext (by show ((pair t).val * 2 + 0) * 64 + d.val = (pair t).val * 128 + d.val; omega)
      rw [ed, ← A 0 r ⟨d.val, h⟩ d (by show d.val = 0 * 64 + d.val; omega)]
      refine congrArg (· * _) (congrArg (_ * ·) (congrArg root (funext fun e => ?_)))
      exact A 0 r e ⟨e.val, by omega⟩ (by show e.val = 0 * 64 + e.val; omega)
    · rw [if_neg h]
      have hd' : d.val - 64 < 64 := by omega
      refine Eq.trans ?_ (RefValue.result_apply (aq m c) (ak m c) (av m c) (af m c) (ag m c) (seq t) (head t 1) (pos t r) ⟨d.val - 64, hd'⟩
        (ix2 (outRow t (pos t r)) (colOf t d)) rfl (by show (pair t).val * 128 + d.val = ((pair t).val * 2 + 1) * 64 + (d.val - 64); omega)).symm
      have ed : RefScore.col (head t 1) ⟨d.val - 64, hd'⟩ = colOf t d := Fin.ext (by show ((pair t).val * 2 + 1) * 64 + (d.val - 64) = (pair t).val * 128 + d.val; omega)
      rw [ed, ← A 1 r ⟨d.val - 64, hd'⟩ d (by show d.val = 1 * 64 + (d.val - 64); omega)]
      refine congrArg (· * _) (congrArg (_ * ·) (congrArg root (funext fun e => ?_)))
      exact A 1 r e ⟨64 + e.val, by omega⟩ (by show 64 + e.val = 1 * 64 + e.val; omega)

/-- The array after the run. -/
theorem final : (dats m 0 c).arrAt 6 cfg0.N = G m c :=
  (dats m 0 c).arrAt_eq_of_cover 6 (G m c) (fun t _ => point m c hq hk hf t) covered6
end

end Cert.Proof.Equation

end
-- ==== Proof.Algebraic.lean ====
/- The two runs brought together: the idealized kernel and the idealized reference end with one result. -/
module

public import proofs.«01_k».proof.Proof.Finite
public import proofs.«01_k».proof.Proof.Equation
public import proofs.«01_k».proof.Proof.Gen.ReferenceIdeal.Run

@[expose] public section

set_option maxRecDepth 16384

noncomputable section

namespace Cert.Proof.Algebraic

open Cert.KernelIdeal Cert.KernelIdeal.Gen Cert.KernelIdeal.Value Idealize.ShloMosaic Idealize.ShloMosaic.TcCoe Idealize.SL.Sem

/-- The reference's frame: its run with the result forgotten; it declares no semaphore. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) ∧ r.2.sem = fun _ => 0) :=
  (θ_run (Cert.ReferenceIdeal.defs (F := Ideal)) _ _).mono
    (fun r h => ⟨fun c => (h c).2, sem_eq_zero_of_no_sems (by decide) r.2⟩) (Cert.ReferenceIdeal.Value.run (F := Ideal) m ρ)

/-- The kernel's result and the reference's are equal, entry by entry. -/
theorem equal [Cert.Pre_finite.Facts] : Cert.algebraic_KernelIdeal_ReferenceIdeal_pre_finite := by
  intro m g m' g' hpre hagree
  refine ⟨fun c => Equation.G m c, ?_, ?_⟩
  · exact (θ_run defs _ _).mono
      (fun r h c => ⟨(h c).1.trans (Equation.final m c (Finite.q_real m hpre c) (Finite.k_real m hpre c) (Finite.f_real m hpre c)), (h c).2⟩)
      (run_blocks m g)
  · refine (θ_run (Cert.ReferenceIdeal.defs (F := Ideal)) _ _).mono (fun r h c => ⟨(h c).1.trans ?_, (h c).2⟩)
      (Cert.ReferenceIdeal.Value.run (F := Ideal) m' g')
    obtain ⟨h0, h1, h2, h3, h4⟩ := hagree c
    refine (Cert.ReferenceIdeal.Read.val_main_v55_eq m' c).trans ?_
    rw [h0, h1, h2, h3, h4]
    rfl

end Cert.Proof.Algebraic

end
-- ==== Proof.ProjectWeights.lean ====
/- The projection kernel's packed weights, bias and gain as entries of the arguments: the columns of the queries, keys and values of both
   halves come first, the eight gate columns last, followed by zeros. -/
module

public import proofs.«01_k».proof.Proof.Gen.ProjectIdeal.Value
public import Idealize.ShloMosaic.Lib.Pointwise
public import Idealize.ShloMosaic.Lib.KernelVsHost

@[expose] public section

set_option maxRecDepth 16384

noncomputable section

namespace Cert.Proof.ProjectWeights

open Cert.ProjectIdeal Cert.ProjectIdeal.Gen Cert.ProjectIdeal.Value Idealize.ShloMosaic Idealize.ShloMosaic.TcCoe Idealize.SL.Sem

/-- The weights of one layer, and a gate's columns padded to 128. -/
abbrev Weights := (⟨S1024x3080, .f32⟩ : BufTy).Contents (Elt Ideal)

/-- The padding value. -/
def padding : (⟨S_, .f32⟩ : BufTy).Contents (Elt Ideal) := sitofp (F := Ideal) .f32 (constantI S_ 32 0#32)

def gate (W : Weights) : (⟨S1024x128, .f32⟩ : BufTy).Contents (Elt Ideal) :=
  pad S1024x128 ![0, 0] ![0, 120] ![0, 0] (extractStridedSlice S1024x8 ![0, 1536] W slices_S1024x3080_S1024x8_0_1536) padding
    pads_S1024x8_S1024x128_000_01200 h_S_

/-- The packed weights before their rounding. -/
def packed (W : Weights) : (⟨S1024x3200, .f32⟩ : BufTy).Contents (Elt Ideal) :=
  concatenate S1024x3200 1 [⟨S1024x512, extractStridedSlice S1024x512 ![0, 0] W slices_S1024x3080_S1024x512_0_0⟩,
    ⟨S1024x512, extractStridedSlice S1024x512 ![0, 512] W slices_S1024x3080_S1024x512_0_512⟩,
    ⟨S1024x512, extractStridedSlice S1024x512 ![0, 1024] W slices_S1024x3080_S1024x512_0_1024⟩,
    ⟨S1024x512, extractStridedSlice S1024x512 ![0, 1544] W slices_S1024x3080_S1024x512_0_1544⟩,
    ⟨S1024x512, extractStridedSlice S1024x512 ![0, 2056] W slices_S1024x3080_S1024x512_0_2056⟩,
    ⟨S1024x512, extractStridedSlice S1024x512 ![0, 2568] W slices_S1024x3080_S1024x512_0_2568⟩, ⟨S1024x128, gate W⟩]
    concatenates_S1024x512_S1024x512_S1024x512_S1024x512_S1024x512_S1024x512_S1024x128_S1024x3200_d1

theorem padding_apply (i : S_.Idx) : padding i = 0 := by
  show (((0#32 : BitVec 32).toInt : ℝ) : EReal) = 0
  simp

theorem slice_apply (W : Weights) (o : ℕ) (h) (ho : o ≤ 2568) (k : Fin 1024) (d : Fin 512) :
    extractStridedSlice S1024x512 ![0, o] W h (ix2 k d) = W (ix2 k ⟨o + d.val, by omega⟩) :=
  extractStridedSlice_apply ![0, o] W h (ix2 k d) (ix2 k ⟨o + d.val, by omega⟩) fun a => match a with
    | ⟨0, _⟩ => (Nat.zero_add _).symm
    | ⟨1, _⟩ => rfl

theorem gate_in (W : Weights) (k : Fin 1024) (d : Fin 128) (h : d.val < 8) : gate W (ix2 k d) = W (ix2 k ⟨1536 + d.val, by omega⟩) := by
  unfold gate
  refine (pad_apply_of_inside _ _ _ _ _ _ _ _ (ix2 k ⟨d.val, h⟩ : S1024x8.Idx) fun a => ?_).trans
    (extractStridedSlice_apply ![0, 1536] W _ _ (ix2 k ⟨1536 + d.val, by omega⟩) fun a => match a with
      | ⟨0, _⟩ => (Nat.zero_add _).symm
      | ⟨1, _⟩ => rfl)
  match a with
  | ⟨0, _⟩ => show k.val = 0 + k.val * (0 + 1); omega
  | ⟨1, _⟩ => show d.val = 0 + d.val * (0 + 1); omega

theorem gate_out (W : Weights) (k : Fin 1024) (d : Fin 128) (h : 8 ≤ d.val) : gate W (ix2 k d) = 0 := by
  unfold gate
  refine (pad_apply_of_not_inside _ _ _ _ _ _ _ _ (1 : Fin 2) fun hh => ?_).trans (padding_apply _)
  have h2 : (d.val - 0) / (0 + 1) < 8 := hh.2.2
  omega

/-- Off the joined axis a piece's index and the packed index agree. -/
theorem off {n : ℕ} (k : Fin 1024) (d : Fin n) (N : Fin 3200) (b : Fin 2) (h : b.cast rfl ≠ (1 : Fin 2)) :
    ((ix2 k d : (⟨2, ![1024, n]⟩ : Shape).Idx) b).val = ((ix2 k N : S1024x3200.Idx) (b.cast rfl)).val := by
  fin_cases b
  · rfl
  · exact absurd rfl h

/-! ## The packed columns, piece by piece -/

section
variable (W : Weights) (k : Fin 1024) (d : Fin 512)

theorem packed0 : packed W (ix2 k ⟨0 + d.val, by omega⟩) = W (ix2 k ⟨0 + d.val, by omega⟩) :=
  (concatenate_apply_piece (t := S1024x3200) 1 _ _ _ 0 (by show 0 < 7; decide) S1024x512 _ rfl rfl 0 rfl (ix2 k d) (off k d _) rfl).trans
    (slice_apply W 0 _ (by decide) k d)
theorem packed1 : packed W (ix2 k ⟨512 + d.val, by omega⟩) = W (ix2 k ⟨512 + d.val, by omega⟩) :=
  (concatenate_apply_piece (t := S1024x3200) 1 _ _ _ 1 (by show 1 < 7; decide) S1024x512 _ rfl rfl 512 rfl (ix2 k d) (off k d _) rfl).trans
    (slice_apply W 512 _ (by decide) k d)
theorem packed2 : packed W (ix2 k ⟨1024 + d.val, by omega⟩) = W (ix2 k ⟨1024 + d.val, by omega⟩) :=
  (concatenate_apply_piece (t := S1024x3200) 1 _ _ _ 2 (by show 2 < 7; decide) S1024x512 _ rfl rfl 1024 rfl (ix2 k d) (off k d _) rfl).trans
    (slice_apply W 1024 _ (by decide) k d)
theorem packed3 : packed W (ix2 k ⟨1536 + d.val, by omega⟩) = W (ix2 k ⟨1544 + d.val, by omega⟩) :=
  (concatenate_apply_piece (t := S1024x3200) 1 _ _ _ 3 (by show 3 < 7; decide) S1024x512 _ rfl rfl 1536 rfl (ix2 k d) (off k d _) rfl).trans
    (slice_apply W 1544 _ (by decide) k d)
theorem packed4 : packed W (ix2 k ⟨2048 + d.val, by omega⟩) = W (ix2 k ⟨2056 + d.val, by omega⟩) :=
  (concatenate_apply_piece (t := S1024x3200) 1 _ _ _ 4 (by show 4 < 7; decide) S1024x512 _ rfl rfl 2048 rfl (ix2 k d) (off k d _) rfl).trans
    (slice_apply W 2056 _ (by decide) k d)
theorem packed5 : packed W (ix2 k ⟨2560 + d.val, by omega⟩) = W (ix2 k ⟨2568 + d.val, by omega⟩) :=
  (concatenate_apply_piece (t := S1024x3200) 1 _ _ _ 5 (by show 5 < 7; decide) S1024x512 _ rfl rfl 2560 rfl (ix2 k d) (off k d _) rfl).trans
    (slice_apply W 2568 _ (by decide) k d)
end

theorem packed6 (W : Weights) (k : Fin 1024) (d : Fin 128) : packed W (ix2 k ⟨3072 + d.val, by omega⟩) = gate W (ix2 k d) :=
  concatenate_apply_piece (t := S1024x3200) 1 _ _ _ 6 (by show 6 < 7; decide) S1024x128 _ rfl rfl 3072 rfl (ix2 k d) (off k d _) rfl

/-! ## The arrays the kernel is called on -/

variable (m : (ℓ : Loc nD τ sig) → Buf (Elt Ideal) ℓ) (c : Dev nD)

theorem V_main_v9 : V m c main_v9 = truncf (F := Ideal) .bf16 (packed (m ((c : Thread nD τ).loc main_arg4))) bitsLt_bf16_f32 := by
  unfold_abbrev_sides
  after_results
  rfl

theorem V_main_v11 : V m c main_v11 = shapeCast S1x128
    (pad S128 ![0] ![120] ![0] (m ((c : Thread nD τ).loc main_arg5)) padding pads_S8_S128_01200 h_S_) shapeCasts_S128_S1x128 := by
  unfold_abbrev_sides
  after_results
  rfl

theorem V_main_v12 : V m c main_v12 = shapeCast S1x1024 (m ((c : Thread nD τ).loc main_arg3)) shapeCasts_S1024_S1x1024 := by
  unfold_abbrev_sides
  rfl

/-- The gain as one row. -/
theorem v12_apply (k : Fin 1024) : (V m c main_v12 : Vec Ideal S1x1024 .f32) (ix2 0 k) = m ((c : Thread nD τ).loc main_arg3) (ix1 k) := by
  rw [V_main_v12]
  refine shapeCast_apply _ shapeCasts_S1024_S1x1024 _ _ ?_
  rewrite [Shape.rowMajor_val_one, Shape.rowMajor_val_two]
  show k.val = 0 * 1024 + k.val
  omega

theorem v11_pad (d : Fin 128) : (V m c main_v11 : Vec Ideal S1x128 .f32) (ix2 0 d)
    = pad S128 ![0] ![120] ![0] (m ((c : Thread nD τ).loc main_arg5)) padding pads_S8_S128_01200 h_S_ (ix1 d) := by
  rw [V_main_v11]
  refine shapeCast_apply _ shapeCasts_S128_S1x128 _ _ ?_
  rewrite [Shape.rowMajor_val_one, Shape.rowMajor_val_two]
  show d.val = 0 * 128 + d.val
  omega

/-- The bias as one row, and zero past the eighth place. -/
theorem v11_in (d : Fin 128) (h : d.val < 8) : (V m c main_v11 : Vec Ideal S1x128 .f32) (ix2 0 d)
    = m ((c : Thread nD τ).loc main_arg5) (ix1 ⟨d.val, h⟩) := by
  refine (v11_pad m c d).trans (pad_apply_of_inside _ _ _ _ _ _ _ _ (ix1 ⟨d.val, h⟩ : S8.Idx) fun a => ?_)
  match a with
  | ⟨0, _⟩ => show d.val = 0 + d.val * (0 + 1); omega

theorem v11_out (d : Fin 128) (h : 8 ≤ d.val) : (V m c main_v11 : Vec Ideal S1x128 .f32) (ix2 0 d) = (0 : EReal) := by
  refine (v11_pad m c d).trans ((pad_apply_of_not_inside _ _ _ _ _ _ _ _ (0 : Fin 1) fun hh => ?_).trans (padding_apply _))
  have h2 : (d.val - 0) / (0 + 1) < 8 := hh.2.2
  omega

end Cert.Proof.ProjectWeights

end
-- ==== Proof.ProjectWindows.lean ====
/- What each block of the projection holds, as entries of the arguments, and where a block of its outputs sits. A grid point names a tile
   of 512 rows. -/
module

public import proofs.«01_k».proof.Proof.ProjectWeights

@[expose] public section

set_option maxRecDepth 16384

noncomputable section

namespace Cert.Proof.ProjectWindows

open Cert.ProjectIdeal Cert.ProjectIdeal.Gen Cert.ProjectIdeal.Value Idealize.ShloMosaic Idealize.ShloMosaic.TcCoe Idealize.SL.Sem
open Cert.Proof.ProjectWeights

variable (m : (ℓ : Loc nD τ sig) → Buf (Elt Ideal) ℓ) (c : Dev nD)

theorem points (t : Fin cfg0.N) : t.val < 33 := t.isLt

/-- Row `r` of the point's tile, and the modulation row of its `g`-th chunk. -/
def rowAt (t : Fin cfg0.N) (r : Fin 512) : Fin 16896 := ⟨t.val * 512 + r.val, by have := points t; omega⟩
def chunkAt (t : Fin cfg0.N) (g : Fin 8) : Fin 264 := ⟨t.val * 8 + g.val, by have := points t; omega⟩

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)

/-- The rows. -/
theorem block0 (t : Fin cfg0.N) (r : Fin 512) (k : Fin 1024) :
    (iblk m c 0 t : Vec Ideal S512x1024 .f32) (ix2 r k) = m ((c : Thread nD τ).loc main_arg0) (ix2 (rowAt t r) k) := by
  obtain ⟨e0, e1⟩ := idx0 t
  show V m c main_arg0 (((cfg0.win 0).blk t).view.emb (ix2 r k)) = _
  rw [V_main_arg0]
  refine congrArg (m ((c : Thread nD τ).loc main_arg0)) (funext fun a => Fin.ext ?_)
  match a with
  | ⟨0, _⟩ => show win0_0.index t (0 : Fin 2) * 512 + 1 * r.val = t.val * 512 + r.val; omega
  | ⟨1, _⟩ => show win0_0.index t (1 : Fin 2) * 1024 + 1 * k.val = k.val; omega

/-- The shifts. -/
theorem block1 (t : Fin cfg0.N) (g : Fin 8) (k : Fin 1024) :
    (iblk m c 1 t : Vec Ideal S8x1024 .f32) (ix2 g k) = m ((c : Thread nD τ).loc main_arg1) (ix2 (chunkAt t g) k) := by
  obtain ⟨e0, e1⟩ := idx1 t
  show V m c main_arg1 (((cfg0.win 1).blk t).view.emb (ix2 g k)) = _
  rw [V_main_arg1]
  refine congrArg (m ((c : Thread nD τ).loc main_arg1)) (funext fun a => Fin.ext ?_)
  match a with
  | ⟨0, _⟩ => show win0_1.index t (0 : Fin 2) * 8 + 1 * g.val = t.val * 8 + g.val; omega
  | ⟨1, _⟩ => show win0_1.index t (1 : Fin 2) * 1024 + 1 * k.val = k.val; omega

/-- The scales. -/
theorem block2 (t : Fin cfg0.N) (g : Fin 8) (k : Fin 1024) :
    (iblk m c 2 t : Vec Ideal S8x1024 .f32) (ix2 g k) = m ((c : Thread nD τ).loc main_arg2) (ix2 (chunkAt t g) k) := by
  obtain ⟨e0, e1⟩ := idx2 t
  show V m c main_arg2 (((cfg0.win 2).blk t).view.emb (ix2 g k)) = _
  rw [V_main_arg2]
  refine congrArg (m ((c : Thread nD τ).loc main_arg2)) (funext fun a => Fin.ext ?_)
  match a with
  | ⟨0, _⟩ => show win0_2.index t (0 : Fin 2) * 8 + 1 * g.val = t.val * 8 + g.val; omega
  | ⟨1, _⟩ => show win0_2.index t (1 : Fin 2) * 1024 + 1 * k.val = k.val; omega

/-- The gain. -/
theorem block3 (t : Fin cfg0.N) (k : Fin 1024) :
    (iblk m c 3 t : Vec Ideal S1x1024 .f32) (ix2 0 k) = m ((c : Thread nD τ).loc main_arg3) (ix1 k) := by
  obtain ⟨e0, e1⟩ := idx3 t
  refine Eq.trans ?_ (v12_apply m c k)
  show V m c main_v12 (((cfg0.win 3).blk t).view.emb (ix2 0 k)) = _
  refine congrArg (V m c main_v12) (funext fun a => Fin.ext ?_)
  match a with
  | ⟨0, _⟩ => show win0_3.index t (0 : Fin 2) * 1 + 1 * 0 = 0; omega
  | ⟨1, _⟩ => show win0_3.index t (1 : Fin 2) * 1024 + 1 * k.val = k.val; omega

/-- The packed weights. -/
theorem block4 (t : Fin cfg0.N) (k : Fin 1024) (n : Fin 3200) :
    (iblk m c 4 t : Vec Ideal S1024x3200 .bf16) (ix2 k n) = packed (m ((c : Thread nD τ).loc main_arg4)) (ix2 k n) := by
  obtain ⟨e0, e1⟩ := idx4 t
  refine Eq.trans ?_ (congrFun (V_main_v9 m c) (ix2 k n : S1024x3200.Idx))
  show V m c main_v9 (((cfg0.win 4).blk t).view.emb (ix2 k n)) = _
  refine congrArg (V m c main_v9) (funext fun a => Fin.ext ?_)
  match a with
  | ⟨0, _⟩ => show win0_4.index t (0 : Fin 2) * 1024 + 1 * k.val = k.val; omega
  | ⟨1, _⟩ => show win0_4.index t (1 : Fin 2) * 3200 + 1 * n.val = n.val; omega

/-- The bias. -/
theorem block5 (t : Fin cfg0.N) (d : Fin 128) :
    (iblk m c 5 t : Vec Ideal S1x128 .f32) (ix2 0 d) = (V m c main_v11 : Vec Ideal S1x128 .f32) (ix2 0 d) := by
  obtain ⟨e0, e1⟩ := idx5 t
  show V m c main_v11 (((cfg0.win 5).blk t).view.emb (ix2 0 d)) = _
  refine congrArg (V m c main_v11) (funext fun a => Fin.ext ?_)
  match a with
  | ⟨0, _⟩ => show win0_5.index t (0 : Fin 2) * 1 + 1 * 0 = 0; omega
  | ⟨1, _⟩ => show win0_5.index t (1 : Fin 2) * 128 + 1 * d.val = d.val; omega

/-! ## Row tiles of an output of `w` columns -/

section
variable {w : ℕ} {α : Type}

/-- An index of a tile that lies at the point's rows. -/
def AtRows (t : Fin cfg0.N) (e : (⟨2, ![512, w]⟩ : Shape).Idx → (⟨2, ![16896, w]⟩ : Shape).Idx) : Prop :=
  ∀ j, e j = ix2 (rowAt t (j 0)) (j 1)

/-- A function that agrees with a tile entry by entry reads as that tile. -/
theorem tile_eq (t : Fin cfg0.N) (e : (⟨2, ![512, w]⟩ : Shape).Idx → (⟨2, ![16896, w]⟩ : Shape).Idx) (he : AtRows t e)
    (X : (⟨2, ![512, w]⟩ : Shape).Idx → α) (G : (⟨2, ![16896, w]⟩ : Shape).Idx → α)
    (h : ∀ (r : Fin 512) (d : Fin w), X (ix2 r d) = G (ix2 (rowAt t r) d)) (j : (⟨2, ![512, w]⟩ : Shape).Idx) : X j = G (e j) := by
  rw [he j]
  refine Eq.trans (congrArg X (funext fun a => Fin.ext ?_)) (h (j 0) (j 1))
  match a with
  | ⟨0, _⟩ => rfl
  | ⟨1, _⟩ => rfl

/-- Every index lies in the tile of some point. -/
theorem covered (S : Fin cfg0.N → Set (⟨2, ![16896, w]⟩ : Shape).Idx)
    (e : (t : Fin cfg0.N) → (⟨2, ![512, w]⟩ : Shape).Idx → (⟨2, ![16896, w]⟩ : Shape).Idx) (he : ∀ t, AtRows t (e t))
    (hS : ∀ t j, e t j ∈ S t) (i : (⟨2, ![16896, w]⟩ : Shape).Idx) : ∃ t, i ∈ S t := by
  have h0 : (i 0).val < 16896 := (i 0).isLt
  obtain ⟨T, hT⟩ : ∃ T : Fin cfg0.N, T.val = (i 0).val / 512 := ⟨⟨(i 0).val / 512, (by omega : (i 0).val / 512 < 33)⟩, rfl⟩
  have h := hS T (ix2 ⟨(i 0).val % 512, by omega⟩ (i 1))
  rw [he T] at h
  have e2 : (ix2 (rowAt T ⟨(i 0).val % 512, by omega⟩) (i 1) : (⟨2, ![16896, w]⟩ : Shape).Idx) = i := by
    funext a; apply Fin.ext
    match a with
    | ⟨0, _⟩ => show T.val * 512 + (i 0).val % 512 = (i 0).val; omega
    | ⟨1, _⟩ => rfl
  exact ⟨T, e2 ▸ h⟩
end

end Cert.Proof.ProjectWindows

end
-- ==== Proof.ProjectRows.lean ====
/- The projection kernel's hidden rows: a block of 512 rows, eight chunks of 64, each normalised by its root mean square, scaled by the gain
   and by its chunk's modulation. Every chunk is the same function of its rows and its two modulation rows. -/
module

public import proofs.«01_k».proof.Proof.Gen.ProjectIdeal.Frame
public import Idealize.ShloMosaic.Lib.Pointwise
public import Idealize.ShloMosaic.Lib.WritesUnit

@[expose] public section

set_option maxRecDepth 16384

noncomputable section

namespace Cert.Proof.ProjectRows

open Cert.ProjectIdeal Cert.ProjectIdeal.Gen Idealize.ShloMosaic

/-- One entry of a normalised and modulated row: the row, the place, the gain, the scale and the shift there. -/
def entry (x : Fin 1024 → EReal) (k : Fin 1024) (g sc sh : EReal) : EReal :=
  x k * Ideal.rsqrt (Ideal.div (∑ j, x j * x j) (Ideal.ofBits .f32 0x44800000#32) + Ideal.ofBits .f32 0x358637BD#32) * g
    * (1 + sc) + sh

/-- A chunk's payload at a row and a place. -/
theorem pay3_apply (g : Vec Ideal S1x1024 .f32) (x : Vec Ideal S64x1024 .f32) (sc sh : Vec Ideal S1x1024 .f32) (r : Fin 64) (k : Fin 1024) :
    k0_pay3 g x sc sh (ix2 r k) = entry (fun j => x (ix2 r j)) k (g (ix2 0 k)) (sc (ix2 0 k)) (sh (ix2 0 k)) := by
  pointwise [k0_pay3, k0_pay2]
  rfl

theorem pay5_eq (g : Vec Ideal S1x1024 .f32) (x : Vec Ideal S64x1024 .f32) (sc sh : Vec Ideal S1x1024 .f32) :
    k0_pay5 (k0_pay2 g) x sc sh (k0_pay4 x) (Scalar.ofBits .f32 0x358637BD#32) = k0_pay3 g x sc sh := rfl
theorem pay6_eq (g : Vec Ideal S1x1024 .f32) (x : Vec Ideal S64x1024 .f32) (sc sh : Vec Ideal S1x1024 .f32) :
    k0_pay6 (k0_pay2 g) x sc sh = k0_pay3 g x sc sh := rfl
theorem pay7_eq (g : Vec Ideal S1x1024 .f32) (x : Vec Ideal S64x1024 .f32) (sc sh : Vec Ideal S1x1024 .f32) :
    k0_pay7 (k0_pay2 g) x sc sh = k0_pay3 g x sc sh := rfl
theorem pay10_eq (g : Vec Ideal S1x1024 .f32) (x : Vec Ideal S64x1024 .f32) (sc sh : Vec Ideal S1x1024 .f32) :
    k0_pay10 sc sh (k0_pay8 x) (k0_pay9 (k0_pay2 g)) = k0_pay3 g x sc sh := rfl
theorem pay11_eq (g : Vec Ideal S1x1024 .f32) (x : Vec Ideal S64x1024 .f32) (sc sh : Vec Ideal S1x1024 .f32) :
    k0_pay11 (k0_pay2 g) x sc sh = k0_pay3 g x sc sh := rfl
theorem pay12_eq (g : Vec Ideal S1x1024 .f32) (x : Vec Ideal S64x1024 .f32) (sc sh : Vec Ideal S1x1024 .f32) :
    k0_pay12 (k0_pay2 g) x sc sh = k0_pay3 g x sc sh := rfl
theorem pay14_eq (g : Vec Ideal S1x1024 .f32) (x : Vec Ideal S64x1024 .f32) (sc sh : Vec Ideal S1x1024 .f32) :
    k0_pay14 sh (k0_pay13 (k0_pay2 g) x sc) = k0_pay3 g x sc sh := rfl

/-! ## The scratch after the eight stores -/

theorem inb_rows (r : Fin 8) (a : Fin 2) : (![64 * r.val, 0] : Fin 2 → ℕ) a + S64x1024.size a ≤ S512x1024.size a := by
  fin_cases r <;> fin_cases a <;> decide
theorem inb_row (r : Fin 8) (a : Fin 2) : (![r.val, 0] : Fin 2 → ℕ) a + S1x1024.size a ≤ S8x1024.size a := by
  fin_cases r <;> fin_cases a <;> decide

section
variable (arg1 : Memref sig .tc .vmem S512x1024 .f32) (harg1 : arg1.IsWhole) (arg2 : Memref sig .tc .vmem S8x1024 .f32) (harg2 : arg2.IsWhole)
  (arg3 : Memref sig .tc .vmem S8x1024 .f32) (harg3 : arg3.IsWhole) (arg4 : Memref sig .tc .vmem S1x1024 .f32) (harg4 : arg4.IsWhole)
  (arg18 : Memref sig .tc .vmem S512x1024 .bf16)
  (x0 : Vec Ideal S512x1024 .f32) (x1 x2 : Vec Ideal S8x1024 .f32) (x3 : Vec Ideal S1x1024 .f32)

/-- What chunk `r` stores. -/
def chunk (r : Fin 8) : FVec Ideal S64x1024 .bf16 :=
  k0_pay3 (arg4.view.readAt (Elt Ideal) (Rect.unit (s := S1x1024) ![0, 0] S1x1024.size inb_S1x1024_S1x1024_0_0).toLoadRect (harg4.unread x3))
    (arg1.view.readAt (Elt Ideal) (Rect.unit (s := S512x1024) ![64 * r.val, 0] S64x1024.size (inb_rows r)).toLoadRect (harg1.unread x0))
    (arg3.view.readAt (Elt Ideal) (Rect.unit (s := S8x1024) ![r.val, 0] S1x1024.size (inb_row r)).toLoadRect (harg3.unread x2))
    (arg2.view.readAt (Elt Ideal) (Rect.unit (s := S8x1024) ![r.val, 0] S1x1024.size (inb_row r)).toLoadRect (harg2.unread x1))

/-- The chunk of a row, and its place in it. -/
def chunkOf (r : Fin 512) : Fin 8 := ⟨r.val / 64, by omega⟩
def placeOf (r : Fin 512) : Fin 64 := ⟨r.val % 64, by omega⟩

/-- An entry of the block's hidden rows. -/
def hidden (r : Fin 512) (k : Fin 1024) : EReal :=
  entry (fun j => x0 (ix2 r j)) k (x3 (ix2 0 k)) (x2 (ix2 (chunkOf r) k)) (x1 (ix2 (chunkOf r) k))

theorem load_chunk (r : Fin 512) (j : Fin 1024) :
    arg1.view.readAt (Elt Ideal) (Rect.unit (s := S512x1024) ![64 * (chunkOf r).val, 0] S64x1024.size (inb_rows (chunkOf r))).toLoadRect (harg1.unread x0)
      (ix2 (placeOf r) j) = x0 (ix2 r j) := by
  refine (congrFun (harg1.read_unread (Val := Elt Ideal) x0) _).trans (congrArg x0 (funext fun a => Fin.ext ?_))
  fin_cases a
  · show 64 * (r.val / 64) + 1 * (r.val % 64) = r.val
    omega
  · show 0 + 1 * j.val = j.val
    omega

theorem load_row (m : Memref sig .tc .vmem S8x1024 .f32) (hm : m.IsWhole) (x : Vec Ideal S8x1024 .f32) (r : Fin 8) (k : Fin 1024) :
    m.view.readAt (Elt Ideal) (Rect.unit (s := S8x1024) ![r.val, 0] S1x1024.size (inb_row r)).toLoadRect (hm.unread x) (ix2 0 k) = x (ix2 r k) := by
  refine (congrFun (hm.read_unread (Val := Elt Ideal) x) _).trans (congrArg x (funext fun a => Fin.ext ?_))
  fin_cases a
  · show r.val + 1 * 0 = r.val
    omega
  · show 0 + 1 * k.val = k.val
    omega

theorem load_gain (k : Fin 1024) :
    arg4.view.readAt (Elt Ideal) (Rect.unit (s := S1x1024) ![0, 0] S1x1024.size inb_S1x1024_S1x1024_0_0).toLoadRect (harg4.unread x3) (ix2 0 k)
      = x3 (ix2 0 k) := by
  refine (congrFun (harg4.read_unread (Val := Elt Ideal) x3) _).trans (congrArg x3 (funext fun a => Fin.ext ?_))
  fin_cases a
  · rfl
  · show 0 + 1 * k.val = k.val
    omega

/-- The eight stores, newest first. -/
abbrev stores : List (View.Piece (Elt Ideal) S512x1024 .bf16) :=
  View.tilePieces (NT := 8) (s := S512x1024) (e := .bf16) (Val := Elt Ideal) S64x1024.size (fun r => ![64 * r.val, 0]) inb_rows
    (chunk arg1 harg1 arg2 harg2 arg3 harg3 arg4 harg4 x0 x1 x2 x3) 8 le_rfl

/-- The scratch as the products load it. -/
def scratch : Vec Ideal S512x1024 .bf16 :=
  arg18.view.readCov (Val := Elt Ideal) (stores arg1 harg1 arg2 harg2 arg3 harg3 arg4 harg4 x0 x1 x2 x3)
    (Rect.unit (s := S512x1024) ![0, 0] S512x1024.size inb_S512x1024_S512x1024_0_0).toLoadRect

theorem scratch_apply (r : Fin 512) (k : Fin 1024) :
    scratch arg1 harg1 arg2 harg2 arg3 harg3 arg4 harg4 arg18 x0 x1 x2 x3 (ix2 r k) = hidden x0 x1 x2 x3 r k := by
  have e : (Rect.unit (s := S512x1024) ![0, 0] S512x1024.size inb_S512x1024_S512x1024_0_0).toLoadRect.idx (ix2 r k) = (ix2 r k : S512x1024.Idx) :=
    funext fun a => Fin.ext (by fin_cases a <;> simp [LoadRect.idx])
  have h := View.read_tilePieces (s := S512x1024) (Val := Elt Ideal) arg18.view arg18.view.junk S64x1024.size (fun r : Fin 8 => ![64 * r.val, 0]) inb_rows
    (chunk arg1 harg1 arg2 harg2 arg3 harg3 arg4 harg4 x0 x1 x2 x3) 8 le_rfl (ix2 r k) (chunkOf r) (chunkOf r).isLt (ix2 (placeOf r) k)
    (fun a => by
      fin_cases a
      · show r.val = 64 * (r.val / 64) + r.val % 64
        omega
      · show k.val = 0 + k.val
        omega) 0
    (fun r' hr => by
      have : r'.val ≠ r.val / 64 := fun h => hr (Fin.ext h)
      show r.val < 64 * r'.val ∨ 64 * r'.val + 64 ≤ r.val
      omega)
  refine (congrArg (arg18.view.read (Elt Ideal) _) e).trans (h.trans ?_)
  unfold chunk hidden
  rw [pay3_apply, load_gain, load_row, load_row]
  exact congrArg (entry · _ _ _ _) (funext fun j => load_chunk arg1 harg1 x0 r j)
end

end Cert.Proof.ProjectRows

end
-- ==== Proof.ProjectBlock.lean ====
/- What the projection kernel's stores leave in its eleven output blocks: each is a product of the hidden rows with one block of columns of
   the packed weights, at an entry a sum over the 1024 places, times the queries' factor or through the log-sigmoid where the kernel does so. -/
module

public import proofs.«01_k».proof.Proof.ProjectRows

@[expose] public section

set_option maxRecDepth 16384

noncomputable section

namespace Cert.Proof.ProjectBlock

open Cert.ProjectIdeal Cert.ProjectIdeal.Gen Idealize.ShloMosaic Cert.Proof.ProjectRows

/-- The queries' factor. -/
def qScale : EReal := Named.named (F := Ideal) κ "q_scale" (φ := .f32) 0x3E38AA3B#32

/-- The log-sigmoid as the kernel computes it. -/
def logSig (x : EReal) : EReal := min x 0 - Ideal.log1p (Ideal.exp (0 - max x (-x)))

/-! ## The products at an entry -/

section
variable (H : FVec Ideal S512x1024 .bf16) (w : FVec Ideal S1024x512 .bf16) (r : Fin 512) (d : Fin 512)

theorem pay16_apply : k0_pay16 (F := Ideal) H w (ix2 r d) = ∑ k : Fin 1024, H (ix2 r k) * w (ix2 k d) := by
  pointwise [k0_pay16]
theorem pay18_apply : k0_pay18 (F := Ideal) H w (ix2 r d) = ∑ k : Fin 1024, H (ix2 r k) * w (ix2 k d) := pay16_apply H w r d
theorem pay22_apply : k0_pay22 (F := Ideal) H w (ix2 r d) = ∑ k : Fin 1024, H (ix2 r k) * w (ix2 k d) := pay16_apply H w r d
theorem pay24_apply : k0_pay24 (F := Ideal) H w (ix2 r d) = ∑ k : Fin 1024, H (ix2 r k) * w (ix2 k d) := pay16_apply H w r d
theorem pay17_apply : k0_pay17 (F := Ideal) H w (ix2 r d) = ∑ k : Fin 1024, H (ix2 r k) * w (ix2 k d) := pay16_apply H w r d
theorem pay19_apply : k0_pay19 (F := Ideal) H w (ix2 r d) = ∑ k : Fin 1024, H (ix2 r k) * w (ix2 k d) := pay16_apply H w r d
theorem pay23_apply : k0_pay23 (F := Ideal) H w (ix2 r d) = ∑ k : Fin 1024, H (ix2 r k) * w (ix2 k d) := pay16_apply H w r d
theorem pay25_apply : k0_pay25 (F := Ideal) H w (ix2 r d) = ∑ k : Fin 1024, H (ix2 r k) * w (ix2 k d) := pay16_apply H w r d
theorem pay15_apply : k0_pay15 (F := Ideal) H w (ix2 r d) = (∑ k : Fin 1024, H (ix2 r k) * w (ix2 k d)) * qScale :=
  congrArg (· * qScale) (pay16_apply H w r d)
theorem pay21_apply : k0_pay21 (F := Ideal) H (k0_pay20 w) (ix2 r d) = (∑ k : Fin 1024, H (ix2 r k) * w (ix2 k d)) * qScale :=
  congrArg (· * qScale) (pay16_apply H w r d)
end

theorem pay26_apply (H : FVec Ideal S512x1024 .bf16) (w : FVec Ideal S1024x128 .bf16) (b : FVec Ideal S1x128 .f32) (r : Fin 512) (d : Fin 128) :
    k0_pay26 (F := Ideal) H w b (ix2 r d) = (∑ k : Fin 1024, H (ix2 r k) * w (ix2 k d)) + b (ix2 0 d) := by
  pointwise [k0_pay26]

theorem pay1_apply (H : FVec Ideal S512x1024 .bf16) (w : FVec Ideal S1024x128 .bf16) (b : FVec Ideal S1x128 .f32) (r : Fin 512) (d : Fin 128) :
    k0_pay1 (F := Ideal) (k0_pay27 H w b) (k0_pay28 H w b) (ix2 r d) = logSig ((∑ k : Fin 1024, H (ix2 r k) * w (ix2 k d)) + b (ix2 0 d)) := by
  pointwise [k0_pay1, k0_pay27, k0_pay28]
  rw [pay26_apply]
  rfl

/-! ## One store that fills its block, and the loads of the weights and of the bias -/

theorem stored {e : EltTy} (v : View sig .tc .vmem S512x512 e) (f : v.ty.Contents (Elt Ideal)) (w : S512x512.Idx → Elt Ideal e) :
    v.read (Elt Ideal) (v.writes (Elt Ideal) f [⟨Rect.unit (s := S512x512) ![0, 0] S512x512.size inb_S512x512_S512x512_0_0, w⟩]) = w :=
  funext fun y => View.read_writes_cons_unit_of_mem v f _ w [] y y rfl fun a => by fin_cases a <;> simp

theorem stored128 {e : EltTy} (v : View sig .tc .vmem S512x128 e) (f : v.ty.Contents (Elt Ideal)) (w : S512x128.Idx → Elt Ideal e) :
    v.read (Elt Ideal) (v.writes (Elt Ideal) f [⟨Rect.unit (s := S512x128) ![0, 0] S512x128.size inb_S512x128_S512x128_0_0, w⟩]) = w :=
  funext fun y => View.read_writes_cons_unit_of_mem v f _ w [] y y rfl fun a => by fin_cases a <;> simp

theorem load_weights (m : Memref sig .tc .vmem S1024x3200 .bf16) (hm : m.IsWhole) (x : Vec Ideal S1024x3200 .bf16) (o : ℕ) (inb) (ho : o ≤ 2560)
    (k : Fin 1024) (d : Fin 512) :
    m.view.readAt (Elt Ideal) (Rect.unit (s := S1024x3200) ![0, o] S1024x512.size inb).toLoadRect (hm.unread x) (ix2 k d)
      = x (ix2 k ⟨o + d.val, by omega⟩) := by
  refine (congrFun (hm.read_unread (Val := Elt Ideal) x) _).trans (congrArg x (funext fun a => Fin.ext ?_))
  fin_cases a
  · show 0 + 1 * k.val = k.val
    omega
  · show o + 1 * d.val = o + d.val
    omega

theorem load_weights128 (m : Memref sig .tc .vmem S1024x3200 .bf16) (hm : m.IsWhole) (x : Vec Ideal S1024x3200 .bf16) (inb)
    (k : Fin 1024) (d : Fin 128) :
    m.view.readAt (Elt Ideal) (Rect.unit (s := S1024x3200) ![0, 3072] S1024x128.size inb).toLoadRect (hm.unread x) (ix2 k d)
      = x (ix2 k ⟨3072 + d.val, by omega⟩) := by
  refine (congrFun (hm.read_unread (Val := Elt Ideal) x) _).trans (congrArg x (funext fun a => Fin.ext ?_))
  fin_cases a
  · show 0 + 1 * k.val = k.val
    omega
  · show 3072 + 1 * d.val = 3072 + d.val
    omega

theorem load_bias (m : Memref sig .tc .vmem S1x128 .f32) (hm : m.IsWhole) (x : Vec Ideal S1x128 .f32) (inb) (d : Fin 128) :
    m.view.readAt (Elt Ideal) (Rect.unit (s := S1x128) ![0, 0] S1x128.size inb).toLoadRect (hm.unread x) (ix2 0 d) = x (ix2 0 d) := by
  refine (congrFun (hm.read_unread (Val := Elt Ideal) x) _).trans (congrArg x (funext fun a => Fin.ext ?_))
  fin_cases a
  · rfl
  · show 0 + 1 * d.val = d.val
    omega

/-! ## The blocks -/

/-- Row `r` of the hidden block times column `o + d` of the weights. -/
def product (x0 : Vec Ideal S512x1024 .f32) (x1 x2 : Vec Ideal S8x1024 .f32) (x3 : Vec Ideal S1x1024 .f32) (x4 : Vec Ideal S1024x3200 .bf16)
    (r : Fin 512) (n : Fin 3200) : EReal :=
  ∑ k : Fin 1024, hidden x0 x1 x2 x3 r k * x4 (ix2 k n)

section
variable (c : Dev nD) (i : grid0.Coords) (arg1 : Memref sig .tc .vmem S512x1024 .f32) (harg1 : arg1.IsWhole)
  (arg2 : Memref sig .tc .vmem S8x1024 .f32) (harg2 : arg2.IsWhole) (arg3 : Memref sig .tc .vmem S8x1024 .f32) (harg3 : arg3.IsWhole)
  (arg4 : Memref sig .tc .vmem S1x1024 .f32) (harg4 : arg4.IsWhole) (arg5 : Memref sig .tc .vmem S1024x3200 .bf16) (harg5 : arg5.IsWhole)
  (arg6 : Memref sig .tc .vmem S1x128 .f32) (harg6 : arg6.IsWhole) (arg7 : Memref sig .tc .vmem S512x512 .bf16) (harg7 : arg7.IsWhole)
  (arg8 : Memref sig .tc .vmem S512x512 .bf16) (harg8 : arg8.IsWhole) (arg9 : Memref sig .tc .vmem S512x512 .bf16) (harg9 : arg9.IsWhole)
  (arg10 : Memref sig .tc .vmem S512x512 .bf16) (harg10 : arg10.IsWhole) (arg11 : Memref sig .tc .vmem S512x512 .bf16) (harg11 : arg11.IsWhole)
  (arg12 : Memref sig .tc .vmem S512x512 .bf16) (harg12 : arg12.IsWhole) (arg13 : Memref sig .tc .vmem S512x512 .f32) (harg13 : arg13.IsWhole)
  (arg14 : Memref sig .tc .vmem S512x512 .f32) (harg14 : arg14.IsWhole) (arg15 : Memref sig .tc .vmem S512x512 .f32) (harg15 : arg15.IsWhole)
  (arg16 : Memref sig .tc .vmem S512x512 .f32) (harg16 : arg16.IsWhole) (arg17 : Memref sig .tc .vmem S512x128 .f32) (harg17 : arg17.IsWhole)
  (arg18 : Memref sig .tc .vmem S512x1024 .bf16) (harg18 : arg18.IsWhole)
  (x0 : Vec Ideal S512x1024 .f32) (x1 x2 : Vec Ideal S8x1024 .f32) (x3 : Vec Ideal S1x1024 .f32) (x4 : Vec Ideal S1024x3200 .bf16)
  (x5 : Vec Ideal S1x128 .f32) (r : Fin 512)

/-- The sum of a product's payload, the scratch and the loaded weights read. -/
theorem sums (o : ℕ) (inb) (ho : o ≤ 2560) (d : Fin 512) :
    ∑ k : Fin 1024, scratch arg1 harg1 arg2 harg2 arg3 harg3 arg4 harg4 arg18 x0 x1 x2 x3 (ix2 r k)
        * arg5.view.readAt (Elt Ideal) (Rect.unit (s := S1024x3200) ![0, o] S1024x512.size inb).toLoadRect (harg5.unread x4) (ix2 k d)
      = product x0 x1 x2 x3 x4 r ⟨o + d.val, by omega⟩ :=
  Finset.sum_congr rfl fun k _ => by rw [scratch_apply]; exact congrArg (_ * ·) (load_weights arg5 harg5 x4 o inb ho k d)

theorem out6 (d : Fin 512) : out0_A_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 (ix2 r d)
    = product x0 x1 x2 x3 x4 r ⟨0 + d.val, by omega⟩ * qScale :=
  (congrFun (stored VO0_6 VO0_6.junk _) (ix2 r d)).trans ((pay15_apply (scratch arg1 harg1 arg2 harg2 arg3 harg3 arg4 harg4 arg18 x0 x1 x2 x3) _ r d).trans (congrArg (· * qScale) (sums arg1 harg1 arg2 harg2 arg3 harg3 arg4 harg4 arg5 harg5 arg18 x0 x1 x2 x3 x4 r 0 _ (by decide) d)))

theorem out7 (d : Fin 512) : out0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 (ix2 r d)
    = product x0 x1 x2 x3 x4 r ⟨512 + d.val, by omega⟩ :=
  (congrFun (stored VO0_7 VO0_7.junk _) (ix2 r d)).trans ((pay17_apply (scratch arg1 harg1 arg2 harg2 arg3 harg3 arg4 harg4 arg18 x0 x1 x2 x3) _ r d).trans (sums arg1 harg1 arg2 harg2 arg3 harg3 arg4 harg4 arg5 harg5 arg18 x0 x1 x2 x3 x4 r 512 _ (by decide) d))

theorem out8 (d : Fin 512) : out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 (ix2 r d)
    = product x0 x1 x2 x3 x4 r ⟨1024 + d.val, by omega⟩ :=
  (congrFun (stored VO0_8 VO0_8.junk _) (ix2 r d)).trans ((pay19_apply (scratch arg1 harg1 arg2 harg2 arg3 harg3 arg4 harg4 arg18 x0 x1 x2 x3) _ r d).trans (sums arg1 harg1 arg2 harg2 arg3 harg3 arg4 harg4 arg5 harg5 arg18 x0 x1 x2 x3 x4 r 1024 _ (by decide) d))

theorem out9 (d : Fin 512) : out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 (ix2 r d)
    = product x0 x1 x2 x3 x4 r ⟨1536 + d.val, by omega⟩ * qScale :=
  (congrFun (stored VO0_9 VO0_9.junk _) (ix2 r d)).trans ((pay21_apply (scratch arg1 harg1 arg2 harg2 arg3 harg3 arg4 harg4 arg18 x0 x1 x2 x3) _ r d).trans (congrArg (· * qScale) (sums arg1 harg1 arg2 harg2 arg3 harg3 arg4 harg4 arg5 harg5 arg18 x0 x1 x2 x3 x4 r 1536 _ (by decide) d)))

theorem out10 (d : Fin 512) : out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 (ix2 r d)
    = product x0 x1 x2 x3 x4 r ⟨2048 + d.val, by omega⟩ :=
  (congrFun (stored VO0_10 VO0_10.junk _) (ix2 r d)).trans ((pay23_apply (scratch arg1 harg1 arg2 harg2 arg3 harg3 arg4 harg4 arg18 x0 x1 x2 x3) _ r d).trans (sums arg1 harg1 arg2 harg2 arg3 harg3 arg4 harg4 arg5 harg5 arg18 x0 x1 x2 x3 x4 r 2048 _ (by decide) d))

theorem out11 (d : Fin 512) : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 (ix2 r d)
    = product x0 x1 x2 x3 x4 r ⟨2560 + d.val, by omega⟩ :=
  (congrFun (stored VO0_11 VO0_11.junk _) (ix2 r d)).trans ((pay25_apply (scratch arg1 harg1 arg2 harg2 arg3 harg3 arg4 harg4 arg18 x0 x1 x2 x3) _ r d).trans (sums arg1 harg1 arg2 harg2 arg3 harg3 arg4 harg4 arg5 harg5 arg18 x0 x1 x2 x3 x4 r 2560 _ (by decide) d))

theorem out12 (d : Fin 512) : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 (ix2 r d)
    = product x0 x1 x2 x3 x4 r ⟨512 + d.val, by omega⟩ :=
  (congrFun (stored VO0_12 VO0_12.junk _) (ix2 r d)).trans ((pay16_apply (scratch arg1 harg1 arg2 harg2 arg3 harg3 arg4 harg4 arg18 x0 x1 x2 x3) _ r d).trans (sums arg1 harg1 arg2 harg2 arg3 harg3 arg4 harg4 arg5 harg5 arg18 x0 x1 x2 x3 x4 r 512 _ (by decide) d))

theorem out13 (d : Fin 512) : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 (ix2 r d)
    = product x0 x1 x2 x3 x4 r ⟨1024 + d.val, by omega⟩ :=
  (congrFun (stored VO0_13 VO0_13.junk _) (ix2 r d)).trans ((pay18_apply (scratch arg1 harg1 arg2 harg2 arg3 harg3 arg4 harg4 arg18 x0 x1 x2 x3) _ r d).trans (sums arg1 harg1 arg2 harg2 arg3 harg3 arg4 harg4 arg5 harg5 arg18 x0 x1 x2 x3 x4 r 1024 _ (by decide) d))

theorem out14 (d : Fin 512) : out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 (ix2 r d)
    = product x0 x1 x2 x3 x4 r ⟨2048 + d.val, by omega⟩ :=
  (congrFun (stored VO0_14 VO0_14.junk _) (ix2 r d)).trans ((pay22_apply (scratch arg1 harg1 arg2 harg2 arg3 harg3 arg4 harg4 arg18 x0 x1 x2 x3) _ r d).trans (sums arg1 harg1 arg2 harg2 arg3 harg3 arg4 harg4 arg5 harg5 arg18 x0 x1 x2 x3 x4 r 2048 _ (by decide) d))

theorem out15 (d : Fin 512) : out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 (ix2 r d)
    = product x0 x1 x2 x3 x4 r ⟨2560 + d.val, by omega⟩ :=
  (congrFun (stored VO0_15 VO0_15.junk _) (ix2 r d)).trans ((pay24_apply (scratch arg1 harg1 arg2 harg2 arg3 harg3 arg4 harg4 arg18 x0 x1 x2 x3) _ r d).trans (sums arg1 harg1 arg2 harg2 arg3 harg3 arg4 harg4 arg5 harg5 arg18 x0 x1 x2 x3 x4 r 2560 _ (by decide) d))

theorem out16 (d : Fin 128) : out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 (ix2 r d)
    = logSig (product x0 x1 x2 x3 x4 r ⟨3072 + d.val, by omega⟩ + x5 (ix2 0 d)) := by
  refine (congrFun (stored128 VO0_16 VO0_16.junk _) (ix2 r d)).trans ((pay1_apply (scratch arg1 harg1 arg2 harg2 arg3 harg3 arg4 harg4 arg18 x0 x1 x2 x3) _ _ r d).trans (congrArg logSig ?_))
  refine congrArg₂ (· + ·) (Finset.sum_congr rfl fun k _ => ?_) (load_bias arg6 harg6 x5 _ d)
  rw [scratch_apply]
  exact congrArg (_ * ·) (load_weights128 arg5 harg5 x4 _ k d)
end

end Cert.Proof.ProjectBlock

end
-- ==== Proof.ProjectScalar.lean ====
/- Two scalar equations of the projection: the queries' factor is an eighth divided by the logarithm of two, and the kernel's log-sigmoid is
   the reference's, the negated softplus of the negated argument. -/
module

public import proofs.«01_k».proof.Proof.ProjectBlock

@[expose] public section

set_option maxRecDepth 16384

noncomputable section

namespace Cert.Proof.ProjectScalar

open Idealize.ShloMosaic Cert.Proof.ProjectBlock

theorem eighth : Ideal.ofBits .f32 0x3E000000#32 = ((1 / 8 : ℝ) : EReal) := by
  simp [Ideal.ofBits, Ideal.ieee]
  rw [← EReal.coe_mul]
  norm_num

theorem two : Ideal.ofBits .f32 0x40000000#32 = ((2 : ℝ) : EReal) := by
  simp [Ideal.ofBits, Ideal.ieee]
  rw [← EReal.coe_mul]
  norm_num

theorem one : Ideal.ofBits .f32 0x3F800000#32 = (1 : EReal) := by
  simp [Ideal.ofBits, Ideal.ieee]
  rw [← EReal.coe_mul]
  norm_num

theorem log_two : Ideal.log (Ideal.ofBits .f32 0x40000000#32) = ((Real.log 2 : ℝ) : EReal) := by
  rw [two]
  show (if (2 : ℝ) ≤ 0 then ⊥ else ((Real.log 2 : ℝ) : EReal)) = _
  rw [if_neg (by norm_num)]

theorem qScale_eq : qScale = (((8 * Real.log 2)⁻¹ : ℝ) : EReal) := rfl

/-- Times the factor is times an eighth and divided by the logarithm of two. -/
theorem scaled (p : EReal) :
    p * qScale = Ideal.div (p * Ideal.ofBits .f32 0x3E000000#32) (Ideal.log (Ideal.ofBits .f32 0x40000000#32)) := by
  have h : Real.log 2 ≠ 0 := Real.log_ne_zero_of_pos_of_ne_one (by norm_num) (by norm_num)
  rw [log_two, eighth, Ideal.div_coe h, mul_assoc, ← EReal.coe_mul, qScale_eq]
  congr 2
  field_simp

/-- The reference's softplus at one entry, with the branch for an entry unequal to itself; `z` is its zero. -/
def softplus (z u : EReal) : EReal :=
  Scalar.select (Ideal.cmp .une (u - z) (u - z)) (u + z) (max u z + Ideal.log1p (Ideal.exp (-(max (u - z) (-(u - z))))))

theorem softplus_eq (u : EReal) : softplus 0 u = max u 0 + Ideal.log1p (Ideal.exp (-(max u (-u)))) := by
  unfold softplus
  rw [sub_zero]
  have h : Ideal.cmp .une u u = 0#1 := by
    show BitVec.ofBool (decide (u ≠ u)) = 0#1
    simp
  rw [h]
  rfl

/-- The logarithm's part is a real number. -/
theorem log_part (x : EReal) : ∃ l : ℝ, Ideal.log1p (Ideal.exp (-(max x (-x)))) = (l : EReal) := by
  have h0 : Ideal.log1p (Ideal.exp ⊥) = ((Real.log 1 : ℝ) : EReal) := by
    show Ideal.log (1 + 0) = _
    rw [add_zero]
    show (if (1 : ℝ) ≤ 0 then ⊥ else ((Real.log 1 : ℝ) : EReal)) = _
    rw [if_neg (by norm_num)]
  induction x with
  | bot => exact ⟨Real.log 1, by rw [EReal.neg_bot, max_eq_right bot_le, EReal.neg_top, h0]⟩
  | top => exact ⟨Real.log 1, by rw [EReal.neg_top, max_eq_left bot_le, EReal.neg_top, h0]⟩
  | coe r =>
    refine ⟨Real.log (1 + Real.exp (-(max r (-r)))), ?_⟩
    have e : -(max (r : EReal) (-(r : EReal))) = ((-(max r (-r)) : ℝ) : EReal) := by
      rw [EReal.coe_neg, EReal.coe_strictMono.monotone.map_max, EReal.coe_neg]
    rw [e]
    show Ideal.log (((1 : ℝ) : EReal) + ((Real.exp (-(max r (-r))) : ℝ) : EReal)) = _
    rw [← EReal.coe_add]
    show (if 1 + Real.exp (-(max r (-r))) ≤ 0 then ⊥ else ((Real.log (1 + Real.exp (-(max r (-r)))) : ℝ) : EReal)) = _
    rw [if_neg (not_le.mpr (by positivity))]

/-- The two log-sigmoids agree. -/
theorem logSig_eq (x : EReal) : logSig x = -(softplus 0 (-x)) := by
  rw [softplus_eq]
  unfold logSig
  rw [zero_sub, neg_neg, max_comm (-x) x]
  obtain ⟨l, hl⟩ := log_part x
  rw [hl, EReal.neg_add (Or.inr (EReal.coe_ne_top l)) (Or.inr (EReal.coe_ne_bot l))]
  congr 1
  rcases le_total x 0 with h | h
  · rw [min_eq_left h, max_eq_left (EReal.neg_nonneg.mpr h), neg_neg]
  · rw [min_eq_right h, max_eq_right (show -x ≤ 0 by simpa using EReal.neg_le_neg_iff.mpr h), neg_zero]

end Cert.Proof.ProjectScalar

end
-- ==== Proof.ProjectRef.lean ====
/- The projection's reference read at an entry: the hidden row of a position, its product with one column of the weights, and the eleven
   results as such products. -/
module

public import proofs.«01_k».proof.Proof.Gen.ProjectRefIdeal.Read
public import proofs.«01_k».proof.Proof.ProjectScalar

@[expose] public section

set_option maxRecDepth 16384

noncomputable section

namespace Cert.Proof.ProjectRef

open Idealize.ShloMosaic
open Cert.ProjectRefIdeal Cert.ProjectRefIdeal.Read
open Cert.Proof.ProjectRows (entry)
open Cert.Proof.ProjectBlock (qScale logSig)
open Cert.Proof.ProjectScalar

abbrev Rows := (⟨S16896x1024, .f32⟩ : BufTy).Contents (Elt Ideal)
abbrev Modulation := (⟨S264x1024, .f32⟩ : BufTy).Contents (Elt Ideal)
abbrev Gain := (⟨S1024, .f32⟩ : BufTy).Contents (Elt Ideal)
abbrev Weights := (⟨S1024x3080, .f32⟩ : BufTy).Contents (Elt Ideal)
abbrev Bias := (⟨S8, .f32⟩ : BufTy).Contents (Elt Ideal)

variable (x0 : Rows) (x1 x2 : Modulation) (x3 : Gain) (x4 : Weights) (x5 : Bias)

/-- The chunk a row belongs to, and a chunk's row. -/
def chunk (R : Fin 16896) : Fin 264 := ⟨R.val / 64, by omega⟩
def row (g : Fin 264) (r : Fin 64) : Fin 16896 := ⟨g.val * 64 + r.val, by omega⟩

/-- The hidden row of position `R` at place `k`. -/
def hidden (R : Fin 16896) (k : Fin 1024) : EReal :=
  entry (fun j => x0 (ix2 R j)) k (x3 (ix1 k)) (x2 (ix2 (chunk R) k)) (x1 (ix2 (chunk R) k))

/-- The hidden row times column `n` of the weights. -/
def product (R : Fin 16896) (n : Fin 3080) : EReal := ∑ k : Fin 1024, hidden x0 x1 x2 x3 R k * x4 (ix2 k n)

theorem v0_apply (i : S264x64x1024.Idx) : val_main_v0 (F := Ideal) x0 i = x0 (ix2 (row (i 0) (i 1)) (i 2)) := by
  rw [val_main_v0_apply]
  refine congrArg x0 (funext fun a => Fin.ext ?_)
  have h2 : (i 2).val < 1024 := (i 2).isLt
  match a with
  | ⟨0, _⟩ => show (((i 0).val * 64 + (i 1).val) * 1024 + (i 2).val) / 1024 = (i 0).val * 64 + (i 1).val; omega
  | ⟨1, _⟩ => show (((i 0).val * 64 + (i 1).val) * 1024 + (i 2).val) % 1024 = (i 2).val; omega

/-- The reciprocal root of a row's mean square. -/
theorem v8_apply (i : S264x64x1.Idx) :
    val_main_v8 (F := Ideal) x0 i = Ideal.rsqrt (Ideal.div (∑ j : Fin 1024, x0 (ix2 (row (i 0) (i 1)) j) * x0 (ix2 (row (i 0) (i 1)) j))
      (Ideal.ofBits .f32 0x44800000#32) + Ideal.ofBits .f32 0x358637BD#32) := by
  rw [val_main_v8_apply, val_main_v7_apply, val_main_v5_apply, val_main_v3_apply, val_main_v2_apply, val_main_v4_apply, val_main_cst_0_apply,
    val_main_v6_apply, val_main_cst_1_apply, val_main_cst_apply]
  simp only [val_main_v1_apply, v0_apply]
  show Ideal.rsqrt (Ideal.div (Ideal.ofBits .f32 0x00000000#32 + _) (Ideal.ofBits .f32 0x44800000#32) + Ideal.ofBits .f32 0x358637BD#32) = _
  rw [Ideal.ofBits_zero_f32, zero_add]
  rfl

theorem v12_apply (i : S264x64x1024.Idx) : val_main_v12 (F := Ideal) x3 i = x3 (ix1 (i 2)) := by
  rw [val_main_v12_apply, val_main_v11_apply]
  exact congrArg x3 (funext fun a => Fin.ext (by match a with | ⟨0, _⟩ => rfl))

theorem v17_apply (i : S264x64x1024.Idx) : val_main_v17 (F := Ideal) x2 i = 1 + x2 (ix2 (i 0) (i 2)) := by
  rw [val_main_v17_apply, val_main_v16_apply, val_main_v15_apply, val_main_cst_2_apply, val_main_v14_apply]
  show Ideal.ofBits .f32 0x3F800000#32 + _ = _
  rw [one]
  exact congrArg (1 + x2 ·) (funext fun a => Fin.ext (by match a with | ⟨0, _⟩ => rfl | ⟨1, _⟩ => rfl))

theorem v20_apply (i : S264x64x1024.Idx) : val_main_v20 (F := Ideal) x1 i = x1 (ix2 (i 0) (i 2)) := by
  rw [val_main_v20_apply, val_main_v19_apply]
  exact congrArg x1 (funext fun a => Fin.ext (by match a with | ⟨0, _⟩ => rfl | ⟨1, _⟩ => rfl))

theorem v21_apply (i : S264x64x1024.Idx) : val_main_v21 (F := Ideal) x0 x1 x2 x3 i
    = entry (fun j => x0 (ix2 (row (i 0) (i 1)) j)) (i 2) (x3 (ix1 (i 2))) (x2 (ix2 (i 0) (i 2))) (x1 (ix2 (i 0) (i 2))) := by
  rw [val_main_v21_apply, val_main_v18_apply, val_main_v13_apply, val_main_v10_apply, v0_apply, val_main_v9_apply, v8_apply, v12_apply,
    v17_apply, v20_apply]
  rfl

theorem v22_apply (R : Fin 16896) (k : Fin 1024) : val_main_v22 (F := Ideal) x0 x1 x2 x3 (ix2 R k) = hidden x0 x1 x2 x3 R k := by
  rw [val_main_v22_apply]
  have e : idx_main_v22 (ix2 R k) = ix3 (chunk R) (⟨R.val % 64, by omega⟩ : Fin 64) k := funext fun a => Fin.ext (by
    match a with
    | ⟨0, _⟩ => show (R.val * 1024 + k.val) / 65536 = R.val / 64; omega
    | ⟨1, _⟩ => show (R.val * 1024 + k.val) / 1024 % 64 = R.val % 64; omega
    | ⟨2, _⟩ => show (R.val * 1024 + k.val) % 1024 = k.val; omega)
  rw [e]
  refine (v21_apply x0 x1 x2 x3 _).trans ?_
  have er : row (chunk R) (⟨R.val % 64, by omega⟩ : Fin 64) = R := Fin.ext (by
    show R.val / 64 * 64 + R.val % 64 = R.val; omega)
  exact congrArg (fun S => entry (fun j => x0 (ix2 S j)) k (x3 (ix1 k)) (x2 (ix2 (chunk R) k)) (x1 (ix2 (chunk R) k))) er

theorem v23_apply (R : Fin 16896) (n : Fin 3080) (i : S16896x3080.Idx) (h0 : (i 0).val = R.val) (h1 : (i 1).val = n.val) :
    val_main_v23 (F := Ideal) x0 x1 x2 x3 x4 i = product x0 x1 x2 x3 x4 R n := by
  rw [val_main_v23_apply]
  refine Finset.sum_congr rfl fun k _ => ?_
  have el : lidx_main_v23 i k = ix2 R k := funext fun a => Fin.ext (by
    match a with
    | ⟨0, _⟩ => exact h0
    | ⟨1, _⟩ => rfl)
  have er : ridx_main_v23 i k = ix2 k n := funext fun a => Fin.ext (by
    match a with
    | ⟨0, _⟩ => rfl
    | ⟨1, _⟩ => exact h1)
  rw [el, er, v22_apply]

section
variable (R : Fin 16896) (d : Fin 512)

/-! ## The columns of the first and of the second half -/

theorem v24_apply : val_main_v24 (F := Ideal) x0 x1 x2 x3 x4 (ix2 R d) = product x0 x1 x2 x3 x4 R ⟨0 + d.val, by omega⟩ :=
  (val_main_v24_apply x0 x1 x2 x3 x4 _).trans (v23_apply x0 x1 x2 x3 x4 R _ _ rfl (Nat.zero_add _).symm)
theorem v25_apply : val_main_v25 (F := Ideal) x0 x1 x2 x3 x4 (ix2 R d) = product x0 x1 x2 x3 x4 R ⟨512 + d.val, by omega⟩ :=
  (val_main_v25_apply x0 x1 x2 x3 x4 _).trans (v23_apply x0 x1 x2 x3 x4 R _ _ rfl rfl)
theorem v26_apply : val_main_v26 (F := Ideal) x0 x1 x2 x3 x4 (ix2 R d) = product x0 x1 x2 x3 x4 R ⟨1024 + d.val, by omega⟩ :=
  (val_main_v26_apply x0 x1 x2 x3 x4 _).trans (v23_apply x0 x1 x2 x3 x4 R _ _ rfl rfl)
theorem v28_apply : val_main_v28 (F := Ideal) x0 x1 x2 x3 x4 (ix2 R d) = product x0 x1 x2 x3 x4 R ⟨1544 + d.val, by omega⟩ :=
  (val_main_v28_apply x0 x1 x2 x3 x4 _).trans (v23_apply x0 x1 x2 x3 x4 R _ _ rfl rfl)
theorem v29_apply : val_main_v29 (F := Ideal) x0 x1 x2 x3 x4 (ix2 R d) = product x0 x1 x2 x3 x4 R ⟨2056 + d.val, by omega⟩ :=
  (val_main_v29_apply x0 x1 x2 x3 x4 _).trans (v23_apply x0 x1 x2 x3 x4 R _ _ rfl rfl)
theorem v30_apply : val_main_v30 (F := Ideal) x0 x1 x2 x3 x4 (ix2 R d) = product x0 x1 x2 x3 x4 R ⟨2568 + d.val, by omega⟩ :=
  (val_main_v30_apply x0 x1 x2 x3 x4 _).trans (v23_apply x0 x1 x2 x3 x4 R _ _ rfl rfl)

/-- The queries of the first half, scaled. -/
theorem v42_apply : val_main_v42 (F := Ideal) x0 x1 x2 x3 x4 (ix2 R d) = product x0 x1 x2 x3 x4 R ⟨0 + d.val, by omega⟩ * qScale := by
  rw [scaled, val_main_v42_apply, val_main_v41_apply, val_main_v38_apply, v24_apply, val_main_v37_apply, val_main_cst_4_apply, val_main_v40_apply,
    val_main_v39_apply, val_main_cst_5_apply]
  rfl

/-- The queries of the second half, scaled. -/
theorem v50_apply : val_main_v50 (F := Ideal) x0 x1 x2 x3 x4 (ix2 R d) = product x0 x1 x2 x3 x4 R ⟨1544 + d.val, by omega⟩ * qScale := by
  rw [scaled, val_main_v50_apply, val_main_v49_apply, val_main_v46_apply, v28_apply, val_main_v45_apply, val_main_cst_6_apply, val_main_v48_apply,
    val_main_v47_apply, val_main_cst_7_apply]
  rfl
end

/-! ## The gates -/

/-- The gates' eight columns. -/
theorem v34_apply (R : Fin 16896) (d : Fin 8) :
    val_main_v34 (F := Ideal) x0 x1 x2 x3 x4 x5 (ix2 R d) = logSig (product x0 x1 x2 x3 x4 R ⟨1536 + d.val, by omega⟩ + x5 (ix1 d)) := by
  have e : val_main_v33 (F := Ideal) x0 x1 x2 x3 x4 x5 (ix2 R d) = product x0 x1 x2 x3 x4 R ⟨1536 + d.val, by omega⟩ + x5 (ix1 d) := by
    rw [val_main_v33_apply, val_main_v27_apply, v23_apply x0 x1 x2 x3 x4 R ⟨1536 + d.val, by omega⟩ _ rfl rfl, val_main_v32_apply, val_main_v31_apply]
    exact congrArg (_ + x5 ·) (funext fun a => Fin.ext (by match a with | ⟨0, _⟩ => rfl))
  rw [logSig_eq, ← e, ← Ideal.ofBits_zero_f32, val_main_v34_apply, val_main_call0_v1_apply, val_main_call0_call0_v4_apply,
    val_main_call0_call0_v6_apply, val_main_call0_call0_v11_apply, val_main_call0_call0_v1_apply, val_main_call0_call0_v10_apply,
    val_main_call0_call0_v9_apply, val_main_call0_call0_v8_apply, val_main_call0_call0_v7_apply, val_main_call0_call0_v3_apply,
    val_main_call0_call0_v0_apply, val_main_call0_call0_v2_apply, val_main_call0_call0_v5_apply, val_main_call0_call0_cst_apply,
    val_main_call0_v0_apply]
  generalize val_main_v33 (F := Ideal) x0 x1 x2 x3 x4 x5 (ix2 R d) = u
  rfl

/-- The gates' padding columns hold the log-sigmoid of zero. -/
theorem v36_apply (i : S16896x120.Idx) : val_main_v36 (F := Ideal) i = logSig 0 := by
  rw [val_main_v36_apply, logSig_eq, ← Ideal.ofBits_zero_f32]
  rfl

/-- The gates with their padding columns. -/
theorem v53_in (R : Fin 16896) (d : Fin 128) (h : d.val < 8) : val_main_v53 (F := Ideal) x0 x1 x2 x3 x4 x5 (ix2 R d)
    = logSig (product x0 x1 x2 x3 x4 R ⟨1536 + d.val, by omega⟩ + x5 (ix1 ⟨d.val, h⟩)) := by
  refine Eq.trans ?_ (v34_apply x0 x1 x2 x3 x4 x5 R ⟨d.val, h⟩)
  unfold val_main_v53
  generalize val_main_v34 (F := Ideal) x0 x1 x2 x3 x4 x5 = y
  generalize val_main_v36 (F := Ideal) = z
  refine concatenate_pair_apply_left (t := S16896x128) 1 y z _ _ rfl (ix2 R ⟨d.val, h⟩) fun b => ?_
  match b with
  | ⟨0, _⟩ => rfl
  | ⟨1, _⟩ => rfl

theorem v53_out (R : Fin 16896) (d : Fin 128) (h : 8 ≤ d.val) :
    val_main_v53 (F := Ideal) x0 x1 x2 x3 x4 x5 (ix2 R d) = logSig 0 := by
  refine Eq.trans ?_ (v36_apply (ix2 R ⟨d.val - 8, by omega⟩))
  unfold val_main_v53
  generalize val_main_v34 (F := Ideal) x0 x1 x2 x3 x4 x5 = y
  generalize val_main_v36 (F := Ideal) = z
  refine concatenate_pair_apply_right (t := S16896x128) 1 y z _ _ rfl rfl (ix2 R ⟨d.val - 8, by omega⟩) (fun b hb => ?_) ?_
  · match b with
    | ⟨0, _⟩ => rfl
    | ⟨1, _⟩ => exact absurd rfl hb
  · show d.val - 8 + 8 = d.val
    omega

end Cert.Proof.ProjectRef

end
-- ==== Proof.ProjectEquation.lean ====
/- The projection's results are the reference's, entry by entry: each grid point's blocks are the tiles of the reference's results at its
   rows, and the tiles cover them. -/
module

public import proofs.«01_k».proof.Proof.ProjectWindows
public import proofs.«01_k».proof.Proof.ProjectRef

@[expose] public section

set_option maxRecDepth 16384

noncomputable section

namespace Cert.Proof.ProjectEquation

open Cert.ProjectIdeal Cert.ProjectIdeal.Gen Cert.ProjectIdeal.Value Idealize.ShloMosaic Idealize.ShloMosaic.TcCoe Idealize.SL.Sem
open Cert.Proof.ProjectWindows Cert.Proof.ProjectWeights
open Cert.Proof.ProjectBlock (qScale logSig)

section
variable (t : Fin cfg0.N) (x0 : Vec Ideal S512x1024 .f32) (x1 x2 : Vec Ideal S8x1024 .f32) (x3 : Vec Ideal S1x1024 .f32)
  (x4 : Vec Ideal S1024x3200 .bf16) (a0 : ProjectRef.Rows) (a1 a2 : ProjectRef.Modulation) (a3 : ProjectRef.Gain) (a4 : ProjectRef.Weights)
  (e0 : ∀ r k, x0 (ix2 r k) = a0 (ix2 (rowAt t r) k)) (e1 : ∀ g k, x1 (ix2 g k) = a1 (ix2 (chunkAt t g) k))
  (e2 : ∀ g k, x2 (ix2 g k) = a2 (ix2 (chunkAt t g) k)) (e3 : ∀ k, x3 (ix2 0 k) = a3 (ix1 k))

include e0 e1 e2 e3 in
/-- The kernel's hidden rows are the reference's. -/
theorem hidden_eq (r : Fin 512) (k : Fin 1024) : ProjectRows.hidden x0 x1 x2 x3 r k = ProjectRef.hidden a0 a1 a2 a3 (rowAt t r) k := by
  unfold ProjectRows.hidden ProjectRef.hidden
  have ec : chunkAt t (ProjectRows.chunkOf r) = ProjectRef.chunk (rowAt t r) := Fin.ext (by
    show t.val * 8 + r.val / 64 = (t.val * 512 + r.val) / 64
    omega)
  rw [e1, e2, e3, ec]
  exact congrArg (ProjectRows.entry · _ _ _ _) (funext fun j => e0 r j)

include e0 e1 e2 e3 in
/-- A product of the hidden rows with a packed column that is a column of the weights. -/
theorem product_eq (e4 : ∀ k n, x4 (ix2 k n) = packed a4 (ix2 k n)) (r : Fin 512) (n : Fin 3200) (N : Fin 3080)
    (hw : ∀ k, packed a4 (ix2 k n) = a4 (ix2 k N)) :
    ProjectBlock.product x0 x1 x2 x3 x4 r n = ProjectRef.product a0 a1 a2 a3 a4 (rowAt t r) N :=
  Finset.sum_congr rfl fun k _ => by rw [hidden_eq t x0 x1 x2 x3 a0 a1 a2 a3 e0 e1 e2 e3, e4, hw]

/-- A product with a packed column of zeros is zero. -/
theorem product_zero (e4 : ∀ k n, x4 (ix2 k n) = packed a4 (ix2 k n)) (r : Fin 512) (n : Fin 3200) (hw : ∀ k, packed a4 (ix2 k n) = 0) :
    ProjectBlock.product x0 x1 x2 x3 x4 r n = 0 :=
  Finset.sum_eq_zero fun k _ => by rw [e4, hw, mul_zero]
end

variable (m : (ℓ : Loc nD τ sig) → Buf (Elt Ideal) ℓ) (c : Dev nD)

/-- The arguments as arrays. -/
abbrev a0 : ProjectRef.Rows := m ((c : Thread nD τ).loc main_arg0)
abbrev a1 : ProjectRef.Modulation := m ((c : Thread nD τ).loc main_arg1)
abbrev a2 : ProjectRef.Modulation := m ((c : Thread nD τ).loc main_arg2)
abbrev a3 : ProjectRef.Gain := m ((c : Thread nD τ).loc main_arg3)
abbrev a4 : ProjectRef.Weights := m ((c : Thread nD τ).loc main_arg4)
abbrev a5 : ProjectRef.Bias := m ((c : Thread nD τ).loc main_arg5)

/-- The product of a grid point's row with a packed column. -/
theorem at_point (t : Fin cfg0.N) (r : Fin 512) (n : Fin 3200) (N : Fin 3080) (hw : ∀ k, packed (a4 m c) (ix2 k n) = a4 m c (ix2 k N)) :
    ProjectBlock.product (iblk m c 0 t) (iblk m c 1 t) (iblk m c 2 t) (iblk m c 3 t) (iblk m c 4 t) r n
      = ProjectRef.product (a0 m c) (a1 m c) (a2 m c) (a3 m c) (a4 m c) (rowAt t r) N :=
  product_eq t _ _ _ _ _ (a0 m c) (a1 m c) (a2 m c) (a3 m c) (a4 m c) (block0 m c t) (block1 m c t) (block2 m c t) (block3 m c t)
    (block4 m c t) r n N hw

/-- The gates of a grid point's row. -/
theorem gates (t : Fin cfg0.N) (r : Fin 512) (d : Fin 128) :
    logSig (ProjectBlock.product (iblk m c 0 t) (iblk m c 1 t) (iblk m c 2 t) (iblk m c 3 t) (iblk m c 4 t) r ⟨3072 + d.val, by omega⟩
        + (iblk m c 5 t : Vec Ideal S1x128 .f32) (ix2 0 d))
      = Cert.ProjectRefIdeal.Read.val_main_v53 (F := Ideal) (a0 m c) (a1 m c) (a2 m c) (a3 m c) (a4 m c) (a5 m c) (ix2 (rowAt t r) d) := by
  rw [block5]
  by_cases h : d.val < 8
  · rw [at_point m c t r _ ⟨1536 + d.val, by omega⟩ (fun k => (packed6 (a4 m c) k d).trans (gate_in (a4 m c) k d h)), v11_in m c d h]
    exact (ProjectRef.v53_in _ _ _ _ _ _ _ d h).symm
  · have h' : 8 ≤ d.val := by omega
    rw [product_zero _ _ _ _ _ (a4 m c) (block4 m c t) r _ (fun k => (packed6 (a4 m c) k d).trans (gate_out (a4 m c) k d h')), v11_out m c d h']
    refine (congrArg logSig (zero_add 0)).trans (ProjectRef.v53_out _ _ _ _ _ _ _ d h').symm

/-! ## The eleven results: where a block sits, and the array after the run -/

theorem rows6 (t : Fin cfg0.N) : AtRows t (((cfg0.win 6).blk t).view.emb : S512x512.Idx → S16896x512.Idx) := by
  obtain ⟨e0, e1⟩ := (by decide +kernel : ∀ t : Fin grid0.N, win0_6.index t (0 : Fin 2) = t.val ∧ win0_6.index t (1 : Fin 2) = 0) t
  intro j; funext a; apply Fin.ext
  match a with
  | ⟨0, _⟩ => show win0_6.index t (0 : Fin 2) * 512 + 1 * (j 0).val = t.val * 512 + (j 0).val; omega
  | ⟨1, _⟩ => show win0_6.index t (1 : Fin 2) * 512 + 1 * (j 1).val = (j 1).val; omega

theorem final6 : (dats m 0 c).arrAt 6 cfg0.N = Cert.ProjectRefIdeal.Read.val_main_v42 (F := Ideal) (a0 m c) (a1 m c) (a2 m c) (a3 m c) (a4 m c) :=
  (dats m 0 c).arrAt_eq_of_cover 6 _
    (fun t _ => (flushed6_A m c t).trans (funext (tile_eq t _ (rows6 t) _ _ fun r d => (ProjectBlock.out6 ..).trans
      ((congrArg (· * qScale) (at_point m c t r _ _ (fun k => packed0 (a4 m c) k d))).trans (ProjectRef.v42_apply _ _ _ _ _ _ d).symm))))
    fun i => let ⟨t, h⟩ := covered (fun t => ((cfg0.win 6).blk t).view.set) _ rows6 (fun t => ((cfg0.win 6).blk t).view.emb_mem_set) i
      ⟨t, flush0_6 t, h⟩

theorem rows7 (t : Fin cfg0.N) : AtRows t (((cfg0.win 7).blk t).view.emb : S512x512.Idx → S16896x512.Idx) := by
  obtain ⟨e0, e1⟩ := (by decide +kernel : ∀ t : Fin grid0.N, win0_7.index t (0 : Fin 2) = t.val ∧ win0_7.index t (1 : Fin 2) = 0) t
  intro j; funext a; apply Fin.ext
  match a with
  | ⟨0, _⟩ => show win0_7.index t (0 : Fin 2) * 512 + 1 * (j 0).val = t.val * 512 + (j 0).val; omega
  | ⟨1, _⟩ => show win0_7.index t (1 : Fin 2) * 512 + 1 * (j 1).val = (j 1).val; omega

theorem final7 : (dats m 0 c).arrAt 7 cfg0.N = Cert.ProjectRefIdeal.Read.val_main_v43 (F := Ideal) (a0 m c) (a1 m c) (a2 m c) (a3 m c) (a4 m c) :=
  (dats m 0 c).arrAt_eq_of_cover 7 _
    (fun t _ => (flushed7_A m c t).trans (funext (tile_eq t _ (rows7 t) _ _ fun r d => (ProjectBlock.out7 ..).trans
      ((at_point m c t r _ _ (fun k => packed1 (a4 m c) k d)).trans (ProjectRef.v25_apply _ _ _ _ _ _ d).symm))))
    fun i => let ⟨t, h⟩ := covered (fun t => ((cfg0.win 7).blk t).view.set) _ rows7 (fun t => ((cfg0.win 7).blk t).view.emb_mem_set) i
      ⟨t, flush0_7 t, h⟩

theorem rows8 (t : Fin cfg0.N) : AtRows t (((cfg0.win 8).blk t).view.emb : S512x512.Idx → S16896x512.Idx) := by
  obtain ⟨e0, e1⟩ := (by decide +kernel : ∀ t : Fin grid0.N, win0_8.index t (0 : Fin 2) = t.val ∧ win0_8.index t (1 : Fin 2) = 0) t
  intro j; funext a; apply Fin.ext
  match a with
  | ⟨0, _⟩ => show win0_8.index t (0 : Fin 2) * 512 + 1 * (j 0).val = t.val * 512 + (j 0).val; omega
  | ⟨1, _⟩ => show win0_8.index t (1 : Fin 2) * 512 + 1 * (j 1).val = (j 1).val; omega

theorem final8 : (dats m 0 c).arrAt 8 cfg0.N = Cert.ProjectRefIdeal.Read.val_main_v44 (F := Ideal) (a0 m c) (a1 m c) (a2 m c) (a3 m c) (a4 m c) :=
  (dats m 0 c).arrAt_eq_of_cover 8 _
    (fun t _ => (flushed8_A m c t).trans (funext (tile_eq t _ (rows8 t) _ _ fun r d => (ProjectBlock.out8 ..).trans
      ((at_point m c t r _ _ (fun k => packed2 (a4 m c) k d)).trans (ProjectRef.v26_apply _ _ _ _ _ _ d).symm))))
    fun i => let ⟨t, h⟩ := covered (fun t => ((cfg0.win 8).blk t).view.set) _ rows8 (fun t => ((cfg0.win 8).blk t).view.emb_mem_set) i
      ⟨t, flush0_8 t, h⟩

theorem rows9 (t : Fin cfg0.N) : AtRows t (((cfg0.win 9).blk t).view.emb : S512x512.Idx → S16896x512.Idx) := by
  obtain ⟨e0, e1⟩ := (by decide +kernel : ∀ t : Fin grid0.N, win0_9.index t (0 : Fin 2) = t.val ∧ win0_9.index t (1 : Fin 2) = 0) t
  intro j; funext a; apply Fin.ext
  match a with
  | ⟨0, _⟩ => show win0_9.index t (0 : Fin 2) * 512 + 1 * (j 0).val = t.val * 512 + (j 0).val; omega
  | ⟨1, _⟩ => show win0_9.index t (1 : Fin 2) * 512 + 1 * (j 1).val = (j 1).val; omega

theorem final9 : (dats m 0 c).arrAt 9 cfg0.N = Cert.ProjectRefIdeal.Read.val_main_v50 (F := Ideal) (a0 m c) (a1 m c) (a2 m c) (a3 m c) (a4 m c) :=
  (dats m 0 c).arrAt_eq_of_cover 9 _
    (fun t _ => (flushed9_A m c t).trans (funext (tile_eq t _ (rows9 t) _ _ fun r d => (ProjectBlock.out9 ..).trans
      ((congrArg (· * qScale) (at_point m c t r _ _ (fun k => packed3 (a4 m c) k d))).trans (ProjectRef.v50_apply _ _ _ _ _ _ d).symm))))
    fun i => let ⟨t, h⟩ := covered (fun t => ((cfg0.win 9).blk t).view.set) _ rows9 (fun t => ((cfg0.win 9).blk t).view.emb_mem_set) i
      ⟨t, flush0_9 t, h⟩

theorem rows10 (t : Fin cfg0.N) : AtRows t (((cfg0.win 10).blk t).view.emb : S512x512.Idx → S16896x512.Idx) := by
  obtain ⟨e0, e1⟩ := (by decide +kernel : ∀ t : Fin grid0.N, win0_10.index t (0 : Fin 2) = t.val ∧ win0_10.index t (1 : Fin 2) = 0) t
  intro j; funext a; apply Fin.ext
  match a with
  | ⟨0, _⟩ => show win0_10.index t (0 : Fin 2) * 512 + 1 * (j 0).val = t.val * 512 + (j 0).val; omega
  | ⟨1, _⟩ => show win0_10.index t (1 : Fin 2) * 512 + 1 * (j 1).val = (j 1).val; omega

theorem final10 : (dats m 0 c).arrAt 10 cfg0.N = Cert.ProjectRefIdeal.Read.val_main_v51 (F := Ideal) (a0 m c) (a1 m c) (a2 m c) (a3 m c) (a4 m c) :=
  (dats m 0 c).arrAt_eq_of_cover 10 _
    (fun t _ => (flushed10_A m c t).trans (funext (tile_eq t _ (rows10 t) _ _ fun r d => (ProjectBlock.out10 ..).trans
      ((at_point m c t r _ _ (fun k => packed4 (a4 m c) k d)).trans (ProjectRef.v29_apply _ _ _ _ _ _ d).symm))))
    fun i => let ⟨t, h⟩ := covered (fun t => ((cfg0.win 10).blk t).view.set) _ rows10 (fun t => ((cfg0.win 10).blk t).view.emb_mem_set) i
      ⟨t, flush0_10 t, h⟩

theorem rows11 (t : Fin cfg0.N) : AtRows t (((cfg0.win 11).blk t).view.emb : S512x512.Idx → S16896x512.Idx) := by
  obtain ⟨e0, e1⟩ := (by decide +kernel : ∀ t : Fin grid0.N, win0_11.index t (0 : Fin 2) = t.val ∧ win0_11.index t (1 : Fin 2) = 0) t
  intro j; funext a; apply Fin.ext
  match a with
  | ⟨0, _⟩ => show win0_11.index t (0 : Fin 2) * 512 + 1 * (j 0).val = t.val * 512 + (j 0).val; omega
  | ⟨1, _⟩ => show win0_11.index t (1 : Fin 2) * 512 + 1 * (j 1).val = (j 1).val; omega

theorem final11 : (dats m 0 c).arrAt 11 cfg0.N = Cert.ProjectRefIdeal.Read.val_main_v52 (F := Ideal) (a0 m c) (a1 m c) (a2 m c) (a3 m c) (a4 m c) :=
  (dats m 0 c).arrAt_eq_of_cover 11 _
    (fun t _ => (flushed11_A m c t).trans (funext (tile_eq t _ (rows11 t) _ _ fun r d => (ProjectBlock.out11 ..).trans
      ((at_point m c t r _ _ (fun k => packed5 (a4 m c) k d)).trans (ProjectRef.v30_apply _ _ _ _ _ _ d).symm))))
    fun i => let ⟨t, h⟩ := covered (fun t => ((cfg0.win 11).blk t).view.set) _ rows11 (fun t => ((cfg0.win 11).blk t).view.emb_mem_set) i
      ⟨t, flush0_11 t, h⟩

theorem rows12 (t : Fin cfg0.N) : AtRows t (((cfg0.win 12).blk t).view.emb : S512x512.Idx → S16896x512.Idx) := by
  obtain ⟨e0, e1⟩ := (by decide +kernel : ∀ t : Fin grid0.N, win0_12.index t (0 : Fin 2) = t.val ∧ win0_12.index t (1 : Fin 2) = 0) t
  intro j; funext a; apply Fin.ext
  match a with
  | ⟨0, _⟩ => show win0_12.index t (0 : Fin 2) * 512 + 1 * (j 0).val = t.val * 512 + (j 0).val; omega
  | ⟨1, _⟩ => show win0_12.index t (1 : Fin 2) * 512 + 1 * (j 1).val = (j 1).val; omega

theorem final12 : (dats m 0 c).arrAt 12 cfg0.N = Cert.ProjectRefIdeal.Read.val_main_v25 (F := Ideal) (a0 m c) (a1 m c) (a2 m c) (a3 m c) (a4 m c) :=
  (dats m 0 c).arrAt_eq_of_cover 12 _
    (fun t _ => (flushed12_A m c t).trans (funext (tile_eq t _ (rows12 t) _ _ fun r d => (ProjectBlock.out12 ..).trans
      ((at_point m c t r _ _ (fun k => packed1 (a4 m c) k d)).trans (ProjectRef.v25_apply _ _ _ _ _ _ d).symm))))
    fun i => let ⟨t, h⟩ := covered (fun t => ((cfg0.win 12).blk t).view.set) _ rows12 (fun t => ((cfg0.win 12).blk t).view.emb_mem_set) i
      ⟨t, flush0_12 t, h⟩

theorem rows13 (t : Fin cfg0.N) : AtRows t (((cfg0.win 13).blk t).view.emb : S512x512.Idx → S16896x512.Idx) := by
  obtain ⟨e0, e1⟩ := (by decide +kernel : ∀ t : Fin grid0.N, win0_13.index t (0 : Fin 2) = t.val ∧ win0_13.index t (1 : Fin 2) = 0) t
  intro j; funext a; apply Fin.ext
  match a with
  | ⟨0, _⟩ => show win0_13.index t (0 : Fin 2) * 512 + 1 * (j 0).val = t.val * 512 + (j 0).val; omega
  | ⟨1, _⟩ => show win0_13.index t (1 : Fin 2) * 512 + 1 * (j 1).val = (j 1).val; omega

theorem final13 : (dats m 0 c).arrAt 13 cfg0.N = Cert.ProjectRefIdeal.Read.val_main_v26 (F := Ideal) (a0 m c) (a1 m c) (a2 m c) (a3 m c) (a4 m c) :=
  (dats m 0 c).arrAt_eq_of_cover 13 _
    (fun t _ => (flushed13_A m c t).trans (funext (tile_eq t _ (rows13 t) _ _ fun r d => (ProjectBlock.out13 ..).trans
      ((at_point m c t r _ _ (fun k => packed2 (a4 m c) k d)).trans (ProjectRef.v26_apply _ _ _ _ _ _ d).symm))))
    fun i => let ⟨t, h⟩ := covered (fun t => ((cfg0.win 13).blk t).view.set) _ rows13 (fun t => ((cfg0.win 13).blk t).view.emb_mem_set) i
      ⟨t, flush0_13 t, h⟩

theorem rows14 (t : Fin cfg0.N) : AtRows t (((cfg0.win 14).blk t).view.emb : S512x512.Idx → S16896x512.Idx) := by
  obtain ⟨e0, e1⟩ := (by decide +kernel : ∀ t : Fin grid0.N, win0_14.index t (0 : Fin 2) = t.val ∧ win0_14.index t (1 : Fin 2) = 0) t
  intro j; funext a; apply Fin.ext
  match a with
  | ⟨0, _⟩ => show win0_14.index t (0 : Fin 2) * 512 + 1 * (j 0).val = t.val * 512 + (j 0).val; omega
  | ⟨1, _⟩ => show win0_14.index t (1 : Fin 2) * 512 + 1 * (j 1).val = (j 1).val; omega

theorem final14 : (dats m 0 c).arrAt 14 cfg0.N = Cert.ProjectRefIdeal.Read.val_main_v29 (F := Ideal) (a0 m c) (a1 m c) (a2 m c) (a3 m c) (a4 m c) :=
  (dats m 0 c).arrAt_eq_of_cover 14 _
    (fun t _ => (flushed14_A m c t).trans (funext (tile_eq t _ (rows14 t) _ _ fun r d => (ProjectBlock.out14 ..).trans
      ((at_point m c t r _ _ (fun k => packed4 (a4 m c) k d)).trans (ProjectRef.v29_apply _ _ _ _ _ _ d).symm))))
    fun i => let ⟨t, h⟩ := covered (fun t => ((cfg0.win 14).blk t).view.set) _ rows14 (fun t => ((cfg0.win 14).blk t).view.emb_mem_set) i
      ⟨t, flush0_14 t, h⟩

theorem rows15 (t : Fin cfg0.N) : AtRows t (((cfg0.win 15).blk t).view.emb : S512x512.Idx → S16896x512.Idx) := by
  obtain ⟨e0, e1⟩ := (by decide +kernel : ∀ t : Fin grid0.N, win0_15.index t (0 : Fin 2) = t.val ∧ win0_15.index t (1 : Fin 2) = 0) t
  intro j; funext a; apply Fin.ext
  match a with
  | ⟨0, _⟩ => show win0_15.index t (0 : Fin 2) * 512 + 1 * (j 0).val = t.val * 512 + (j 0).val; omega
  | ⟨1, _⟩ => show win0_15.index t (1 : Fin 2) * 512 + 1 * (j 1).val = (j 1).val; omega

theorem final15 : (dats m 0 c).arrAt 15 cfg0.N = Cert.ProjectRefIdeal.Read.val_main_v30 (F := Ideal) (a0 m c) (a1 m c) (a2 m c) (a3 m c) (a4 m c) :=
  (dats m 0 c).arrAt_eq_of_cover 15 _
    (fun t _ => (flushed15_A m c t).trans (funext (tile_eq t _ (rows15 t) _ _ fun r d => (ProjectBlock.out15 ..).trans
      ((at_point m c t r _ _ (fun k => packed5 (a4 m c) k d)).trans (ProjectRef.v30_apply _ _ _ _ _ _ d).symm))))
    fun i => let ⟨t, h⟩ := covered (fun t => ((cfg0.win 15).blk t).view.set) _ rows15 (fun t => ((cfg0.win 15).blk t).view.emb_mem_set) i
      ⟨t, flush0_15 t, h⟩

theorem rows16 (t : Fin cfg0.N) : AtRows t (((cfg0.win 16).blk t).view.emb : S512x128.Idx → S16896x128.Idx) := by
  obtain ⟨e0, e1⟩ := (by decide +kernel : ∀ t : Fin grid0.N, win0_16.index t (0 : Fin 2) = t.val ∧ win0_16.index t (1 : Fin 2) = 0) t
  intro j; funext a; apply Fin.ext
  match a with
  | ⟨0, _⟩ => show win0_16.index t (0 : Fin 2) * 512 + 1 * (j 0).val = t.val * 512 + (j 0).val; omega
  | ⟨1, _⟩ => show win0_16.index t (1 : Fin 2) * 128 + 1 * (j 1).val = (j 1).val; omega

theorem final16 : (dats m 0 c).arrAt 16 cfg0.N = Cert.ProjectRefIdeal.Read.val_main_v53 (F := Ideal) (a0 m c) (a1 m c) (a2 m c) (a3 m c) (a4 m c) (a5 m c) :=
  (dats m 0 c).arrAt_eq_of_cover 16 _
    (fun t _ => (flushed16_A m c t).trans (funext (tile_eq t _ (rows16 t) _ _ fun r d => (ProjectBlock.out16 ..).trans
      (gates m c t r d))))
    fun i => let ⟨t, h⟩ := covered (fun t => ((cfg0.win 16).blk t).view.set) _ rows16 (fun t => ((cfg0.win 16).blk t).view.emb_mem_set) i
      ⟨t, flush0_16 t, h⟩

end Cert.Proof.ProjectEquation

end
-- ==== Proof.ProjectAlgebraic.lean ====
/- The two runs of the projection brought together: the idealized kernel and the idealized reference end with the same eleven results. -/
module

public import proofs.«01_k».proof.Defs
public import proofs.«01_k».proof.Proof.ProjectEquation
public import proofs.«01_k».proof.Proof.Gen.ProjectRefIdeal.Run

@[expose] public section

set_option maxRecDepth 16384

noncomputable section

namespace Cert.Proof.ProjectAlgebraic

open Cert.ProjectIdeal Cert.ProjectIdeal.Gen Cert.ProjectIdeal.Value Idealize.ShloMosaic Idealize.ShloMosaic.TcCoe Idealize.SL.Sem
open Cert.Proof.ProjectEquation

/-- The reference's frame: its run with the results forgotten; it declares no semaphore. -/
theorem reference_frame : Cert.quiescent_ProjectRefIdeal := fun m ρ _ =>
  (θ_run (Cert.ProjectRefIdeal.defs (F := Ideal)) _ _).mono
    (fun r h => ⟨fun c => (h c).2.2.2.2.2.2.2.2.2.2.2, sem_eq_zero_of_no_sems (by decide) r.2⟩) (Cert.ProjectRefIdeal.Value.run (F := Ideal) m ρ)

/-- The kernel's results and the reference's are equal, entry by entry. -/
theorem equal : Cert.algebraic_ProjectIdeal_ProjectRefIdeal := by
  intro m g m' g' hpre hagree
  refine ⟨fun c => Cert.ProjectRefIdeal.Read.val_main_v42 (F := Ideal) (a0 m c) (a1 m c) (a2 m c) (a3 m c) (a4 m c),
    fun c => Cert.ProjectRefIdeal.Read.val_main_v43 (F := Ideal) (a0 m c) (a1 m c) (a2 m c) (a3 m c) (a4 m c),
    fun c => Cert.ProjectRefIdeal.Read.val_main_v44 (F := Ideal) (a0 m c) (a1 m c) (a2 m c) (a3 m c) (a4 m c),
    fun c => Cert.ProjectRefIdeal.Read.val_main_v50 (F := Ideal) (a0 m c) (a1 m c) (a2 m c) (a3 m c) (a4 m c),
    fun c => Cert.ProjectRefIdeal.Read.val_main_v51 (F := Ideal) (a0 m c) (a1 m c) (a2 m c) (a3 m c) (a4 m c),
    fun c => Cert.ProjectRefIdeal.Read.val_main_v52 (F := Ideal) (a0 m c) (a1 m c) (a2 m c) (a3 m c) (a4 m c),
    fun c => Cert.ProjectRefIdeal.Read.val_main_v25 (F := Ideal) (a0 m c) (a1 m c) (a2 m c) (a3 m c) (a4 m c),
    fun c => Cert.ProjectRefIdeal.Read.val_main_v26 (F := Ideal) (a0 m c) (a1 m c) (a2 m c) (a3 m c) (a4 m c),
    fun c => Cert.ProjectRefIdeal.Read.val_main_v29 (F := Ideal) (a0 m c) (a1 m c) (a2 m c) (a3 m c) (a4 m c),
    fun c => Cert.ProjectRefIdeal.Read.val_main_v30 (F := Ideal) (a0 m c) (a1 m c) (a2 m c) (a3 m c) (a4 m c),
    fun c => Cert.ProjectRefIdeal.Read.val_main_v53 (F := Ideal) (a0 m c) (a1 m c) (a2 m c) (a3 m c) (a4 m c) (a5 m c), ?_, ?_⟩
  · refine (θ_run defs _ _).mono (fun r h c => ?_) (run_blocks m g)
    obtain ⟨h0, h1, h2, h3, h4, h5, h6, h7, h8, h9, h10, k⟩ := h c
    exact ⟨h0.trans (final6 m c), h1.trans (final7 m c), h2.trans (final8 m c), h3.trans (final9 m c), h4.trans (final10 m c), h5.trans (final11 m c), h6.trans (final12 m c), h7.trans (final13 m c), h8.trans (final14 m c), h9.trans (final15 m c), h10.trans (final16 m c), k⟩
  · refine (θ_run (Cert.ProjectRefIdeal.defs (F := Ideal)) _ _).mono (fun r h c => ?_)
      (Cert.ProjectRefIdeal.Value.run (F := Ideal) m' g')
    obtain ⟨h0, h1, h2, h3, h4, h5, h6, h7, h8, h9, h10, k⟩ := h c
    obtain ⟨e0, e1, e2, e3, e4, e5⟩ := hagree c
    refine ⟨h0.trans ?_, h1.trans ?_, h2.trans ?_, h3.trans ?_, h4.trans ?_, h5.trans ?_, h6.trans ?_, h7.trans ?_, h8.trans ?_, h9.trans ?_, h10.trans ?_, k⟩
    · refine (Cert.ProjectRefIdeal.Read.val_main_v42_eq (F := Ideal) _ _ _ _ _).trans ?_
      rw [e0, e1, e2, e3, e4]
    · refine (Cert.ProjectRefIdeal.Read.val_main_v43_eq (F := Ideal) _ _ _ _ _).trans ?_
      rw [e0, e1, e2, e3, e4]
    · refine (Cert.ProjectRefIdeal.Read.val_main_v44_eq (F := Ideal) _ _ _ _ _).trans ?_
      rw [e0, e1, e2, e3, e4]
    · refine (Cert.ProjectRefIdeal.Read.val_main_v50_eq (F := Ideal) _ _ _ _ _).trans ?_
      rw [e0, e1, e2, e3, e4]
    · refine (Cert.ProjectRefIdeal.Read.val_main_v51_eq (F := Ideal) _ _ _ _ _).trans ?_
      rw [e0, e1, e2, e3, e4]
    · refine (Cert.ProjectRefIdeal.Read.val_main_v52_eq (F := Ideal) _ _ _ _ _).trans ?_
      rw [e0, e1, e2, e3, e4]
    · refine (Cert.ProjectRefIdeal.Read.val_main_v25_eq (F := Ideal) _ _ _ _ _).trans ?_
      rw [e0, e1, e2, e3, e4]
    · refine (Cert.ProjectRefIdeal.Read.val_main_v26_eq (F := Ideal) _ _ _ _ _).trans ?_
      rw [e0, e1, e2, e3, e4]
    · refine (Cert.ProjectRefIdeal.Read.val_main_v29_eq (F := Ideal) _ _ _ _ _).trans ?_
      rw [e0, e1, e2, e3, e4]
    · refine (Cert.ProjectRefIdeal.Read.val_main_v30_eq (F := Ideal) _ _ _ _ _).trans ?_
      rw [e0, e1, e2, e3, e4]
    · refine (Cert.ProjectRefIdeal.Read.val_main_v53_eq m' c).trans ?_
      rw [e0, e1, e2, e3, e4, e5]

end Cert.Proof.ProjectAlgebraic

end
-- ==== Proof.ExpertsStep.lean ====
/- One step of the experts' kernel at an entry: the accumulator plus the expert's gated, activated and weighted hidden row times its down
   projection. The expert's weight of a row is the one lane of the row's router weights that the expert selects. -/
module

public import proofs.«01_k».proof.Proof.Gen.ExpertsIdeal.Skeleton
public import Idealize.ShloMosaic.Lib.Pointwise
public import Idealize.ShloMosaic.Lib.WritesUnit

@[expose] public section

set_option maxRecDepth 16384

noncomputable section

namespace Cert.Proof.ExpertsStep

open Cert.ExpertsIdeal Cert.ExpertsIdeal.Gen Idealize.ShloMosaic

/-- The gate's activation. -/
def silu (x : EReal) : EReal := x * Ideal.logistic x

/-- Of a row's lanes, one is selected: the sum over the lanes is that lane's weight. -/
theorem lane_sum (n : ℕ) (hn : n < 128) (w : Fin 128 → EReal) :
    ∑ l : Fin 128, Scalar.select (IntOp.cmpi CmpIPredicate.eq (BitVec.ofNat 32 l.val) (BitVec.ofNat 32 n)) (w l) 0 = w ⟨n, hn⟩ := by
  have h (l : Fin 128) : Scalar.select (IntOp.cmpi CmpIPredicate.eq (BitVec.ofNat 32 l.val) (BitVec.ofNat 32 n)) (w l) 0
      = if l = ⟨n, hn⟩ then w l else 0 := by
    by_cases e : l = ⟨n, hn⟩
    · subst e
      simp [Scalar.select, IntOp.cmpi]
    · have : (BitVec.ofNat 32 l.val == BitVec.ofNat 32 n) = false := beq_eq_false_iff_ne.mpr fun q => e (Fin.ext (by
        have := congrArg BitVec.toNat q
        simp only [BitVec.toNat_ofNat] at this
        show l.val = n
        omega))
      simp [Scalar.select, IntOp.cmpi, e, this]
  simp only [h, Finset.sum_ite_eq', Finset.mem_univ, if_true]

/-- The hidden entry `f` of a row: the activated gate times the up projection times the row's weight of the expert. -/
def hidden (h : Fin 1024 → EReal) (wg wu : Fin 1024 → Fin 256 → EReal) (w : EReal) (f : Fin 256) : EReal :=
  silu (∑ k, h k * wg k f) * (∑ k, h k * wu k f) * w

/-- What one expert adds to a row, at a column of its down projection. -/
def expert (h : Fin 1024 → EReal) (wg wu : Fin 1024 → Fin 256 → EReal) (w : EReal) (wd : Fin 256 → EReal) : EReal :=
  ∑ f, hidden h wg wu w f * wd f

theorem pay10_apply (i : grid0.Coords) (hi : (i 1).val < 128) (h : Vec Ideal S512x1024 .bf16) (cmb : Vec Ideal S512x128 .f32)
    (wg wu : Vec Ideal S1x1024x256 .bf16) (acc : Vec Ideal S512x1024 .f32) (wd : Vec Ideal S1x256x1024 .bf16) (r : Fin 512) (d : Fin 1024) :
    k0_pay10 (F := Ideal) i h cmb wg wu acc wd (ix2 r d)
      = acc (ix2 r d) + expert (fun k => h (ix2 r k)) (fun k f => wg (ix3 0 k f)) (fun k f => wu (ix3 0 k f)) (cmb (ix2 r ⟨(i 1).val, hi⟩))
          (fun f => wd (ix3 0 f d)) := by
  pointwise [k0_pay10]
  refine congrArg (acc (ix2 r d) + ·) (Finset.sum_congr rfl fun f _ => ?_)
  exact congrArg (fun w => _ * w * wd (ix3 0 f d)) (lane_sum (i 1).val hi fun l => cmb (ix2 r l))

/-- The accumulator's first contents are zero. -/
theorem pay9_apply (y : S512x1024.Idx) : k0_pay9 (F := Ideal) y = 0 := by
  pointwise [k0_pay9]

/-- The gated residual of one chunk of rows. -/
theorem pay2_apply (x : Vec Ideal S64x1024 .f32) (g : Vec Ideal S1x1024 .f32) (a : Vec Ideal S64x1024 .f32) (r : Fin 64) (d : Fin 1024) :
    k0_pay2 (F := Ideal) x g a (ix2 r d) = x (ix2 r d) + g (ix2 0 d) * a (ix2 r d) := by
  pointwise [k0_pay2]

end Cert.Proof.ExpertsStep

end
-- ==== Proof.ExpertsBlock.lean ====
/- What one point of the experts' kernel leaves: the accumulator after the first expert of a tile, after a later one, and the tile of rows the
   last expert's point stores, eight chunks of 64 rows. -/
module

public import proofs.«01_k».proof.Proof.ExpertsStep
public import proofs.«01_k».proof.Proof.Gen.ExpertsIdeal.Frame
public import Idealize.ShloMosaic.Lib.Pipeline.Value
public import Idealize.ShloMosaic.Lib.Tactic

@[expose] public section

set_option maxRecDepth 16384

noncomputable section

namespace Cert.Proof.ExpertsBlock

open Cert.ExpertsIdeal Cert.ExpertsIdeal.Gen Idealize.ShloMosaic Cert.Proof.ExpertsStep

theorem origin2 : (![0, 0] : Fin 2 → ℕ) = fun _ => 0 := funext fun a => by fin_cases a <;> rfl
theorem origin3 : (![0, 0, 0] : Fin 3 → ℕ) = fun _ => 0 := funext fun a => by fin_cases a <;> rfl

section
variable (c : Dev nD) (i : grid0.Coords) (arg2 : Memref sig .tc .vmem S512x1024 .bf16) (harg2 : arg2.IsWhole)
  (arg3 : Memref sig .tc .vmem S1x1024x256 .bf16) (harg3 : arg3.IsWhole) (arg4 : Memref sig .tc .vmem S1x1024x256 .bf16) (harg4 : arg4.IsWhole)
  (arg5 : Memref sig .tc .vmem S1x256x1024 .bf16) (harg5 : arg5.IsWhole) (arg6 : Memref sig .tc .vmem S512x128 .f32) (harg6 : arg6.IsWhole)
  (arg7 : Memref sig .tc .vmem S512x1024 .f32) (harg7 : arg7.IsWhole) (arg8 : Memref sig .tc .vmem S8x1024 .f32) (harg8 : arg8.IsWhole)
  (arg9 : Memref sig .tc .vmem S512x1024 .f32) (harg9 : arg9.IsWhole) (arg10 : Memref sig .tc .vmem S512x1024 .f32) (harg10 : arg10.IsWhole)
  (x0 : Vec Ideal S512x1024 .bf16) (x1 x2 : Vec Ideal S1x1024x256 .bf16) (x3 : Vec Ideal S1x256x1024 .bf16) (x4 : Vec Ideal S512x128 .f32)
  (x5 : Vec Ideal S512x1024 .f32) (x6 : Vec Ideal S8x1024 .f32) (acc : Vec Ideal S512x1024 .f32)

/-- A tile's first expert adds to zero. -/
theorem first (hc0 : cond0_0 i) (hc1 : ¬cond0_1 i) :
    sout0_A_0 (F := Ideal) c i arg2 harg2 arg3 harg3 arg4 harg4 arg5 harg5 arg6 harg6 arg7 harg7 arg8 harg8 arg9 harg9 arg10 harg10 hc0 hc1 x0 x1 x2 x3 x4 x5 x6 = k0_pay10 i x0 x4 x1 x2 (k0_pay9 (F := Ideal)) x3 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S512x1024) origin2, View.readCov_unit_zero (S := S512x1024) _ origin2]
  simp only [View.readAt_eq_ld, harg2.read_unread, harg3.read_unread, harg4.read_unread, harg5.read_unread, harg6.read_unread,
    View.ld_unit_zero (S := S512x1024) origin2, View.ld_unit_zero (S := S512x128) origin2, View.ld_unit_zero (S := S1x1024x256) origin3,
    View.ld_unit_zero (S := S1x256x1024) origin3]

/-- A later expert adds to what the point before left. -/
theorem later (hc0 : ¬cond0_0 i) (hc1 : ¬cond0_1 i) :
    sout0_B_0 (F := Ideal) c i arg2 harg2 arg3 harg3 arg4 harg4 arg5 harg5 arg6 harg6 arg7 harg7 arg8 harg8 arg9 harg9 arg10 harg10 hc0 hc1 x0 x1 x2 x3 x4 x5 x6 acc = k0_pay10 i x0 x4 x1 x2 acc x3 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 x6 acc)]
  unfold kernelRun0_B
  dsimp only
  rw [View.canon_unit_zero origin2]
  simp only [View.readAt_eq_ld, harg2.read_unread, harg3.read_unread, harg4.read_unread, harg5.read_unread, harg6.read_unread, harg10.read_unread,
    View.ld_unit_zero (S := S512x1024) origin2, View.ld_unit_zero (S := S512x128) origin2, View.ld_unit_zero (S := S1x1024x256) origin3,
    View.ld_unit_zero (S := S1x256x1024) origin3]

/-! ## The last expert's point -/

theorem inb_rows (r : Fin 8) (a : Fin 2) : (![64 * r.val, 0] : Fin 2 → ℕ) a + S64x1024.size a ≤ S512x1024.size a := by
  fin_cases r <;> fin_cases a <;> decide
theorem inb_row (r : Fin 8) (a : Fin 2) : (![r.val, 0] : Fin 2 → ℕ) a + S1x1024.size a ≤ S8x1024.size a := by
  fin_cases r <;> fin_cases a <;> decide

/-- The chunk of a row, and its place in it. -/
def chunkOf (r : Fin 512) : Fin 8 := ⟨r.val / 64, by omega⟩
def placeOf (r : Fin 512) : Fin 64 := ⟨r.val % 64, by omega⟩

/-- The accumulator's store at the last point, the loads as the body makes them. -/
def total : Vec Ideal S512x1024 .f32 :=
  k0_pay10 i (arg2.view.readAt (Elt Ideal) (Rect.unit (s := S512x1024) ![0, 0] S512x1024.size inb_S512x1024_S512x1024_0_0).toLoadRect (harg2.unread x0))
    (arg6.view.readAt (Elt Ideal) (Rect.unit (s := S512x128) ![0, 0] S512x128.size inb_S512x128_S512x128_0_0).toLoadRect (harg6.unread x4))
    (arg3.view.readAt (Elt Ideal) (Rect.unit (s := S1x1024x256) ![0, 0, 0] S1x1024x256.size inb_S1x1024x256_S1x1024x256_0_0_0).toLoadRect (harg3.unread x1))
    (arg4.view.readAt (Elt Ideal) (Rect.unit (s := S1x1024x256) ![0, 0, 0] S1x1024x256.size inb_S1x1024x256_S1x1024x256_0_0_0).toLoadRect (harg4.unread x2))
    (arg10.view.readAt (Elt Ideal) (Rect.unit (s := S512x1024) ![0, 0] S512x1024.size inb_S512x1024_S512x1024_0_0).toLoadRect (harg10.unread acc))
    (arg5.view.readAt (Elt Ideal) (Rect.unit (s := S1x256x1024) ![0, 0, 0] S1x256x1024.size inb_S1x256x1024_S1x256x1024_0_0_0).toLoadRect (harg5.unread x3))

theorem total_eq : total i arg2 harg2 arg3 harg3 arg4 harg4 arg5 harg5 arg6 harg6 arg10 harg10 x0 x1 x2 x3 x4 acc = k0_pay10 i x0 x4 x1 x2 acc x3 := by
  unfold total
  simp only [View.readAt_eq_ld, harg2.read_unread, harg3.read_unread, harg4.read_unread, harg5.read_unread, harg6.read_unread, harg10.read_unread,
    View.ld_unit_zero (S := S512x1024) origin2, View.ld_unit_zero (S := S512x128) origin2, View.ld_unit_zero (S := S1x1024x256) origin3,
    View.ld_unit_zero (S := S1x256x1024) origin3]

/-- What chunk `r` of the tile stores, the accumulator `A` stored before. -/
def chunk (A : Vec Ideal S512x1024 .f32) (r : Fin 8) : FVec Ideal S64x1024 .f32 :=
  k0_pay2 (arg7.view.readAt (Elt Ideal) (Rect.unit (s := S512x1024) ![64 * r.val, 0] S64x1024.size (inb_rows r)).toLoadRect (harg7.unread x5))
    (arg8.view.readAt (Elt Ideal) (Rect.unit (s := S8x1024) ![r.val, 0] S1x1024.size (inb_row r)).toLoadRect (harg8.unread x6))
    (arg10.view.readCov (Val := Elt Ideal) [⟨Rect.unit (s := S512x1024) ![0, 0] S512x1024.size inb_S512x1024_S512x1024_0_0, A⟩]
      (Rect.unit (s := S512x1024) ![64 * r.val, 0] S64x1024.size (inb_rows r)).toLoadRect)

theorem load_rows (r : Fin 512) (d : Fin 1024) :
    arg7.view.readAt (Elt Ideal) (Rect.unit (s := S512x1024) ![64 * (chunkOf r).val, 0] S64x1024.size (inb_rows (chunkOf r))).toLoadRect (harg7.unread x5)
      (ix2 (placeOf r) d) = x5 (ix2 r d) := by
  refine (congrFun (harg7.read_unread (Val := Elt Ideal) x5) _).trans (congrArg x5 (funext fun a => Fin.ext ?_))
  fin_cases a
  · show 64 * (r.val / 64) + 1 * (r.val % 64) = r.val
    omega
  · show 0 + 1 * d.val = d.val
    omega

theorem load_gate (g : Fin 8) (d : Fin 1024) :
    arg8.view.readAt (Elt Ideal) (Rect.unit (s := S8x1024) ![g.val, 0] S1x1024.size (inb_row g)).toLoadRect (harg8.unread x6) (ix2 0 d)
      = x6 (ix2 g d) := by
  refine (congrFun (harg8.read_unread (Val := Elt Ideal) x6) _).trans (congrArg x6 (funext fun a => Fin.ext ?_))
  fin_cases a
  · show g.val + 1 * 0 = g.val
    omega
  · show 0 + 1 * d.val = d.val
    omega

theorem load_total (A : Vec Ideal S512x1024 .f32) (r : Fin 512) (d : Fin 1024) :
    arg10.view.readCov (Val := Elt Ideal) [⟨Rect.unit (s := S512x1024) ![0, 0] S512x1024.size inb_S512x1024_S512x1024_0_0, A⟩]
      (Rect.unit (s := S512x1024) ![64 * (chunkOf r).val, 0] S64x1024.size (inb_rows (chunkOf r))).toLoadRect (ix2 (placeOf r) d) = A (ix2 r d) := by
  have e : (Rect.unit (s := S512x1024) ![64 * (chunkOf r).val, 0] S64x1024.size (inb_rows (chunkOf r))).toLoadRect.idx (ix2 (placeOf r) d)
      = (ix2 r d : S512x1024.Idx) := by
    refine funext fun a => Fin.ext ?_
    fin_cases a
    · show 64 * (r.val / 64) + 1 * (r.val % 64) = r.val
      omega
    · show 0 + 1 * d.val = d.val
      omega
  refine (congrArg (arg10.view.read (Elt Ideal) _) e).trans ?_
  exact View.read_writes_cons_unit_of_mem arg10.view _ _ A [] (ix2 r d) (ix2 r d) rfl fun a => by fin_cases a <;> simp

/-- The eight stores, newest first. -/
abbrev stores (A : Vec Ideal S512x1024 .f32) : List (View.Piece (Elt Ideal) S512x1024 .f32) :=
  View.tilePieces (NT := 8) (s := S512x1024) (e := .f32) (Val := Elt Ideal) S64x1024.size (fun r => ![64 * r.val, 0]) inb_rows
    (chunk arg7 harg7 arg8 harg8 arg10 x5 x6 A) 8 le_rfl

theorem stores_apply (v : View sig .tc .vmem S512x1024 .f32) (A : Vec Ideal S512x1024 .f32) (r : Fin 512) (d : Fin 1024) :
    v.read (Elt Ideal) (v.writes (Elt Ideal) v.junk (stores arg7 harg7 arg8 harg8 arg10 x5 x6 A)) (ix2 r d)
      = x5 (ix2 r d) + x6 (ix2 (chunkOf r) d) * A (ix2 r d) := by
  have h := View.read_tilePieces (s := S512x1024) (Val := Elt Ideal) v v.junk S64x1024.size (fun r : Fin 8 => ![64 * r.val, 0]) inb_rows
    (chunk arg7 harg7 arg8 harg8 arg10 x5 x6 A) 8 le_rfl (ix2 r d) (chunkOf r) (chunkOf r).isLt (ix2 (placeOf r) d)
    (fun a => by
      fin_cases a
      · show r.val = 64 * (r.val / 64) + r.val % 64
        omega
      · show d.val = 0 + d.val
        omega) 0
    (fun r' hr => by
      have : r'.val ≠ r.val / 64 := fun h => hr (Fin.ext h)
      show r.val < 64 * r'.val ∨ 64 * r'.val + 64 ≤ r.val
      omega)
  refine h.trans ?_
  unfold chunk
  rw [pay2_apply, load_rows, load_gate, load_total]

/-- The tile of rows the last expert's point stores. -/
theorem last (hc0 : ¬cond0_0 i) (hc1 : cond0_1 i) (r : Fin 512) (d : Fin 1024) :
    out0_C_7 (F := Ideal) c i arg2 harg2 arg3 harg3 arg4 harg4 arg5 harg5 arg6 harg6 arg7 harg7 arg8 harg8 arg9 harg9 arg10 harg10 hc0 hc1 x0 x1 x2 x3 x4 x5 x6 acc (ix2 r d)
      = x5 (ix2 r d) + x6 (ix2 (chunkOf r) d) * k0_pay10 i x0 x4 x1 x2 acc x3 (ix2 r d) :=
  (stores_apply arg7 harg7 arg8 harg8 arg10 x5 x6 VO0_7
      (total i arg2 harg2 arg3 harg3 arg4 harg4 arg5 harg5 arg6 harg6 arg10 harg10 x0 x1 x2 x3 x4 acc) r d).trans
    (congrArg (fun A : Vec Ideal S512x1024 .f32 => x5 (ix2 r d) + x6 (ix2 (chunkOf r) d) * A (ix2 r d))
      (total_eq i arg2 harg2 arg3 harg3 arg4 harg4 arg5 harg5 arg6 harg6 arg10 harg10 x0 x1 x2 x3 x4 acc))

end

end Cert.Proof.ExpertsBlock

end
-- ==== Proof.ExpertsWindows.lean ====
/- What each block of the experts' kernel holds, as entries of the arguments. A grid point names a tile of 512 rows and an expert. -/
module

public import proofs.«01_k».proof.Proof.Gen.ExpertsIdeal.Value
public import Idealize.ShloMosaic.Lib.Pointwise

@[expose] public section

set_option maxRecDepth 16384

noncomputable section

namespace Cert.Proof.ExpertsWindows

open Cert.ExpertsIdeal Cert.ExpertsIdeal.Gen Cert.ExpertsIdeal.Value Idealize.ShloMosaic Idealize.ShloMosaic.TcCoe Idealize.SL.Sem

variable (m : (ℓ : Loc nD τ sig) → Buf (Elt Ideal) ℓ) (c : Dev nD)

theorem points (t : Fin cfg0.N) : t.val < 1056 := lt_of_lt_of_eq t.isLt (show cfg0.N = 1056 from N_0)

/-- Row `r` of the point's tile, the gate row of its `g`-th chunk, and its expert. -/
def rowAt (t : Fin cfg0.N) (r : Fin 512) : Fin 16896 := ⟨t.val / 32 * 512 + r.val, by have := points t; omega⟩
def chunkAt (t : Fin cfg0.N) (g : Fin 8) : Fin 264 := ⟨t.val / 32 * 8 + g.val, by have := points t; omega⟩
def expertAt (t : Fin cfg0.N) : Fin 32 := ⟨t.val % 32, Nat.mod_lt _ (by decide)⟩

theorem coord : ∀ t : Fin cfg0.N, (grid0.coords t 1).val = t.val % 32 := (by decide +kernel : ∀ t : Fin grid0.N, _)

theorem idx0 : ∀ t : Fin cfg0.N, win0_0.index t (0 : Fin 2) = t.val / 32 ∧ win0_0.index t (1 : Fin 2) = 0 :=
  (by decide +kernel : ∀ t : Fin grid0.N, _)
theorem idx1 : ∀ t : Fin cfg0.N, win0_1.index t (0 : Fin 3) = t.val % 32 ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val % 32 ∧ win0_2.index t (1 : Fin 3) = 0 ∧ win0_2.index t (2 : Fin 3) = 0 :=
  (by decide +kernel : ∀ t : Fin grid0.N, _)
theorem idx3 : ∀ t : Fin cfg0.N, win0_3.index t (0 : Fin 3) = t.val % 32 ∧ win0_3.index t (1 : Fin 3) = 0 ∧ win0_3.index t (2 : Fin 3) = 0 :=
  (by decide +kernel : ∀ t : Fin grid0.N, _)
theorem idx4 : ∀ t : Fin cfg0.N, win0_4.index t (0 : Fin 2) = t.val / 32 ∧ win0_4.index t (1 : Fin 2) = 0 :=
  (by decide +kernel : ∀ t : Fin grid0.N, _)
theorem idx5 : ∀ t : Fin cfg0.N, win0_5.index t (0 : Fin 2) = t.val / 32 ∧ win0_5.index t (1 : Fin 2) = 0 :=
  (by decide +kernel : ∀ t : Fin grid0.N, _)
theorem idx6 : ∀ t : Fin cfg0.N, win0_6.index t (0 : Fin 2) = t.val / 32 ∧ win0_6.index t (1 : Fin 2) = 0 :=
  (by decide +kernel : ∀ t : Fin grid0.N, _)

/-! ## The weights the host rounds before the launch -/

theorem V_gate : V m c main_v0 = truncf (F := Ideal) .bf16 (m ((c : Thread nD τ).loc main_arg1)) bitsLt_bf16_f32 := by
  unfold_abbrev_sides
  rfl

theorem V_up : V m c main_v1 = truncf (F := Ideal) .bf16 (m ((c : Thread nD τ).loc main_arg2)) bitsLt_bf16_f32 := by
  unfold_abbrev_sides
  rfl

theorem V_down : V m c main_v2 = truncf (F := Ideal) .bf16 (m ((c : Thread nD τ).loc main_arg3)) bitsLt_bf16_f32 := by
  unfold_abbrev_sides
  rfl

/-! ## The blocks -/

/-- The hidden rows. -/
theorem block0 (t : Fin cfg0.N) (r : Fin 512) (k : Fin 1024) :
    (iblk m c 0 t : Vec Ideal S512x1024 .bf16) (ix2 r k) = m ((c : Thread nD τ).loc main_arg0) (ix2 (rowAt t r) k) := by
  obtain ⟨e0, e1⟩ := idx0 t
  show V m c main_arg0 (((cfg0.win 0).blk t).view.emb (ix2 r k)) = _
  rw [V_main_arg0]
  refine congrArg (m ((c : Thread nD τ).loc main_arg0)) (funext fun a => Fin.ext ?_)
  match a with
  | ⟨0, _⟩ => show win0_0.index t (0 : Fin 2) * 512 + 1 * r.val = t.val / 32 * 512 + r.val; omega
  | ⟨1, _⟩ => show win0_0.index t (1 : Fin 2) * 1024 + 1 * k.val = k.val; omega

/-- The expert's gate projection. -/
theorem block1 (t : Fin cfg0.N) (k : Fin 1024) (f : Fin 256) :
    (iblk m c 1 t : Vec Ideal S1x1024x256 .bf16) (ix3 0 k f) = m ((c : Thread nD τ).loc main_arg1) (ix3 (expertAt t) k f) := by
  obtain ⟨e0, e1, e2⟩ := idx1 t
  show V m c main_v0 (((cfg0.win 1).blk t).view.emb (ix3 0 k f)) = _
  rw [V_gate]
  refine congrArg (m ((c : Thread nD τ).loc main_arg1)) (funext fun a => Fin.ext ?_)
  match a with
  | ⟨0, _⟩ => show win0_1.index t (0 : Fin 3) * 1 + 1 * 0 = t.val % 32; omega
  | ⟨1, _⟩ => show win0_1.index t (1 : Fin 3) * 1024 + 1 * k.val = k.val; omega
  | ⟨2, _⟩ => show win0_1.index t (2 : Fin 3) * 256 + 1 * f.val = f.val; omega

/-- The expert's up projection. -/
theorem block2 (t : Fin cfg0.N) (k : Fin 1024) (f : Fin 256) :
    (iblk m c 2 t : Vec Ideal S1x1024x256 .bf16) (ix3 0 k f) = m ((c : Thread nD τ).loc main_arg2) (ix3 (expertAt t) k f) := by
  obtain ⟨e0, e1, e2⟩ := idx2 t
  show V m c main_v1 (((cfg0.win 2).blk t).view.emb (ix3 0 k f)) = _
  rw [V_up]
  refine congrArg (m ((c : Thread nD τ).loc main_arg2)) (funext fun a => Fin.ext ?_)
  match a with
  | ⟨0, _⟩ => show win0_2.index t (0 : Fin 3) * 1 + 1 * 0 = t.val % 32; omega
  | ⟨1, _⟩ => show win0_2.index t (1 : Fin 3) * 1024 + 1 * k.val = k.val; omega
  | ⟨2, _⟩ => show win0_2.index t (2 : Fin 3) * 256 + 1 * f.val = f.val; omega

/-- The expert's down projection. -/
theorem block3 (t : Fin cfg0.N) (f : Fin 256) (d : Fin 1024) :
    (iblk m c 3 t : Vec Ideal S1x256x1024 .bf16) (ix3 0 f d) = m ((c : Thread nD τ).loc main_arg3) (ix3 (expertAt t) f d) := by
  obtain ⟨e0, e1, e2⟩ := idx3 t
  show V m c main_v2 (((cfg0.win 3).blk t).view.emb (ix3 0 f d)) = _
  rw [V_down]
  refine congrArg (m ((c : Thread nD τ).loc main_arg3)) (funext fun a => Fin.ext ?_)
  match a with
  | ⟨0, _⟩ => show win0_3.index t (0 : Fin 3) * 1 + 1 * 0 = t.val % 32; omega
  | ⟨1, _⟩ => show win0_3.index t (1 : Fin 3) * 256 + 1 * f.val = f.val; omega
  | ⟨2, _⟩ => show win0_3.index t (2 : Fin 3) * 1024 + 1 * d.val = d.val; omega

/-- The router's weights. -/
theorem block4 (t : Fin cfg0.N) (r : Fin 512) (l : Fin 128) :
    (iblk m c 4 t : Vec Ideal S512x128 .f32) (ix2 r l) = m ((c : Thread nD τ).loc main_arg4) (ix2 (rowAt t r) l) := by
  obtain ⟨e0, e1⟩ := idx4 t
  show V m c main_arg4 (((cfg0.win 4).blk t).view.emb (ix2 r l)) = _
  rw [V_main_arg4]
  refine congrArg (m ((c : Thread nD τ).loc main_arg4)) (funext fun a => Fin.ext ?_)
  match a with
  | ⟨0, _⟩ => show win0_4.index t (0 : Fin 2) * 512 + 1 * r.val = t.val / 32 * 512 + r.val; omega
  | ⟨1, _⟩ => show win0_4.index t (1 : Fin 2) * 128 + 1 * l.val = l.val; omega

/-- The residual rows. -/
theorem block5 (t : Fin cfg0.N) (r : Fin 512) (d : Fin 1024) :
    (iblk m c 5 t : Vec Ideal S512x1024 .f32) (ix2 r d) = m ((c : Thread nD τ).loc main_arg5) (ix2 (rowAt t r) d) := by
  obtain ⟨e0, e1⟩ := idx5 t
  show V m c main_arg5 (((cfg0.win 5).blk t).view.emb (ix2 r d)) = _
  rw [V_main_arg5]
  refine congrArg (m ((c : Thread nD τ).loc main_arg5)) (funext fun a => Fin.ext ?_)
  match a with
  | ⟨0, _⟩ => show win0_5.index t (0 : Fin 2) * 512 + 1 * r.val = t.val / 32 * 512 + r.val; omega
  | ⟨1, _⟩ => show win0_5.index t (1 : Fin 2) * 1024 + 1 * d.val = d.val; omega

/-- The gate rows. -/
theorem block6 (t : Fin cfg0.N) (g : Fin 8) (d : Fin 1024) :
    (iblk m c 6 t : Vec Ideal S8x1024 .f32) (ix2 g d) = m ((c : Thread nD τ).loc main_arg6) (ix2 (chunkAt t g) d) := by
  obtain ⟨e0, e1⟩ := idx6 t
  show V m c main_arg6 (((cfg0.win 6).blk t).view.emb (ix2 g d)) = _
  rw [V_main_arg6]
  refine congrArg (m ((c : Thread nD τ).loc main_arg6)) (funext fun a => Fin.ext ?_)
  match a with
  | ⟨0, _⟩ => show win0_6.index t (0 : Fin 2) * 8 + 1 * g.val = t.val / 32 * 8 + g.val; omega
  | ⟨1, _⟩ => show win0_6.index t (1 : Fin 2) * 1024 + 1 * d.val = d.val; omega

end Cert.Proof.ExpertsWindows

end
-- ==== Proof.ExpertsRef.lean ====
/- The experts' reference read at an entry: the gated residual of a row's sum over the experts. -/
module

public import proofs.«01_k».proof.Proof.Gen.ExpertsRefIdeal.Read
public import proofs.«01_k».proof.Proof.ExpertsStep

@[expose] public section

set_option maxRecDepth 16384

noncomputable section

namespace Cert.Proof.ExpertsRef

open Idealize.ShloMosaic
open Cert.ExpertsRefIdeal Cert.ExpertsRefIdeal.Read
open Cert.Proof.ExpertsStep

abbrev Hidden := (⟨S16896x1024, .bf16⟩ : BufTy).Contents (Elt Ideal)
abbrev Inward := (⟨S32x1024x256, .f32⟩ : BufTy).Contents (Elt Ideal)
abbrev Outward := (⟨S32x256x1024, .f32⟩ : BufTy).Contents (Elt Ideal)
abbrev Routing := (⟨S16896x128, .f32⟩ : BufTy).Contents (Elt Ideal)
abbrev Rows := (⟨S16896x1024, .f32⟩ : BufTy).Contents (Elt Ideal)
abbrev Gates := (⟨S264x1024, .f32⟩ : BufTy).Contents (Elt Ideal)

variable (x0 : Hidden) (x1 x2 : Inward) (x3 : Outward) (x4 : Routing) (x5 : Rows) (x6 : Gates)

/-- The chunk of 64 rows whose gate a row takes. -/
def chunk (R : Fin 16896) : Fin 264 := ⟨R.val / 64, by omega⟩

/-- An expert's lane among the 128 router weights of a row. -/
def lane (e : Fin 32) : Fin 128 := ⟨e.val, by omega⟩

/-- What expert `e` adds to row `R` at column `d`. -/
def term (R : Fin 16896) (d : Fin 1024) (e : Fin 32) : EReal :=
  expert (fun k => x0 (ix2 R k)) (fun k f => x1 (ix3 e k f)) (fun k f => x2 (ix3 e k f)) (x4 (ix2 R (lane e))) (fun f => x3 (ix3 e f d))

theorem one : Ideal.ofBits .f32 0x3F800000#32 = (1 : EReal) := by
  simp [Ideal.ofBits, Ideal.ieee]
  rw [← EReal.coe_mul]
  norm_num

/-- The gate's product. -/
theorem v2_apply (i : S32x16896x256.Idx) :
    val_main_v2 (F := Ideal) x0 x1 i = ∑ k : Fin 1024, x0 (ix2 (i 1) k) * x1 (ix3 (i 0) k (i 2)) := by
  rw [val_main_v2_apply, val_main_v1_apply]
  refine Finset.sum_congr rfl fun k _ => ?_
  rw [val_main_v0_apply, mul_comm]
  refine congrArg₂ (· * ·) (congrArg x0 (funext fun a => Fin.ext ?_)) (congrArg x1 (funext fun a => Fin.ext ?_))
  · match a with
    | ⟨0, _⟩ => rfl
    | ⟨1, _⟩ => rfl
  · match a with
    | ⟨0, _⟩ => rfl
    | ⟨1, _⟩ => rfl
    | ⟨2, _⟩ => rfl

/-- The up projection's product. -/
theorem v5_apply (i : S32x16896x256.Idx) :
    val_main_v5 (F := Ideal) x0 x2 i = ∑ k : Fin 1024, x0 (ix2 (i 1) k) * x2 (ix3 (i 0) k (i 2)) := v2_apply x0 x2 i

/-- The activated gate. -/
theorem v3_apply (i : S32x16896x256.Idx) :
    val_main_v3 (F := Ideal) x0 x1 i = silu (∑ k : Fin 1024, x0 (ix2 (i 1) k) * x1 (ix3 (i 0) k (i 2))) := by
  rw [val_main_v3_apply, val_main_call0_v5_apply, val_main_call0_v4_apply, val_main_call0_cst_0_apply, val_main_call0_v3_apply,
    val_main_call0_v2_apply, val_main_call0_cst_apply, val_main_call0_v1_apply, val_main_call0_v0_apply, v2_apply]
  show _ * Ideal.div (Ideal.ofBits .f32 0x3F800000#32) (Ideal.ofBits .f32 0x3F800000#32 + Ideal.exp (-_)) = _
  rw [one]
  rfl

/-- The router's weight of an expert for a row. -/
theorem v10_apply (i : S32x16896x256.Idx) : val_main_v10 (F := Ideal) x4 i = x4 (ix2 (i 1) (lane (i 0))) := by
  rw [val_main_v10_apply, val_main_v9_apply, val_main_v8_apply, val_main_v7_apply]
  refine congrArg x4 (funext fun a => Fin.ext ?_)
  match a with
  | ⟨0, _⟩ => first | rfl | (show 0 + (i 1).val = (i 1).val; omega)
  | ⟨1, _⟩ => first | rfl | (show 0 + (i 0).val = (i 0).val; omega)

/-- One expert's product with its down projection. -/
theorem v12_apply (i : S32x16896x1024.Idx) : val_main_v12 (F := Ideal) x0 x1 x2 x3 x4 i = term x0 x1 x2 x3 x4 (i 1) (i 2) (i 0) := by
  rw [val_main_v12_apply]
  unfold term expert
  refine Finset.sum_congr rfl fun f _ => ?_
  rw [val_main_v11_apply, val_main_v6_apply, v3_apply, v5_apply, v10_apply]
  refine congrArg (_ * ·) (congrArg x3 (funext fun a => Fin.ext ?_))
  match a with
  | ⟨0, _⟩ => rfl
  | ⟨1, _⟩ => rfl
  | ⟨2, _⟩ => rfl

/-- A row's gate. -/
theorem v16_apply (i : S16896x1024.Idx) : val_main_v16 (F := Ideal) x6 i = x6 (ix2 (chunk (i 0)) (i 1)) := by
  rw [val_main_v16_apply, val_main_v15_apply, val_main_v14_apply]
  have h0 : (i 0).val < 16896 := (i 0).isLt
  have h1 : (i 1).val < 1024 := (i 1).isLt
  refine congrArg x6 (funext fun a => Fin.ext ?_)
  match a with
  | ⟨0, _⟩ => show ((i 0).val * 1024 + (i 1).val) / 65536 = (i 0).val / 64; omega
  | ⟨1, _⟩ => show ((i 0).val * 1024 + (i 1).val) % 1024 = (i 1).val; omega

/-- The reference's result at an entry. -/
theorem v18_apply (R : Fin 16896) (d : Fin 1024) :
    val_main_v18 (F := Ideal) x0 x1 x2 x3 x4 x5 x6 (ix2 R d)
      = x5 (ix2 R d) + x6 (ix2 (chunk R) d) * ∑ e : Fin 32, term x0 x1 x2 x3 x4 R d e := by
  rw [val_main_v18_apply, val_main_v17_apply, v16_apply, val_main_v13_apply, val_main_cst_apply]
  simp only [v12_apply]
  show x5 (ix2 R d) + x6 (ix2 (chunk R) d) * (Ideal.ofBits .f32 0x00000000#32 + _) = _
  rw [Ideal.ofBits_zero_f32, zero_add]
  rfl

end Cert.Proof.ExpertsRef

end
-- ==== Proof.ExpertsSum.lean ====
/- The experts' accumulator: after the point of a tile's expert `e`, a row holds the sum of the first `e + 1` experts' terms. -/
module

public import proofs.«01_k».proof.Proof.ExpertsBlock
public import proofs.«01_k».proof.Proof.ExpertsWindows
public import proofs.«01_k».proof.Proof.ExpertsRef

@[expose] public section

set_option maxRecDepth 16384

noncomputable section

namespace Cert.Proof.ExpertsSum

open Cert.ExpertsIdeal Cert.ExpertsIdeal.Gen Cert.ExpertsIdeal.Value Idealize.ShloMosaic Idealize.ShloMosaic.TcCoe Idealize.SL.Sem
open Cert.Proof.ExpertsStep Cert.Proof.ExpertsBlock Cert.Proof.ExpertsWindows

variable (m : (ℓ : Loc nD τ sig) → Buf (Elt Ideal) ℓ) (c : Dev nD)

/-- What expert `e` adds to row `R` at column `d`, of the kernel's arguments. -/
def part (R : Fin 16896) (d : Fin 1024) (e : Fin 32) : EReal :=
  ExpertsRef.term (m ((c : Thread nD τ).loc main_arg0)) (m ((c : Thread nD τ).loc main_arg1)) (m ((c : Thread nD τ).loc main_arg2))
    (m ((c : Thread nD τ).loc main_arg3)) (m ((c : Thread nD τ).loc main_arg4)) R d e

/-- The accumulator a point stores, over the accumulator `acc` it loads. -/
def step (t : Fin cfg0.N) (acc : Vec Ideal S512x1024 .f32) : Vec Ideal S512x1024 .f32 :=
  k0_pay10 (F := Ideal) (grid0.coords t) (iblk m c 0 t) (iblk m c 4 t) (iblk m c 1 t) (iblk m c 2 t) acc (iblk m c 3 t)

/-- A point adds its expert's term. -/
theorem step_apply (t : Fin cfg0.N) (acc : Vec Ideal S512x1024 .f32) (r : Fin 512) (d : Fin 1024) :
    step m c t acc (ix2 r d) = acc (ix2 r d) + part m c (rowAt t r) d (expertAt t) := by
  have hc := coord t
  have hi : (grid0.coords t 1).val < 128 := by omega
  unfold step
  refine (pay10_apply (grid0.coords t) hi (iblk m c 0 t) (iblk m c 4 t) (iblk m c 1 t) (iblk m c 2 t) acc (iblk m c 3 t) r d).trans ?_
  have hl : (⟨(grid0.coords t 1).val, hi⟩ : Fin 128) = ExpertsRef.lane (expertAt t) := Fin.ext hc
  rw [hl, block4 m c t r]
  simp only [block0 m c t, block1 m c t, block2 m c t, block3 m c t]
  rfl

theorem at_first (t : Fin cfg0.N) (h : t.val % 32 = 0) : (outsAt0 m c t.val t.isLt).2 = step m c t (k0_pay9 (F := Ideal)) := by
  have h1 : ¬t.val % 32 = 31 := by omega
  rw [outsAt0_A m c t h h1]
  dsimp only
  rw [first]
  rfl

theorem at_later (t : Fin cfg0.N) (h0 : ¬t.val % 32 = 0) (h1 : ¬t.val % 32 = 31) :
    (outsAt0 m c t.val t.isLt).2 = step m c t (outsAt0 m c (t.val - 1) (Nat.lt_of_le_of_lt (Nat.sub_le _ _) t.isLt)).2 := by
  rw [outsAt0_B m c t h0 h1]
  dsimp only
  rw [later]
  rfl

/-- The residual rows and the gates. -/
def rows : ExpertsRef.Rows := m ((c : Thread nD τ).loc main_arg5)
def gates : ExpertsRef.Gates := m ((c : Thread nD τ).loc main_arg6)

/-- The rows a last expert's point stores. -/
theorem at_last (t : Fin cfg0.N) (h1 : t.val % 32 = 31) (r : Fin 512) (d : Fin 1024) :
    (outsAt0 m c t.val t.isLt).1 (ix2 r d) = rows m c (ix2 (rowAt t r) d) + gates m c (ix2 (chunkAt t (chunkOf r)) d)
        * step m c t (outsAt0 m c (t.val - 1) (Nat.lt_of_le_of_lt (Nat.sub_le _ _) t.isLt)).2 (ix2 r d) := by
  have h0 : ¬t.val % 32 = 0 := by omega
  rw [outsAt0_C m c t h0 h1]
  dsimp only
  rw [last, block5 m c t r d, block6 m c t (chunkOf r) d]
  rfl

/-- The accumulator after expert `e` of tile `T`, below the last. -/
theorem sum_to (T : ℕ) (r : Fin 512) (d : Fin 1024) (R : Fin 16896) (hR : R.val = T * 512 + r.val) :
    ∀ (e : ℕ) (he : e < 31) (h : 32 * T + e < cfg0.N), (outsAt0 m c (32 * T + e) h).2 (ix2 r d)
      = ∑ k ∈ Finset.range (e + 1), part m c R d ⟨k % 32, Nat.mod_lt _ (by decide)⟩
  | 0, _, h => by
    have hr : rowAt ⟨32 * T + 0, h⟩ r = R := Fin.ext (by show (32 * T + 0) / 32 * 512 + r.val = R.val; omega)
    have hx : expertAt ⟨32 * T + 0, h⟩ = ⟨0 % 32, Nat.mod_lt _ (by decide)⟩ := Fin.ext (by show (32 * T + 0) % 32 = 0 % 32; omega)
    rw [at_first m c ⟨32 * T + 0, h⟩ (by show (32 * T + 0) % 32 = 0; omega), step_apply, pay9_apply, hr, hx, Finset.sum_range_one]
    exact zero_add _
  | e + 1, he, h => by
    have hr : rowAt ⟨32 * T + (e + 1), h⟩ r = R := Fin.ext (by show (32 * T + (e + 1)) / 32 * 512 + r.val = R.val; omega)
    have hx : expertAt ⟨32 * T + (e + 1), h⟩ = ⟨(e + 1) % 32, Nat.mod_lt _ (by decide)⟩ :=
      Fin.ext (by show (32 * T + (e + 1)) % 32 = (e + 1) % 32; omega)
    rw [at_later m c ⟨32 * T + (e + 1), h⟩ (by show ¬(32 * T + (e + 1)) % 32 = 0; omega) (by show ¬(32 * T + (e + 1)) % 32 = 31; omega),
      step_apply, hr, hx, Finset.sum_range_succ]
    exact congrArg (· + _) (sum_to T r d R hR e (by omega) (by omega))

end Cert.Proof.ExpertsSum

end
-- ==== Proof.ExpertsEquation.lean ====
/- The experts' kernel and its reference compute one function of the arguments. -/
module

public import proofs.«01_k».proof.Proof.ExpertsSum

@[expose] public section

set_option maxRecDepth 16384

noncomputable section

namespace Cert.Proof.ExpertsEquation

open Cert.ExpertsIdeal Cert.ExpertsIdeal.Gen Cert.ExpertsIdeal.Value Idealize.ShloMosaic Idealize.ShloMosaic.TcCoe Idealize.SL.Sem
open Cert.Proof.ExpertsBlock Cert.Proof.ExpertsWindows Cert.Proof.ExpertsSum

variable (m : (ℓ : Loc nD τ sig) → Buf (Elt Ideal) ℓ) (c : Dev nD)

/-- The reference's result on the kernel's arguments. -/
def wanted : Buf (Elt Ideal) ((c : Thread nD τ).loc main_v3) :=
  Cert.ExpertsRefIdeal.Read.val_main_v18 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-- The sum a tile's last point stores runs over all experts. -/
theorem total_apply (t : Fin cfg0.N) (h1 : t.val % 32 = 31) (r : Fin 512) (d : Fin 1024) :
    step m c t (outsAt0 m c (t.val - 1) (Nat.lt_of_le_of_lt (Nat.sub_le _ _) t.isLt)).2 (ix2 r d)
      = ∑ e : Fin 32, part m c (rowAt t r) d e := by
  have hN := points t
  have hb : t.val - 1 = 32 * (t.val / 32) + 30 := by omega
  have before : (outsAt0 m c (t.val - 1) (Nat.lt_of_le_of_lt (Nat.sub_le _ _) t.isLt)).2 (ix2 r d)
      = ∑ k ∈ Finset.range 31, part m c (rowAt t r) d ⟨k % 32, Nat.mod_lt _ (by decide)⟩ := by
    have key : ∀ (n : ℕ) (h : n < cfg0.N), n = 32 * (t.val / 32) + 30 → (outsAt0 m c n h).2 (ix2 r d)
        = ∑ k ∈ Finset.range 31, part m c (rowAt t r) d ⟨k % 32, Nat.mod_lt _ (by decide)⟩ := by
      intro n h e
      subst e
      exact sum_to m c (t.val / 32) r d (rowAt t r) rfl 30 (by omega) h
    exact key _ _ hb
  have hx : expertAt t = ⟨31 % 32, Nat.mod_lt _ (by decide)⟩ := Fin.ext h1
  rw [step_apply, before, hx]
  refine (Finset.sum_range_succ (fun k => part m c (rowAt t r) d ⟨k % 32, Nat.mod_lt _ (by decide)⟩) 31).symm.trans ?_
  refine (Finset.sum_range (n := 32) _).trans (Finset.sum_congr rfl fun e _ => ?_)
  exact congrArg (part m c (rowAt t r) d) (Fin.ext (Nat.mod_eq_of_lt e.isLt))

/-- The tile a last point stores is the reference's. -/
theorem tile_apply (t : Fin cfg0.N) (h1 : t.val % 32 = 31) (r : Fin 512) (d : Fin 1024) :
    (outsAt0 m c t.val t.isLt).1 (ix2 r d) = wanted m c (ix2 (rowAt t r) d) := by
  have hg : chunkAt t (chunkOf r) = ExpertsRef.chunk (rowAt t r) :=
    Fin.ext (by show t.val / 32 * 8 + r.val / 64 = (t.val / 32 * 512 + r.val) / 64; omega)
  rw [at_last m c t h1, total_apply m c t h1, hg]
  exact (ExpertsRef.v18_apply ..).symm

/-- The array the kernel leaves. -/
theorem final : G7 m c = wanted m c := by
  funext i
  have h0 : (i 0).val < 16896 := (i 0).isLt
  have h1 : (i 1).val < 1024 := (i 1).isLt
  have hrun : run7Of i = (i 0).val / 512 := by
    show 1 * ((i 0).val / 512 - 0) + 1 * ((i 1).val / 1024 - 0) = (i 0).val / 512
    omega
  have hp : pt7Of i = 32 * ((i 0).val / 512) + 31 := by
    show 32 * run7Of i + 31 = _
    rw [hrun]
  have hlt : pt7Of i < cfg0.N := by
    rw [hp, show cfg0.N = 1056 from N_0]
    omega
  unfold G7
  rw [dif_pos hlt, ← outsAt0_sweep m c (pt7Of i) hlt]
  have hl : loc7Of i = ix2 (⟨(i 0).val % 512, Nat.mod_lt _ (by decide)⟩ : Fin 512) (i 1) := funext fun a => Fin.ext (by
    match a with
    | ⟨0, _⟩ => show (i 0).val % 512 = (i 0).val % 512; rfl
    | ⟨1, _⟩ => show (i 1).val % 1024 = (i 1).val; omega)
  rw [hl]
  refine (tile_apply m c ⟨pt7Of i, hlt⟩ (by show pt7Of i % 32 = 31; omega) _ _).trans ?_
  refine congrArg (wanted m c) (funext fun a => Fin.ext ?_)
  match a with
  | ⟨0, _⟩ => show pt7Of i / 32 * 512 + (i 0).val % 512 = (i 0).val; omega
  | ⟨1, _⟩ => rfl

end Cert.Proof.ExpertsEquation

end
-- ==== Proof.ExpertsAlgebraic.lean ====
/- The two runs of the experts brought together: the idealized kernel and the idealized reference end with the same rows. -/
module

public import proofs.«01_k».proof.Defs
public import proofs.«01_k».proof.Proof.ExpertsEquation
public import proofs.«01_k».proof.Proof.Gen.ExpertsRefIdeal.Run

@[expose] public section

set_option maxRecDepth 16384

noncomputable section

namespace Cert.Proof.ExpertsAlgebraic

open Cert.ExpertsIdeal Cert.ExpertsIdeal.Gen Cert.ExpertsIdeal.Value Idealize.ShloMosaic Idealize.ShloMosaic.TcCoe Idealize.SL.Sem
open Cert.Proof.ExpertsEquation

/-- The reference's frame: its run with the result forgotten; it declares no semaphore. -/
theorem reference_frame : Cert.quiescent_ExpertsRefIdeal := fun m ρ _ =>
  (θ_run (Cert.ExpertsRefIdeal.defs (F := Ideal)) _ _).mono
    (fun r h => ⟨fun c => (h c).2, sem_eq_zero_of_no_sems (by decide) r.2⟩) (Cert.ExpertsRefIdeal.Value.run (F := Ideal) m ρ)

/-- The kernel's result and the reference's are equal, entry by entry. -/
theorem equal : Cert.algebraic_ExpertsIdeal_ExpertsRefIdeal := by
  intro m g m' g' hpre hagree
  refine ⟨fun c => wanted m c, ?_, ?_⟩
  · exact (θ_run defs _ _).mono (fun r h c => ⟨(h c).1.trans (final m c), (h c).2⟩) (run m g)
  · refine (θ_run (Cert.ExpertsRefIdeal.defs (F := Ideal)) _ _).mono (fun r h c => ?_) (Cert.ExpertsRefIdeal.Value.run (F := Ideal) m' g')
    obtain ⟨h0, k⟩ := h c
    obtain ⟨e0, e1, e2, e3, e4, e5, e6⟩ := hagree c
    refine ⟨h0.trans ?_, k⟩
    refine (Cert.ExpertsRefIdeal.Read.val_main_v18_eq (F := Ideal) _ _ _ _ _ _ _).trans ?_
    rw [e0, e1, e2, e3, e4, e5, e6]
    rfl

end Cert.Proof.ExpertsAlgebraic

end
-- ==== Proof.MixedWindows.lean ====
/- What each block of the output projection's kernel holds, as entries of the arguments, and where a block of its outputs sits. A grid point
   names a tile of 512 rows. -/
module

public import proofs.«01_k».proof.Proof.Gen.MixedIdeal.Value
public import Idealize.ShloMosaic.Lib.Pointwise
public import Idealize.ShloMosaic.Lib.KernelVsHost

@[expose] public section

set_option maxRecDepth 16384

noncomputable section

namespace Cert.Proof.MixedWindows

open Cert.MixedIdeal Cert.MixedIdeal.Gen Cert.MixedIdeal.Value Idealize.ShloMosaic Idealize.ShloMosaic.TcCoe Idealize.SL.Sem

variable (m : (ℓ : Loc nD τ sig) → Buf (Elt Ideal) ℓ) (c : Dev nD)

theorem points (t : Fin cfg0.N) : t.val < 33 := t.isLt

/-- Row `r` of the point's tile, and the modulation row of its `g`-th chunk. -/
def rowAt (t : Fin cfg0.N) (r : Fin 512) : Fin 16896 := ⟨t.val * 512 + r.val, by have := points t; omega⟩
def chunkAt (t : Fin cfg0.N) (g : Fin 8) : Fin 264 := ⟨t.val * 8 + g.val, by have := points t; omega⟩

/-! ## The arrays the host prepares -/

theorem V_main_v9 : V m c main_v9 = truncf (F := Ideal) .bf16 (m ((c : Thread nD τ).loc main_arg6)) bitsLt_bf16_f32 := by
  unfold_abbrev_sides
  rfl

theorem V_main_v10 : V m c main_v10 = shapeCast S1x1024 (m ((c : Thread nD τ).loc main_arg7)) shapeCasts_S1024_S1x1024 := by
  unfold_abbrev_sides
  rfl

theorem v10_apply (k : Fin 1024) : (V m c main_v10 : Vec Ideal S1x1024 .f32) (ix2 0 k) = m ((c : Thread nD τ).loc main_arg7) (ix1 k) := by
  rw [V_main_v10]
  refine shapeCast_apply _ shapeCasts_S1024_S1x1024 _ _ ?_
  rewrite [Shape.rowMajor_val_one, Shape.rowMajor_val_two]
  show k.val = 0 * 1024 + k.val
  omega

/-! ## The blocks -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)

/-- The first mixer's rows. -/
theorem block0 (t : Fin cfg0.N) (r : Fin 512) (k : Fin 512) :
    (iblk m c 0 t : Vec Ideal S512x512 .bf16) (ix2 r k) = m ((c : Thread nD τ).loc main_arg0) (ix2 (rowAt t r) k) := by
  obtain ⟨e0, e1⟩ := idx0 t
  show V m c main_arg0 (((cfg0.win 0).blk t).view.emb (ix2 r k)) = _
  rw [V_main_arg0]
  refine congrArg (m ((c : Thread nD τ).loc main_arg0)) (funext fun a => Fin.ext ?_)
  match a with
  | ⟨0, _⟩ => show win0_0.index t (0 : Fin 2) * 512 + 1 * r.val = t.val * 512 + r.val; omega
  | ⟨1, _⟩ => show win0_0.index t (1 : Fin 2) * 512 + 1 * k.val = k.val; omega

/-- The second mixer's rows. -/
theorem block1 (t : Fin cfg0.N) (r : Fin 512) (k : Fin 512) :
    (iblk m c 1 t : Vec Ideal S512x512 .bf16) (ix2 r k) = m ((c : Thread nD τ).loc main_arg1) (ix2 (rowAt t r) k) := by
  obtain ⟨e0, e1⟩ := idx1 t
  show V m c main_arg1 (((cfg0.win 1).blk t).view.emb (ix2 r k)) = _
  rw [V_main_arg1]
  refine congrArg (m ((c : Thread nD τ).loc main_arg1)) (funext fun a => Fin.ext ?_)
  match a with
  | ⟨0, _⟩ => show win0_1.index t (0 : Fin 2) * 512 + 1 * r.val = t.val * 512 + r.val; omega
  | ⟨1, _⟩ => show win0_1.index t (1 : Fin 2) * 512 + 1 * k.val = k.val; omega

/-- The residual's rows. -/
theorem block2 (t : Fin cfg0.N) (r : Fin 512) (k : Fin 1024) :
    (iblk m c 2 t : Vec Ideal S512x1024 .f32) (ix2 r k) = m ((c : Thread nD τ).loc main_arg2) (ix2 (rowAt t r) k) := by
  obtain ⟨e0, e1⟩ := idx2 t
  show V m c main_arg2 (((cfg0.win 2).blk t).view.emb (ix2 r k)) = _
  rw [V_main_arg2]
  refine congrArg (m ((c : Thread nD τ).loc main_arg2)) (funext fun a => Fin.ext ?_)
  match a with
  | ⟨0, _⟩ => show win0_2.index t (0 : Fin 2) * 512 + 1 * r.val = t.val * 512 + r.val; omega
  | ⟨1, _⟩ => show win0_2.index t (1 : Fin 2) * 1024 + 1 * k.val = k.val; omega

/-- The gates. -/
theorem block3 (t : Fin cfg0.N) (r : Fin 8) (k : Fin 1024) :
    (iblk m c 3 t : Vec Ideal S8x1024 .f32) (ix2 r k) = m ((c : Thread nD τ).loc main_arg3) (ix2 (chunkAt t r) k) := by
  obtain ⟨e0, e1⟩ := idx3 t
  show V m c main_arg3 (((cfg0.win 3).blk t).view.emb (ix2 r k)) = _
  rw [V_main_arg3]
  refine congrArg (m ((c : Thread nD τ).loc main_arg3)) (funext fun a => Fin.ext ?_)
  match a with
  | ⟨0, _⟩ => show win0_3.index t (0 : Fin 2) * 8 + 1 * r.val = t.val * 8 + r.val; omega
  | ⟨1, _⟩ => show win0_3.index t (1 : Fin 2) * 1024 + 1 * k.val = k.val; omega

/-- The shifts. -/
theorem block4 (t : Fin cfg0.N) (r : Fin 8) (k : Fin 1024) :
    (iblk m c 4 t : Vec Ideal S8x1024 .f32) (ix2 r k) = m ((c : Thread nD τ).loc main_arg4) (ix2 (chunkAt t r) k) := by
  obtain ⟨e0, e1⟩ := idx4 t
  show V m c main_arg4 (((cfg0.win 4).blk t).view.emb (ix2 r k)) = _
  rw [V_main_arg4]
  refine congrArg (m ((c : Thread nD τ).loc main_arg4)) (funext fun a => Fin.ext ?_)
  match a with
  | ⟨0, _⟩ => show win0_4.index t (0 : Fin 2) * 8 + 1 * r.val = t.val * 8 + r.val; omega
  | ⟨1, _⟩ => show win0_4.index t (1 : Fin 2) * 1024 + 1 * k.val = k.val; omega

/-- The scales. -/
theorem block5 (t : Fin cfg0.N) (r : Fin 8) (k : Fin 1024) :
    (iblk m c 5 t : Vec Ideal S8x1024 .f32) (ix2 r k) = m ((c : Thread nD τ).loc main_arg5) (ix2 (chunkAt t r) k) := by
  obtain ⟨e0, e1⟩ := idx5 t
  show V m c main_arg5 (((cfg0.win 5).blk t).view.emb (ix2 r k)) = _
  rw [V_main_arg5]
  refine congrArg (m ((c : Thread nD τ).loc main_arg5)) (funext fun a => Fin.ext ?_)
  match a with
  | ⟨0, _⟩ => show win0_5.index t (0 : Fin 2) * 8 + 1 * r.val = t.val * 8 + r.val; omega
  | ⟨1, _⟩ => show win0_5.index t (1 : Fin 2) * 1024 + 1 * k.val = k.val; omega

/-- The weights. -/
theorem block6 (t : Fin cfg0.N) (k n : Fin 1024) :
    (iblk m c 6 t : Vec Ideal S1024x1024 .bf16) (ix2 k n) = m ((c : Thread nD τ).loc main_arg6) (ix2 k n) := by
  obtain ⟨e0, e1⟩ := idx6 t
  refine Eq.trans ?_ (congrFun (V_main_v9 m c) (ix2 k n : S1024x1024.Idx))
  show V m c main_v9 (((cfg0.win 6).blk t).view.emb (ix2 k n)) = _
  refine congrArg (V m c main_v9) (funext fun a => Fin.ext ?_)
  match a with
  | ⟨0, _⟩ => show win0_6.index t (0 : Fin 2) * 1024 + 1 * k.val = k.val; omega
  | ⟨1, _⟩ => show win0_6.index t (1 : Fin 2) * 1024 + 1 * n.val = n.val; omega

/-- The gain. -/
theorem block7 (t : Fin cfg0.N) (k : Fin 1024) :
    (iblk m c 7 t : Vec Ideal S1x1024 .f32) (ix2 0 k) = m ((c : Thread nD τ).loc main_arg7) (ix1 k) := by
  obtain ⟨e0, e1⟩ := idx7 t
  refine Eq.trans ?_ (v10_apply m c k)
  show V m c main_v10 (((cfg0.win 7).blk t).view.emb (ix2 0 k)) = _
  refine congrArg (V m c main_v10) (funext fun a => Fin.ext ?_)
  match a with
  | ⟨0, _⟩ => show win0_7.index t (0 : Fin 2) * 1 + 1 * 0 = 0; omega
  | ⟨1, _⟩ => show win0_7.index t (1 : Fin 2) * 1024 + 1 * k.val = k.val; omega

/-! ## Row tiles of an output of `w` columns -/

section
variable {w : ℕ} {α : Type}

/-- An index of a tile that lies at the point's rows. -/
def AtRows (t : Fin cfg0.N) (e : (⟨2, ![512, w]⟩ : Shape).Idx → (⟨2, ![16896, w]⟩ : Shape).Idx) : Prop :=
  ∀ j, e j = ix2 (rowAt t (j 0)) (j 1)

/-- A function that agrees with a tile entry by entry reads as that tile. -/
theorem tile_eq (t : Fin cfg0.N) (e : (⟨2, ![512, w]⟩ : Shape).Idx → (⟨2, ![16896, w]⟩ : Shape).Idx) (he : AtRows t e)
    (X : (⟨2, ![512, w]⟩ : Shape).Idx → α) (G : (⟨2, ![16896, w]⟩ : Shape).Idx → α)
    (h : ∀ (r : Fin 512) (d : Fin w), X (ix2 r d) = G (ix2 (rowAt t r) d)) (j : (⟨2, ![512, w]⟩ : Shape).Idx) : X j = G (e j) := by
  rw [he j]
  refine Eq.trans (congrArg X (funext fun a => Fin.ext ?_)) (h (j 0) (j 1))
  match a with
  | ⟨0, _⟩ => rfl
  | ⟨1, _⟩ => rfl

/-- Every index lies in the tile of some point. -/
theorem covered (S : Fin cfg0.N → Set (⟨2, ![16896, w]⟩ : Shape).Idx)
    (e : (t : Fin cfg0.N) → (⟨2, ![512, w]⟩ : Shape).Idx → (⟨2, ![16896, w]⟩ : Shape).Idx) (he : ∀ t, AtRows t (e t))
    (hS : ∀ t j, e t j ∈ S t) (i : (⟨2, ![16896, w]⟩ : Shape).Idx) : ∃ t, i ∈ S t := by
  have h0 : (i 0).val < 16896 := (i 0).isLt
  obtain ⟨T, hT⟩ : ∃ T : Fin cfg0.N, T.val = (i 0).val / 512 := ⟨⟨(i 0).val / 512, (by omega : (i 0).val / 512 < 33)⟩, rfl⟩
  have h := hS T (ix2 ⟨(i 0).val % 512, by omega⟩ (i 1))
  rw [he T] at h
  have e2 : (ix2 (rowAt T ⟨(i 0).val % 512, by omega⟩) (i 1) : (⟨2, ![16896, w]⟩ : Shape).Idx) = i := by
    funext a; apply Fin.ext
    match a with
    | ⟨0, _⟩ => show T.val * 512 + (i 0).val % 512 = (i 0).val; omega
    | ⟨1, _⟩ => rfl
  exact ⟨T, e2 ▸ h⟩
end

end Cert.Proof.MixedWindows

end
-- ==== Proof.MixedStep.lean ====
/- The output projection's kernel, one chunk of 64 rows at a time: the residual row of a position, and its normalised and modulated row. Every
   chunk is the same function of the block's product, of its own rows and of its own modulation rows. -/
module

public import proofs.«01_k».proof.Proof.Gen.MixedIdeal.Skeleton
public import Idealize.ShloMosaic.Lib.Pointwise
public import Idealize.ShloMosaic.Lib.WritesUnit

@[expose] public section

set_option maxRecDepth 16384

noncomputable section

namespace Cert.Proof.MixedStep

open Cert.MixedIdeal Cert.MixedIdeal.Gen Idealize.ShloMosaic

/-- One entry of a normalised and modulated row: the row, the place, the gain, the scale and the shift there. -/
def entry (x : Fin 1024 → EReal) (k : Fin 1024) (g sc sh : EReal) : EReal :=
  x k * Ideal.rsqrt (Ideal.div (∑ j, x j * x j) (Ideal.ofBits .f32 0x44800000#32) + Ideal.ofBits .f32 0x358637BD#32) * g
    * (1 + sc) + sh

/-- The block's product: both mixers' rows, each times its half of the weights. -/
theorem pay2_apply (a : Vec Ideal S512x512 .bf16) (u : Vec Ideal S512x1024 .bf16) (b : Vec Ideal S512x512 .bf16) (w : Vec Ideal S512x1024 .bf16)
    (r : Fin 512) (d : Fin 1024) :
    k0_pay2 (F := Ideal) a u b w (ix2 r d) = (∑ k, a (ix2 r k) * u (ix2 k d)) + ∑ k, b (ix2 r k) * w (ix2 k d) := by
  pointwise [k0_pay2]

theorem slices (r : Fin 8) : S512x1024.Slices ![64 * r.val, 0] S64x1024 := by
  fin_cases r <;> decide

/-- Chunk `r`'s residual rows: the rows plus the gate times the chunk's part of the product. -/
def residual (Y : FVec Ideal S512x1024 .f32) (r : Fin 8) (x : Vec Ideal S64x1024 .f32) (g : Vec Ideal S1x1024 .f32) : FVec Ideal S64x1024 .f32 :=
  addf x (mulf (broadcastTo S64x1024 g broadcasts_S1x1024_S64x1024) (extractStridedSlice S64x1024 ![64 * r.val, 0] Y (slices r)))

theorem residual_apply (Y : FVec Ideal S512x1024 .f32) (r : Fin 8) (x : Vec Ideal S64x1024 .f32) (g : Vec Ideal S1x1024 .f32)
    (p : Fin 64) (d : Fin 1024) (R : Fin 512) (hR : R.val = 64 * r.val + p.val) :
    residual Y r x g (ix2 p d) = x (ix2 p d) + g (ix2 0 d) * Y (ix2 R d) := by
  have e : extractStridedSlice S64x1024 ![64 * r.val, 0] Y (slices r) (ix2 p d) = Y (ix2 R d) := by
    refine congrArg Y (funext fun a => Fin.ext ?_)
    match a with
    | ⟨0, _⟩ => exact hR.symm
    | ⟨1, _⟩ => exact Nat.zero_add _
  rw [← e]
  pointwise [residual]

/-- A chunk's normalised rows at a row and a place. -/
theorem pay28_apply (g : Vec Ideal S1x1024 .f32) (x : FVec Ideal S64x1024 .f32) (sc sh : Vec Ideal S1x1024 .f32) (r : Fin 64) (k : Fin 1024) :
    k0_pay28 (F := Ideal) (k0_pay3 g) x sc sh (ix2 r k) = entry (fun j => x (ix2 r j)) k (g (ix2 0 k)) (sc (ix2 0 k)) (sh (ix2 0 k)) := by
  pointwise [k0_pay28, k0_pay26, k0_pay3]
  rfl

end Cert.Proof.MixedStep

end
-- ==== Proof.MixedBlock.lean ====
/- The two tiles of 512 rows one point of the output projection's kernel stores, at an entry: the residual rows and the normalised rows, each
   stored as eight chunks of 64. -/
module

public import proofs.«01_k».proof.Proof.MixedStep
public import proofs.«01_k».proof.Proof.Gen.MixedIdeal.Frame

@[expose] public section

set_option maxRecDepth 16384

noncomputable section

namespace Cert.Proof.MixedBlock

open Cert.MixedIdeal Cert.MixedIdeal.Gen Idealize.ShloMosaic Cert.Proof.MixedStep

theorem inb_rows (r : Fin 8) (a : Fin 2) : (![64 * r.val, 0] : Fin 2 → ℕ) a + S64x1024.size a ≤ S512x1024.size a := by
  fin_cases r <;> fin_cases a <;> decide
theorem inb_row (r : Fin 8) (a : Fin 2) : (![r.val, 0] : Fin 2 → ℕ) a + S1x1024.size a ≤ S8x1024.size a := by
  fin_cases r <;> fin_cases a <;> decide

/-- The chunk of a row, and its place in it. -/
def chunkOf (r : Fin 512) : Fin 8 := ⟨r.val / 64, by omega⟩
def placeOf (r : Fin 512) : Fin 64 := ⟨r.val % 64, by omega⟩

/-! ## The loads -/

theorem load_row (m : Memref sig .tc .vmem S8x1024 .f32) (hm : m.IsWhole) (x : Vec Ideal S8x1024 .f32) (r : Fin 8) (k : Fin 1024) :
    m.view.readAt (Elt Ideal) (Rect.unit (s := S8x1024) ![r.val, 0] S1x1024.size (inb_row r)).toLoadRect (hm.unread x) (ix2 0 k) = x (ix2 r k) := by
  refine (congrFun (hm.read_unread (Val := Elt Ideal) x) _).trans (congrArg x (funext fun a => Fin.ext ?_))
  fin_cases a
  · show r.val + 1 * 0 = r.val
    omega
  · show 0 + 1 * k.val = k.val
    omega

theorem load_chunk (m : Memref sig .tc .vmem S512x1024 .f32) (hm : m.IsWhole) (x : Vec Ideal S512x1024 .f32) (r : Fin 512) (j : Fin 1024) :
    m.view.readAt (Elt Ideal) (Rect.unit (s := S512x1024) ![64 * (chunkOf r).val, 0] S64x1024.size (inb_rows (chunkOf r))).toLoadRect (hm.unread x)
      (ix2 (placeOf r) j) = x (ix2 r j) := by
  refine (congrFun (hm.read_unread (Val := Elt Ideal) x) _).trans (congrArg x (funext fun a => Fin.ext ?_))
  fin_cases a
  · show 64 * (r.val / 64) + 1 * (r.val % 64) = r.val
    omega
  · show 0 + 1 * j.val = j.val
    omega

theorem load_gain (m : Memref sig .tc .vmem S1x1024 .f32) (hm : m.IsWhole) (x : Vec Ideal S1x1024 .f32) (k : Fin 1024) :
    m.view.readAt (Elt Ideal) (Rect.unit (s := S1x1024) ![0, 0] S1x1024.size inb_S1x1024_S1x1024_0_0).toLoadRect (hm.unread x) (ix2 0 k)
      = x (ix2 0 k) := by
  refine (congrFun (hm.read_unread (Val := Elt Ideal) x) _).trans (congrArg x (funext fun a => Fin.ext ?_))
  fin_cases a
  · rfl
  · show 0 + 1 * k.val = k.val
    omega

theorem load_mixed (m : Memref sig .tc .vmem S512x512 .bf16) (hm : m.IsWhole) (x : Vec Ideal S512x512 .bf16) (r k : Fin 512) :
    m.view.readAt (Elt Ideal) (Rect.unit (s := S512x512) ![0, 0] S512x512.size inb_S512x512_S512x512_0_0).toLoadRect (hm.unread x) (ix2 r k)
      = x (ix2 r k) := by
  refine (congrFun (hm.read_unread (Val := Elt Ideal) x) _).trans (congrArg x (funext fun a => Fin.ext ?_))
  fin_cases a
  · show 0 + 1 * r.val = r.val
    omega
  · show 0 + 1 * k.val = k.val
    omega

theorem load_upper (m : Memref sig .tc .vmem S1024x1024 .bf16) (hm : m.IsWhole) (x : Vec Ideal S1024x1024 .bf16) (k : Fin 512) (d : Fin 1024) :
    m.view.readAt (Elt Ideal) (Rect.unit (s := S1024x1024) ![0, 0] S512x1024.size inb_S1024x1024_S512x1024_0_0).toLoadRect (hm.unread x) (ix2 k d)
      = x (ix2 (Fin.castAdd 512 k : Fin 1024) d) := by
  refine (congrFun (hm.read_unread (Val := Elt Ideal) x) _).trans (congrArg x (funext fun a => Fin.ext ?_))
  fin_cases a
  · show 0 + 1 * k.val = k.val
    omega
  · show 0 + 1 * d.val = d.val
    omega

theorem load_lower (m : Memref sig .tc .vmem S1024x1024 .bf16) (hm : m.IsWhole) (x : Vec Ideal S1024x1024 .bf16) (k : Fin 512) (d : Fin 1024) :
    m.view.readAt (Elt Ideal) (Rect.unit (s := S1024x1024) ![512, 0] S512x1024.size inb_S1024x1024_S512x1024_512_0).toLoadRect (hm.unread x) (ix2 k d)
      = x (ix2 (Fin.natAdd 512 k : Fin 1024) d) := by
  refine (congrFun (hm.read_unread (Val := Elt Ideal) x) _).trans (congrArg x (funext fun a => Fin.ext ?_))
  fin_cases a
  · show 512 + 1 * k.val = 512 + k.val
    omega
  · show 0 + 1 * d.val = d.val
    omega

/-! ## The stores -/

/-- Eight stored chunks read at a row are the row's chunk at the row's place. -/
theorem chunks_apply {e : EltTy} (v : View sig .tc .vmem S512x1024 e) (P : (r : Fin 8) → S64x1024.Idx → Elt Ideal e) (r : Fin 512) (d : Fin 1024) :
    v.read (Elt Ideal) (v.writes (Elt Ideal) v.junk (View.tilePieces (NT := 8) (s := S512x1024) (e := e) (Val := Elt Ideal) S64x1024.size
      (fun r => ![64 * r.val, 0]) inb_rows P 8 le_rfl)) (ix2 r d) = P (chunkOf r) (ix2 (placeOf r) d) :=
  View.read_tilePieces (s := S512x1024) (Val := Elt Ideal) v v.junk S64x1024.size (fun r : Fin 8 => ![64 * r.val, 0]) inb_rows
    P 8 le_rfl (ix2 r d) (chunkOf r) (chunkOf r).isLt (ix2 (placeOf r) d)
    (fun a => by
      fin_cases a
      · show r.val = 64 * (r.val / 64) + r.val % 64
        omega
      · show d.val = 0 + d.val
        omega) 0
    (fun r' hr => by
      have : r'.val ≠ r.val / 64 := fun h => hr (Fin.ext h)
      show r.val < 64 * r'.val ∨ 64 * r'.val + 64 ≤ r.val
      omega)

section
variable (c : Dev nD) (i : grid0.Coords) (arg1 : Memref sig .tc .vmem S512x512 .bf16) (harg1 : arg1.IsWhole)
  (arg2 : Memref sig .tc .vmem S512x512 .bf16) (harg2 : arg2.IsWhole) (arg3 : Memref sig .tc .vmem S512x1024 .f32) (harg3 : arg3.IsWhole)
  (arg4 : Memref sig .tc .vmem S8x1024 .f32) (harg4 : arg4.IsWhole) (arg5 : Memref sig .tc .vmem S8x1024 .f32) (harg5 : arg5.IsWhole)
  (arg6 : Memref sig .tc .vmem S8x1024 .f32) (harg6 : arg6.IsWhole) (arg7 : Memref sig .tc .vmem S1024x1024 .bf16) (harg7 : arg7.IsWhole)
  (arg8 : Memref sig .tc .vmem S1x1024 .f32) (harg8 : arg8.IsWhole) (arg9 : Memref sig .tc .vmem S1024x128 .bf16) (harg9 : arg9.IsWhole)
  (arg10 : Memref sig .tc .vmem S1024x128 .bf16) (harg10 : arg10.IsWhole) (arg11 : Memref sig .tc .vmem S1x128 .f32) (harg11 : arg11.IsWhole)
  (arg12 : Memref sig .tc .vmem S512x1024 .f32) (harg12 : arg12.IsWhole) (arg13 : Memref sig .tc .vmem S512x1024 .bf16) (harg13 : arg13.IsWhole)
  (arg14 : Memref sig .tc .vmem S512x128 .f32) (harg14 : arg14.IsWhole) (arg15 : Memref sig .tc .vmem S512x1024 .f32) (harg15 : arg15.IsWhole)
  (x0 x1 : Vec Ideal S512x512 .bf16) (x2 : Vec Ideal S512x1024 .f32) (x3 x4 x5 : Vec Ideal S8x1024 .f32) (x6 : Vec Ideal S1024x1024 .bf16)
  (x7 : Vec Ideal S1x1024 .f32) (x8 x9 : Vec Ideal S1024x128 .bf16) (x10 : Vec Ideal S1x128 .f32)

/-- The block's product, the loads as the body makes them. -/
def product : FVec Ideal S512x1024 .f32 :=
  k0_pay2 (arg1.view.readAt (Elt Ideal) (Rect.unit (s := S512x512) ![0, 0] S512x512.size inb_S512x512_S512x512_0_0).toLoadRect (harg1.unread x0))
    (arg7.view.readAt (Elt Ideal) (Rect.unit (s := S1024x1024) ![0, 0] S512x1024.size inb_S1024x1024_S512x1024_0_0).toLoadRect (harg7.unread x6))
    (arg2.view.readAt (Elt Ideal) (Rect.unit (s := S512x512) ![0, 0] S512x512.size inb_S512x512_S512x512_0_0).toLoadRect (harg2.unread x1))
    (arg7.view.readAt (Elt Ideal) (Rect.unit (s := S1024x1024) ![512, 0] S512x1024.size inb_S1024x1024_S512x1024_512_0).toLoadRect (harg7.unread x6))

/-- An entry of the block's product. -/
def merged (r : Fin 512) (d : Fin 1024) : EReal :=
  (∑ k : Fin 512, x0 (ix2 r k) * x6 (ix2 (Fin.castAdd 512 k : Fin 1024) d)) + ∑ k : Fin 512, x1 (ix2 r k) * x6 (ix2 (Fin.natAdd 512 k : Fin 1024) d)

theorem product_apply (r : Fin 512) (d : Fin 1024) :
    product arg1 harg1 arg2 harg2 arg7 harg7 x0 x1 x6 (ix2 r d) = merged x0 x1 x6 r d := by
  unfold product merged
  rw [pay2_apply]
  refine congrArg₂ (· + ·) (Finset.sum_congr rfl fun k _ => ?_) (Finset.sum_congr rfl fun k _ => ?_)
  · rw [load_mixed, load_upper]
  · rw [load_mixed, load_lower]

/-- What chunk `r` stores of the residual rows. -/
def chunk (r : Fin 8) : FVec Ideal S64x1024 .f32 :=
  residual (product arg1 harg1 arg2 harg2 arg7 harg7 x0 x1 x6) r
    (arg3.view.readAt (Elt Ideal) (Rect.unit (s := S512x1024) ![64 * r.val, 0] S64x1024.size (inb_rows r)).toLoadRect (harg3.unread x2))
    (arg4.view.readAt (Elt Ideal) (Rect.unit (s := S8x1024) ![r.val, 0] S1x1024.size (inb_row r)).toLoadRect (harg4.unread x3))

/-- A residual row. -/
def added (r : Fin 512) (d : Fin 1024) : EReal := x2 (ix2 r d) + x3 (ix2 (chunkOf r) d) * merged x0 x1 x6 r d

theorem chunk_apply (r : Fin 512) (d : Fin 1024) :
    chunk arg1 harg1 arg2 harg2 arg3 harg3 arg4 harg4 arg7 harg7 x0 x1 x2 x3 x6 (chunkOf r) (ix2 (placeOf r) d) = added x0 x1 x2 x3 x6 r d := by
  unfold chunk added
  rw [residual_apply _ _ _ _ _ _ r (by show r.val = 64 * (r.val / 64) + r.val % 64; omega), load_chunk, load_row, product_apply]

/-- What chunk `r` stores of the normalised rows. -/
def normed (r : Fin 8) : FVec Ideal S64x1024 .bf16 :=
  k0_pay28 (k0_pay3 (arg8.view.readAt (Elt Ideal) (Rect.unit (s := S1x1024) ![0, 0] S1x1024.size inb_S1x1024_S1x1024_0_0).toLoadRect (harg8.unread x7)))
    (chunk arg1 harg1 arg2 harg2 arg3 harg3 arg4 harg4 arg7 harg7 x0 x1 x2 x3 x6 r)
    (arg6.view.readAt (Elt Ideal) (Rect.unit (s := S8x1024) ![r.val, 0] S1x1024.size (inb_row r)).toLoadRect (harg6.unread x5))
    (arg5.view.readAt (Elt Ideal) (Rect.unit (s := S8x1024) ![r.val, 0] S1x1024.size (inb_row r)).toLoadRect (harg5.unread x4))

theorem normed_apply (r : Fin 512) (d : Fin 1024) :
    normed arg1 harg1 arg2 harg2 arg3 harg3 arg4 harg4 arg5 harg5 arg6 harg6 arg7 harg7 arg8 harg8 x0 x1 x2 x3 x4 x5 x6 x7 (chunkOf r) (ix2 (placeOf r) d)
      = entry (added x0 x1 x2 x3 x6 r) d (x7 (ix2 0 d)) (x5 (ix2 (chunkOf r) d)) (x4 (ix2 (chunkOf r) d)) := by
  unfold normed
  rw [pay28_apply, load_gain, load_row, load_row]
  exact congrArg (entry · _ _ _ _) (funext fun j => chunk_apply arg1 harg1 arg2 harg2 arg3 harg3 arg4 harg4 arg7 harg7 x0 x1 x2 x3 x6 r j)

/-- The tile of residual rows. -/
theorem out11 (r : Fin 512) (d : Fin 1024) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 (ix2 r d)
      = added x0 x1 x2 x3 x6 r d :=
  (chunks_apply VO0_11 (chunk arg1 harg1 arg2 harg2 arg3 harg3 arg4 harg4 arg7 harg7 x0 x1 x2 x3 x6) r d).trans
    (chunk_apply arg1 harg1 arg2 harg2 arg3 harg3 arg4 harg4 arg7 harg7 x0 x1 x2 x3 x6 r d)

/-- The tile of normalised rows. -/
theorem out12 (r : Fin 512) (d : Fin 1024) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 (ix2 r d)
      = entry (added x0 x1 x2 x3 x6 r) d (x7 (ix2 0 d)) (x5 (ix2 (chunkOf r) d)) (x4 (ix2 (chunkOf r) d)) :=
  (chunks_apply VO0_12 (normed arg1 harg1 arg2 harg2 arg3 harg3 arg4 harg4 arg5 harg5 arg6 harg6 arg7 harg7 arg8 harg8 x0 x1 x2 x3 x4 x5 x6 x7) r d).trans
    (normed_apply arg1 harg1 arg2 harg2 arg3 harg3 arg4 harg4 arg5 harg5 arg6 harg6 arg7 harg7 arg8 harg8 x0 x1 x2 x3 x4 x5 x6 x7 r d)

end

end Cert.Proof.MixedBlock

end
-- ==== Proof.MixedRef.lean ====
/- The output projection's reference read at an entry: the product of both mixers' rows with the weights, the residual row, and the normalised
   and modulated row. -/
module

public import proofs.«01_k».proof.Proof.Gen.MixedRefIdeal.Read
public import proofs.«01_k».proof.Proof.MixedStep
public import Idealize.ShloMosaic.Lib.Pipeline.Value

@[expose] public section

set_option maxRecDepth 16384

noncomputable section

namespace Cert.Proof.MixedRef

open Idealize.ShloMosaic
open Cert.MixedRefIdeal Cert.MixedRefIdeal.Read
open Cert.Proof.MixedStep (entry)

abbrev Mixer := (⟨S16896x512, .bf16⟩ : BufTy).Contents (Elt Ideal)
abbrev Rows := (⟨S16896x1024, .f32⟩ : BufTy).Contents (Elt Ideal)
abbrev Modulation := (⟨S264x1024, .f32⟩ : BufTy).Contents (Elt Ideal)
abbrev Weights := (⟨S1024x1024, .f32⟩ : BufTy).Contents (Elt Ideal)
abbrev Gain := (⟨S1024, .f32⟩ : BufTy).Contents (Elt Ideal)

variable (x0 x1 : Mixer) (x2 : Rows) (x3 x4 x5 : Modulation) (x6 : Weights) (x7 : Gain)

/-- The constant one. -/
theorem one : Ideal.ofBits .f32 0x3F800000#32 = 1 := Ideal.ofBits_one_f32

/-- The chunk a row belongs to, and a chunk's row. -/
def chunk (R : Fin 16896) : Fin 264 := ⟨R.val / 64, by omega⟩
def row (g : Fin 264) (r : Fin 64) : Fin 16896 := ⟨g.val * 64 + r.val, by omega⟩

/-- Both mixers' rows times the weights: each mixer with its half. -/
def merged (R : Fin 16896) (d : Fin 1024) : EReal :=
  (∑ k : Fin 512, x0 (ix2 R k) * x6 (ix2 (Fin.castAdd 512 k : Fin 1024) d)) + ∑ k : Fin 512, x1 (ix2 R k) * x6 (ix2 (Fin.natAdd 512 k : Fin 1024) d)

/-- A residual row. -/
def added (R : Fin 16896) (d : Fin 1024) : EReal := x2 (ix2 R d) + x3 (ix2 (chunk R) d) * merged x0 x1 x6 R d

theorem v1_left (R : Fin 16896) (k : Fin 512) : val_main_v1 (F := Ideal) x0 x1 (ix2 R (Fin.castAdd 512 k : Fin 1024)) = x0 (ix2 R k) := by
  rw [val_main_v1_apply]
  show val_main_v0 (F := Ideal) x0 x1 (ix2 R (Fin.castAdd 512 k : Fin 1024)) = _
  unfold val_main_v0
  refine concatenate_pair_apply_left (t := S16896x1024) 1 x0 x1 _ _ rfl (ix2 R k) fun b => ?_
  match b with
  | ⟨0, _⟩ => rfl
  | ⟨1, _⟩ => rfl

theorem v1_right (R : Fin 16896) (k : Fin 512) : val_main_v1 (F := Ideal) x0 x1 (ix2 R (Fin.natAdd 512 k : Fin 1024)) = x1 (ix2 R k) := by
  rw [val_main_v1_apply]
  show val_main_v0 (F := Ideal) x0 x1 (ix2 R (Fin.natAdd 512 k : Fin 1024)) = _
  unfold val_main_v0
  refine concatenate_pair_apply_right (t := S16896x1024) 1 x0 x1 _ _ rfl rfl (ix2 R k) (fun b hb => ?_) ?_
  · match b with
    | ⟨0, _⟩ => rfl
    | ⟨1, _⟩ => exact absurd rfl hb
  · show k.val + 512 = 512 + k.val
    omega

/-- The sum over all columns is the sum over the first mixer's and the sum over the second's. -/
theorem v2_apply (R : Fin 16896) (d : Fin 1024) : val_main_v2 (F := Ideal) x0 x1 x6 (ix2 R d) = merged x0 x1 x6 R d := by
  rw [val_main_v2_apply]
  have el (k : Fin 1024) : lidx_main_v2 (ix2 R d) k = ix2 R k := funext fun a => Fin.ext (by
    match a with
    | ⟨0, _⟩ => rfl
    | ⟨1, _⟩ => rfl)
  have er (k : Fin 1024) : ridx_main_v2 (ix2 R d) k = ix2 k d := funext fun a => Fin.ext (by
    match a with
    | ⟨0, _⟩ => rfl
    | ⟨1, _⟩ => rfl)
  simp only [el, er]
  refine (Fin.sum_univ_add (a := 512) (b := 512) fun k : Fin (512 + 512) => val_main_v1 (F := Ideal) x0 x1 (ix2 R (k : Fin 1024)) * x6 (ix2 (k : Fin 1024) d)).trans ?_
  unfold merged
  refine congrArg₂ (· + ·) (Finset.sum_congr rfl fun k _ => ?_) (Finset.sum_congr rfl fun k _ => ?_)
  · exact congrArg (· * _) (v1_left x0 x1 R k)
  · exact congrArg (· * _) (v1_right x0 x1 R k)

theorem v3_apply (i : S264x64x1024.Idx) : val_main_v3 (F := Ideal) x2 i = x2 (ix2 (row (i 0) (i 1)) (i 2)) := by
  rw [val_main_v3_apply]
  refine congrArg x2 (funext fun a => Fin.ext ?_)
  have h2 : (i 2).val < 1024 := (i 2).isLt
  match a with
  | ⟨0, _⟩ => show (((i 0).val * 64 + (i 1).val) * 1024 + (i 2).val) / 1024 = (i 0).val * 64 + (i 1).val; omega
  | ⟨1, _⟩ => show (((i 0).val * 64 + (i 1).val) * 1024 + (i 2).val) % 1024 = (i 2).val; omega

theorem v5_apply (i : S264x64x1024.Idx) : val_main_v5 (F := Ideal) x0 x1 x6 i = merged x0 x1 x6 (row (i 0) (i 1)) (i 2) := by
  rw [val_main_v5_apply]
  refine Eq.trans (congrArg (val_main_v2 (F := Ideal) x0 x1 x6) (funext fun a => Fin.ext ?_)) (v2_apply x0 x1 x6 (row (i 0) (i 1)) (i 2))
  have h2 : (i 2).val < 1024 := (i 2).isLt
  match a with
  | ⟨0, _⟩ => show (((i 0).val * 64 + (i 1).val) * 1024 + (i 2).val) / 1024 = (i 0).val * 64 + (i 1).val; omega
  | ⟨1, _⟩ => show (((i 0).val * 64 + (i 1).val) * 1024 + (i 2).val) % 1024 = (i 2).val; omega

theorem v6_apply (i : S264x64x1024.Idx) : val_main_v6 (F := Ideal) x3 i = x3 (ix2 (i 0) (i 2)) := by
  rw [val_main_v6_apply, val_main_v4_apply]
  exact congrArg x3 (funext fun a => Fin.ext (by match a with | ⟨0, _⟩ => rfl | ⟨1, _⟩ => rfl))

theorem chunk_row (g : Fin 264) (r : Fin 64) : chunk (row g r) = g := Fin.ext (by show (g.val * 64 + r.val) / 64 = g.val; omega)

/-- The residual rows by chunk. -/
theorem v8_apply (i : S264x64x1024.Idx) : val_main_v8 (F := Ideal) x0 x1 x2 x3 x6 i = added x0 x1 x2 x3 x6 (row (i 0) (i 1)) (i 2) := by
  rw [val_main_v8_apply, val_main_v7_apply, v3_apply, v5_apply, v6_apply]
  exact congrArg (fun g => x2 (ix2 (row (i 0) (i 1)) (i 2)) + x3 (ix2 g (i 2)) * merged x0 x1 x6 (row (i 0) (i 1)) (i 2)) (chunk_row (i 0) (i 1)).symm

/-- The reciprocal root of a row's mean square. -/
theorem v16_apply (i : S264x64x1.Idx) :
    val_main_v16 (F := Ideal) x0 x1 x2 x3 x6 i = Ideal.rsqrt (Ideal.div (∑ j : Fin 1024, added x0 x1 x2 x3 x6 (row (i 0) (i 1)) j * added x0 x1 x2 x3 x6 (row (i 0) (i 1)) j)
      (Ideal.ofBits .f32 0x44800000#32) + Ideal.ofBits .f32 0x358637BD#32) := by
  rw [val_main_v16_apply, val_main_v15_apply, val_main_v13_apply, val_main_v11_apply, val_main_v10_apply, val_main_v12_apply, val_main_cst_0_apply,
    val_main_v14_apply, val_main_cst_1_apply, val_main_cst_apply]
  simp only [val_main_v9_apply, v8_apply]
  show Ideal.rsqrt (Ideal.div (Ideal.ofBits .f32 0x00000000#32 + _) (Ideal.ofBits .f32 0x44800000#32) + Ideal.ofBits .f32 0x358637BD#32) = _
  rw [Ideal.ofBits_zero_f32, zero_add]
  rfl

theorem v20_apply (i : S264x64x1024.Idx) : val_main_v20 (F := Ideal) x7 i = x7 (ix1 (i 2)) := by
  rw [val_main_v20_apply, val_main_v19_apply]
  exact congrArg x7 (funext fun a => Fin.ext (by match a with | ⟨0, _⟩ => rfl))

theorem v25_apply (i : S264x64x1024.Idx) : val_main_v25 (F := Ideal) x5 i = 1 + x5 (ix2 (i 0) (i 2)) := by
  rw [val_main_v25_apply, val_main_v24_apply, val_main_v23_apply, val_main_cst_2_apply, val_main_v22_apply]
  show Ideal.ofBits .f32 0x3F800000#32 + _ = _
  rw [one]
  exact congrArg (1 + x5 ·) (funext fun a => Fin.ext (by match a with | ⟨0, _⟩ => rfl | ⟨1, _⟩ => rfl))

theorem v28_apply (i : S264x64x1024.Idx) : val_main_v28 (F := Ideal) x4 i = x4 (ix2 (i 0) (i 2)) := by
  rw [val_main_v28_apply, val_main_v27_apply]
  exact congrArg x4 (funext fun a => Fin.ext (by match a with | ⟨0, _⟩ => rfl | ⟨1, _⟩ => rfl))

/-- The normalised rows by chunk. -/
theorem v29_apply (i : S264x64x1024.Idx) : val_main_v29 (F := Ideal) x0 x1 x2 x3 x4 x5 x6 x7 i
    = entry (added x0 x1 x2 x3 x6 (row (i 0) (i 1))) (i 2) (x7 (ix1 (i 2))) (x5 (ix2 (i 0) (i 2))) (x4 (ix2 (i 0) (i 2))) := by
  rw [val_main_v29_apply, val_main_v26_apply, val_main_v21_apply, val_main_v18_apply, v8_apply, val_main_v17_apply, v16_apply, v20_apply,
    v25_apply, v28_apply]
  rfl

section
variable (R : Fin 16896) (d : Fin 1024)

theorem row_chunk : row (chunk R) (⟨R.val % 64, by omega⟩ : Fin 64) = R := Fin.ext (by show R.val / 64 * 64 + R.val % 64 = R.val; omega)

/-- The first result: the residual rows. -/
theorem v30_apply : val_main_v30 (F := Ideal) x0 x1 x2 x3 x6 (ix2 R d) = added x0 x1 x2 x3 x6 R d := by
  rw [val_main_v30_apply]
  have e : idx_main_v30 (ix2 R d) = ix3 (chunk R) (⟨R.val % 64, by omega⟩ : Fin 64) d := funext fun a => Fin.ext (by
    match a with
    | ⟨0, _⟩ => show (R.val * 1024 + d.val) / 65536 = R.val / 64; omega
    | ⟨1, _⟩ => show (R.val * 1024 + d.val) / 1024 % 64 = R.val % 64; omega
    | ⟨2, _⟩ => show (R.val * 1024 + d.val) % 1024 = d.val; omega)
  rw [e]
  exact (v8_apply x0 x1 x2 x3 x6 _).trans (congrArg (fun S => added x0 x1 x2 x3 x6 S d) (row_chunk R))

/-- The second result: the normalised rows. -/
theorem v32_apply : val_main_v32 (F := Ideal) x0 x1 x2 x3 x4 x5 x6 x7 (ix2 R d)
    = entry (added x0 x1 x2 x3 x6 R) d (x7 (ix1 d)) (x5 (ix2 (chunk R) d)) (x4 (ix2 (chunk R) d)) := by
  rw [val_main_v32_apply]
  show val_main_v31 (F := Ideal) x0 x1 x2 x3 x4 x5 x6 x7 (ix2 R d) = _
  rw [val_main_v31_apply]
  have e : idx_main_v31 (ix2 R d) = ix3 (chunk R) (⟨R.val % 64, by omega⟩ : Fin 64) d := funext fun a => Fin.ext (by
    match a with
    | ⟨0, _⟩ => show (R.val * 1024 + d.val) / 65536 = R.val / 64; omega
    | ⟨1, _⟩ => show (R.val * 1024 + d.val) / 1024 % 64 = R.val % 64; omega
    | ⟨2, _⟩ => show (R.val * 1024 + d.val) % 1024 = d.val; omega)
  rw [e]
  refine (v29_apply x0 x1 x2 x3 x4 x5 x6 x7 _).trans ?_
  exact congrArg (fun S => entry (added x0 x1 x2 x3 x6 S) d (x7 (ix1 d)) (x5 (ix2 (chunk R) d)) (x4 (ix2 (chunk R) d))) (row_chunk R)

end

end Cert.Proof.MixedRef

end
-- ==== Proof.MixedEquation.lean ====
/- The output projection's results are the reference's, entry by entry: each grid point's blocks are the tiles of the reference's results at
   its rows, and the tiles cover them. -/
module

public import proofs.«01_k».proof.Proof.MixedWindows
public import proofs.«01_k».proof.Proof.MixedBlock
public import proofs.«01_k».proof.Proof.MixedRef

@[expose] public section

set_option maxRecDepth 16384

noncomputable section

namespace Cert.Proof.MixedEquation

open Cert.MixedIdeal Cert.MixedIdeal.Gen Cert.MixedIdeal.Value Idealize.ShloMosaic Idealize.ShloMosaic.TcCoe Idealize.SL.Sem
open Cert.Proof.MixedWindows

section
variable (t : Fin cfg0.N) (x0 x1 : Vec Ideal S512x512 .bf16) (x2 : Vec Ideal S512x1024 .f32) (x3 : Vec Ideal S8x1024 .f32)
  (x6 : Vec Ideal S1024x1024 .bf16) (a0 a1 : MixedRef.Mixer) (a2 : MixedRef.Rows) (a3 : MixedRef.Modulation) (a6 : MixedRef.Weights)
  (e0 : ∀ r k, x0 (ix2 r k) = a0 (ix2 (rowAt t r) k)) (e1 : ∀ r k, x1 (ix2 r k) = a1 (ix2 (rowAt t r) k))
  (e2 : ∀ r k, x2 (ix2 r k) = a2 (ix2 (rowAt t r) k)) (e3 : ∀ g k, x3 (ix2 g k) = a3 (ix2 (chunkAt t g) k))
  (e6 : ∀ k n, x6 (ix2 k n) = a6 (ix2 k n))

theorem chunk_eq (r : Fin 512) : chunkAt t (MixedBlock.chunkOf r) = MixedRef.chunk (rowAt t r) := Fin.ext (by
  show t.val * 8 + r.val / 64 = (t.val * 512 + r.val) / 64
  omega)

include e0 e1 e2 e3 e6 in
/-- The kernel's residual rows are the reference's. -/
theorem added_eq (r : Fin 512) (d : Fin 1024) :
    MixedBlock.added x0 x1 x2 x3 x6 r d = MixedRef.added a0 a1 a2 a3 a6 (rowAt t r) d := by
  unfold MixedBlock.added MixedRef.added MixedBlock.merged MixedRef.merged
  rw [e2, e3, chunk_eq]
  refine congrArg (fun y => _ + _ * y) (congrArg₂ (· + ·) (Finset.sum_congr rfl fun k _ => ?_) (Finset.sum_congr rfl fun k _ => ?_))
  · rw [e0, e6]
  · rw [e1, e6]
end

variable (m : (ℓ : Loc nD τ sig) → Buf (Elt Ideal) ℓ) (c : Dev nD)

/-- The arguments. -/
abbrev a0 : MixedRef.Mixer := m ((c : Thread nD τ).loc main_arg0)
abbrev a1 : MixedRef.Mixer := m ((c : Thread nD τ).loc main_arg1)
abbrev a2 : MixedRef.Rows := m ((c : Thread nD τ).loc main_arg2)
abbrev a3 : MixedRef.Modulation := m ((c : Thread nD τ).loc main_arg3)
abbrev a4 : MixedRef.Modulation := m ((c : Thread nD τ).loc main_arg4)
abbrev a5 : MixedRef.Modulation := m ((c : Thread nD τ).loc main_arg5)
abbrev a6 : MixedRef.Weights := m ((c : Thread nD τ).loc main_arg6)
abbrev a7 : MixedRef.Gain := m ((c : Thread nD τ).loc main_arg7)

/-- A point's residual rows. -/
theorem added_at (t : Fin cfg0.N) (r : Fin 512) (d : Fin 1024) :
    MixedBlock.added (iblk m c 0 t) (iblk m c 1 t) (iblk m c 2 t) (iblk m c 3 t) (iblk m c 6 t) r d
      = MixedRef.added (a0 m c) (a1 m c) (a2 m c) (a3 m c) (a6 m c) (rowAt t r) d :=
  added_eq t _ _ _ _ _ _ _ _ _ _ (block0 m c t) (block1 m c t) (block2 m c t) (block3 m c t) (block6 m c t) r d

/-- A point's normalised rows. -/
theorem normed_at (t : Fin cfg0.N) (r : Fin 512) (d : Fin 1024) :
    MixedStep.entry (MixedBlock.added (iblk m c 0 t) (iblk m c 1 t) (iblk m c 2 t) (iblk m c 3 t) (iblk m c 6 t) r) d
        ((iblk m c 7 t : Vec Ideal S1x1024 .f32) (ix2 0 d)) ((iblk m c 5 t : Vec Ideal S8x1024 .f32) (ix2 (MixedBlock.chunkOf r) d))
        ((iblk m c 4 t : Vec Ideal S8x1024 .f32) (ix2 (MixedBlock.chunkOf r) d))
      = MixedStep.entry (MixedRef.added (a0 m c) (a1 m c) (a2 m c) (a3 m c) (a6 m c) (rowAt t r)) d (a7 m c (ix1 d))
          (a5 m c (ix2 (MixedRef.chunk (rowAt t r)) d)) (a4 m c (ix2 (MixedRef.chunk (rowAt t r)) d)) := by
  rw [block7, block5, block4, chunk_eq]
  exact congrArg (fun x => MixedStep.entry x d _ _ _) (funext (added_at m c t r))

theorem rows11 (t : Fin cfg0.N) : AtRows t (((cfg0.win 11).blk t).view.emb : S512x1024.Idx → S16896x1024.Idx) := by
  obtain ⟨e0, e1⟩ := (by decide +kernel : ∀ t : Fin grid0.N, win0_11.index t (0 : Fin 2) = t.val ∧ win0_11.index t (1 : Fin 2) = 0) t
  intro j; funext a; apply Fin.ext
  match a with
  | ⟨0, _⟩ => show win0_11.index t (0 : Fin 2) * 512 + 1 * (j 0).val = t.val * 512 + (j 0).val; omega
  | ⟨1, _⟩ => show win0_11.index t (1 : Fin 2) * 1024 + 1 * (j 1).val = (j 1).val; omega

theorem final11 : (dats m 0 c).arrAt 11 cfg0.N
    = Cert.MixedRefIdeal.Read.val_main_v30 (F := Ideal) (a0 m c) (a1 m c) (a2 m c) (a3 m c) (a6 m c) :=
  (dats m 0 c).arrAt_eq_of_cover 11 _
    (fun t _ => (flushed11_A m c t).trans (funext (tile_eq t _ (rows11 t) _ _ fun r d => (MixedBlock.out11 ..).trans
      ((added_at m c t r d).trans (MixedRef.v30_apply _ _ _ _ _ _ d).symm))))
    fun i => let ⟨t, h⟩ := covered (fun t => ((cfg0.win 11).blk t).view.set) _ rows11 (fun t => ((cfg0.win 11).blk t).view.emb_mem_set) i
      ⟨t, flush0_11 t, h⟩

theorem rows12 (t : Fin cfg0.N) : AtRows t (((cfg0.win 12).blk t).view.emb : S512x1024.Idx → S16896x1024.Idx) := by
  obtain ⟨e0, e1⟩ := (by decide +kernel : ∀ t : Fin grid0.N, win0_12.index t (0 : Fin 2) = t.val ∧ win0_12.index t (1 : Fin 2) = 0) t
  intro j; funext a; apply Fin.ext
  match a with
  | ⟨0, _⟩ => show win0_12.index t (0 : Fin 2) * 512 + 1 * (j 0).val = t.val * 512 + (j 0).val; omega
  | ⟨1, _⟩ => show win0_12.index t (1 : Fin 2) * 1024 + 1 * (j 1).val = (j 1).val; omega

theorem final12 : (dats m 0 c).arrAt 12 cfg0.N
    = Cert.MixedRefIdeal.Read.val_main_v32 (F := Ideal) (a0 m c) (a1 m c) (a2 m c) (a3 m c) (a4 m c) (a5 m c) (a6 m c) (a7 m c) :=
  (dats m 0 c).arrAt_eq_of_cover 12 _
    (fun t _ => (flushed12_A m c t).trans (funext (tile_eq t _ (rows12 t) _ _ fun r d => (MixedBlock.out12 ..).trans
      ((normed_at m c t r d).trans (MixedRef.v32_apply _ _ _ _ _ _ _ _ _ d).symm))))
    fun i => let ⟨t, h⟩ := covered (fun t => ((cfg0.win 12).blk t).view.set) _ rows12 (fun t => ((cfg0.win 12).blk t).view.emb_mem_set) i
      ⟨t, flush0_12 t, h⟩

end Cert.Proof.MixedEquation

end
-- ==== Proof.MixedAlgebraic.lean ====
/- The two runs of the output projection brought together: the idealized kernel and the idealized reference end with the same two results. -/
module

public import proofs.«01_k».proof.Defs
public import proofs.«01_k».proof.Proof.MixedEquation
public import proofs.«01_k».proof.Proof.Gen.MixedRefIdeal.Run

@[expose] public section

set_option maxRecDepth 16384

noncomputable section

namespace Cert.Proof.MixedAlgebraic

open Cert.MixedIdeal Cert.MixedIdeal.Gen Cert.MixedIdeal.Value Idealize.ShloMosaic Idealize.ShloMosaic.TcCoe Idealize.SL.Sem
open Cert.Proof.MixedEquation

/-- The reference's frame: its run with the results forgotten; it declares no semaphore. -/
theorem reference_frame : Cert.quiescent_MixedRefIdeal := fun m ρ _ =>
  (θ_run (Cert.MixedRefIdeal.defs (F := Ideal)) _ _).mono
    (fun r h => ⟨fun c => (h c).2.2, sem_eq_zero_of_no_sems (by decide) r.2⟩) (Cert.MixedRefIdeal.Value.run (F := Ideal) m ρ)

/-- The kernel's results and the reference's are equal, entry by entry. -/
theorem equal : Cert.algebraic_MixedIdeal_MixedRefIdeal := by
  intro m g m' g' hpre hagree
  refine ⟨fun c => Cert.MixedRefIdeal.Read.val_main_v30 (F := Ideal) (a0 m c) (a1 m c) (a2 m c) (a3 m c) (a6 m c),
    fun c => Cert.MixedRefIdeal.Read.val_main_v32 (F := Ideal) (a0 m c) (a1 m c) (a2 m c) (a3 m c) (a4 m c) (a5 m c) (a6 m c) (a7 m c), ?_, ?_⟩
  · refine (θ_run defs _ _).mono (fun r h c => ?_) (run_blocks m g)
    obtain ⟨h0, h1, _, k⟩ := h c
    exact ⟨h0.trans (final11 m c), h1.trans (final12 m c), k⟩
  · refine (θ_run (Cert.MixedRefIdeal.defs (F := Ideal)) _ _).mono (fun r h c => ?_)
      (Cert.MixedRefIdeal.Value.run (F := Ideal) m' g')
    obtain ⟨h0, h1, k⟩ := h c
    obtain ⟨e0, e1, e2, e3, e4, e5, e6, e7, _⟩ := hagree c
    refine ⟨h0.trans ?_, h1.trans ?_, k⟩
    · refine (Cert.MixedRefIdeal.Read.val_main_v30_eq (F := Ideal) _ _ _ _ _).trans ?_
      rw [e0, e1, e2, e3, e6]
    · refine (Cert.MixedRefIdeal.Read.val_main_v32_eq (F := Ideal) _ _ _ _ _ _ _ _).trans ?_
      rw [e0, e1, e2, e3, e4, e5, e6, e7]

end Cert.Proof.MixedAlgebraic

end
-- ==== Proof.lean ====
module

public import proofs.«01_k».proof.Defs
public import proofs.«01_k».proof.Proof.Gen.Kernel.Frame
public import proofs.«01_k».proof.Proof.Gen.KernelIdeal.Frame
public import proofs.«01_k».proof.Proof.Algebraic
public import proofs.«01_k».proof.Proof.Gen.Project.Frame
public import proofs.«01_k».proof.Proof.Gen.ProjectIdeal.Frame
public import proofs.«01_k».proof.Proof.ProjectAlgebraic
public import proofs.«01_k».proof.Proof.Gen.Experts.Frame
public import proofs.«01_k».proof.Proof.Gen.ExpertsIdeal.Frame
public import proofs.«01_k».proof.Proof.ExpertsAlgebraic
public import proofs.«01_k».proof.Proof.Gen.Mixed.Frame
public import proofs.«01_k».proof.Proof.Gen.MixedIdeal.Frame
public import proofs.«01_k».proof.Proof.MixedAlgebraic

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Project.Gen.facts, Cert.ProjectIdeal.Gen.facts,
    Cert.ProjectRefIdeal.Gen.facts, Cert.Experts.Gen.facts, Cert.ExpertsIdeal.Gen.facts, Cert.ExpertsRefIdeal.Gen.facts,
    Cert.Mixed.Gen.facts, Cert.MixedIdeal.Gen.facts, Cert.MixedRefIdeal.Gen.facts, Finite.facts,
    fun m ρ _ => Cert.Kernel.Gen.frame m ρ,
    fun m ρ _ => Cert.KernelIdeal.Gen.frame m ρ,
    fun m ρ _ => Cert.KernelIdeal.Gen.frame m ρ,
    fun m ρ _ => Algebraic.reference_frame m ρ,
    fun m ρ _ => Algebraic.reference_frame m ρ,
    fun m ρ _ => Cert.Project.Gen.frame m ρ,
    fun m ρ _ => Cert.ProjectIdeal.Gen.frame m ρ,
    ProjectAlgebraic.reference_frame,
    fun m ρ _ => Cert.Experts.Gen.frame m ρ,
    fun m ρ _ => Cert.ExpertsIdeal.Gen.frame m ρ,
    ExpertsAlgebraic.reference_frame,
    fun m ρ _ => Cert.Mixed.Gen.frame m ρ,
    fun m ρ _ => Cert.MixedIdeal.Gen.frame m ρ,
    MixedAlgebraic.reference_frame,
    IdealRules.named_const.statement Cert.KernelIdeal.κ "mask" .f32 0xF149F2CA#32 ⊥ rfl,
    @Algebraic.equal Finite.facts,
    IdealRules.named_const.statement Cert.ProjectIdeal.κ "q_scale" .f32 0x3E38AA3B#32 (((8 * (Real.log 2))⁻¹ : ℝ) : EReal) rfl,
    ProjectAlgebraic.equal,
    trivial,
    ExpertsAlgebraic.equal,
    trivial,
    MixedAlgebraic.equal⟩

end Cert.Proof

end
